-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S1x2048x2048 : Shape := ⟨3, ![1, 2048, 2048]⟩
abbrev S1x2048x1536 : Shape := ⟨3, ![1, 2048, 1536]⟩
abbrev S1x2048 : Shape := ⟨2, ![1, 2048]⟩
abbrev S1536x16x128 : Shape := ⟨3, ![1536, 16, 128]⟩
abbrev S2048x128 : Shape := ⟨2, ![2048, 128]⟩
abbrev S2048x16 : Shape := ⟨2, ![2048, 16]⟩
abbrev S128 : Shape := ⟨1, ![128]⟩
abbrev S1x2048x16x128 : Shape := ⟨4, ![1, 2048, 16, 128]⟩
abbrev S1x2048x16x64 : Shape := ⟨4, ![1, 2048, 16, 64]⟩
abbrev S32 : Shape := ⟨1, ![32]⟩
abbrev S_ : Shape := ⟨0, ![]⟩
abbrev S1x2048x1 : Shape := ⟨3, ![1, 2048, 1]⟩
abbrev S1x1x32 : Shape := ⟨3, ![1, 1, 32]⟩
abbrev S1x2048x32 : Shape := ⟨3, ![1, 2048, 32]⟩
abbrev S1x2048x1x32 : Shape := ⟨4, ![1, 2048, 1, 32]⟩
abbrev S1x2048x16x32 : Shape := ⟨4, ![1, 2048, 16, 32]⟩
abbrev S1x2048x128 : Shape := ⟨3, ![1, 2048, 128]⟩
abbrev S1x1x128 : Shape := ⟨3, ![1, 1, 128]⟩
abbrev S1x2048x1x128 : Shape := ⟨4, ![1, 2048, 1, 128]⟩
abbrev S1x2048x1x64 : Shape := ⟨4, ![1, 2048, 1, 64]⟩
abbrev S1x2048x2048x16 : Shape := ⟨4, ![1, 2048, 2048, 16]⟩
abbrev S1x2048x16 : Shape := ⟨3, ![1, 2048, 16]⟩
abbrev S2048x2048 : Shape := ⟨2, ![2048, 2048]⟩
abbrev S2048x2048x1 : Shape := ⟨3, ![2048, 2048, 1]⟩
abbrev S2048x1x2048 : Shape := ⟨3, ![2048, 1, 2048]⟩
abbrev S2048x2048x2048 : Shape := ⟨3, ![2048, 2048, 2048]⟩
abbrev S2048 : Shape := ⟨1, ![2048]⟩
abbrev S2048x1 : Shape := ⟨2, ![2048, 1]⟩

class Facts : Prop where
  slices_S1x2048x16x128_S1x2048x16x64_0_0_0_0 : S1x2048x16x128.Slices ![0, 0, 0, 0] S1x2048x16x64
  slices_S1x2048x16x128_S1x2048x16x64_0_0_0_64 : S1x2048x16x128.Slices ![0, 0, 0, 64] S1x2048x16x64
  bcast_S_S32 : S_.BroadcastsInDim S32 (![] : Fin 0 → Fin S32.rank)
  bcast_S1x2048_S1x2048x1_0_1 : S1x2048.BroadcastsInDim S1x2048x1 (![0, 1] : Fin 2 → Fin S1x2048x1.rank)
  bcast_S32_S1x1x32_2 : S32.BroadcastsInDim S1x1x32 (![2] : Fin 1 → Fin S1x1x32.rank)
  bcast_S1x2048x1_S1x2048x32_0_1_2 : S1x2048x1.BroadcastsInDim S1x2048x32 (![0, 1, 2] : Fin 3 → Fin S1x2048x32.rank)
  bcast_S1x1x32_S1x2048x32_0_1_2 : S1x1x32.BroadcastsInDim S1x2048x32 (![0, 1, 2] : Fin 3 → Fin S1x2048x32.rank)
  bcast_S1x2048x32_S1x2048x1x32_0_1_3 : S1x2048x32.BroadcastsInDim S1x2048x1x32 (![0, 1, 3] : Fin 3 → Fin S1x2048x1x32.rank)
  slices_S1x2048x16x64_S1x2048x16x32_0_0_0_0 : S1x2048x16x64.Slices ![0, 0, 0, 0] S1x2048x16x32
  slices_S1x2048x16x64_S1x2048x16x32_0_0_0_32 : S1x2048x16x64.Slices ![0, 0, 0, 32] S1x2048x16x32
  bcast_S1x2048x1x32_S1x2048x16x32_0_1_2_3 : S1x2048x1x32.BroadcastsInDim S1x2048x16x32 (![0, 1, 2, 3] : Fin 4 → Fin S1x2048x16x32.rank)
  concatenates_S1x2048x16x32_S1x2048x16x32_S1x2048x16x64_d3 : Shape.Concatenates [S1x2048x16x32, S1x2048x16x32] S1x2048x16x64 3
  concatenates_S1x2048x16x64_S1x2048x16x64_S1x2048x16x128_d3 : Shape.Concatenates [S1x2048x16x64, S1x2048x16x64] S1x2048x16x128 3
  reducesTo_S1x2048x128_S1x2048_d2 : S1x2048x128.ReducesTo [2] S1x2048
  h_S_ : 0 < S_.numel
  bcast_S_S1x2048x1 : S_.BroadcastsInDim S1x2048x1 (![] : Fin 0 → Fin S1x2048x1.rank)
  bcast_S1x2048x1_S1x2048x128_0_1_2 : S1x2048x1.BroadcastsInDim S1x2048x128 (![0, 1, 2] : Fin 3 → Fin S1x2048x128.rank)
  bcast_S128_S1x1x128_2 : S128.BroadcastsInDim S1x1x128 (![2] : Fin 1 → Fin S1x1x128.rank)
  bcast_S1x1x128_S1x2048x128_0_1_2 : S1x1x128.BroadcastsInDim S1x2048x128 (![0, 1, 2] : Fin 3 → Fin S1x2048x128.rank)
  bcast_S1x2048x128_S1x2048x1x128_0_1_3 : S1x2048x128.BroadcastsInDim S1x2048x1x128 (![0, 1, 3] : Fin 3 → Fin S1x2048x1x128.rank)
  slices_S1x2048x1x128_S1x2048x1x64_0_0_0_0 : S1x2048x1x128.Slices ![0, 0, 0, 0] S1x2048x1x64
  slices_S1x2048x1x128_S1x2048x1x64_0_0_0_64 : S1x2048x1x128.Slices ![0, 0, 0, 64] S1x2048x1x64
  slices_S1x2048x1x64_S1x2048x1x32_0_0_0_0 : S1x2048x1x64.Slices ![0, 0, 0, 0] S1x2048x1x32
  slices_S1x2048x1x64_S1x2048x1x32_0_0_0_32 : S1x2048x1x64.Slices ![0, 0, 0, 32] S1x2048x1x32
  concatenates_S1x2048x1x32_S1x2048x1x32_S1x2048x1x64_d3 : Shape.Concatenates [S1x2048x1x32, S1x2048x1x32] S1x2048x1x64 3
  concatenates_S1x2048x1x64_S1x2048x1x64_S1x2048x1x128_d3 : Shape.Concatenates [S1x2048x1x64, S1x2048x1x64] S1x2048x1x128 3
  shapeCasts_S1x2048x1x128_S1x2048x128 : S1x2048x1x128.ShapeCasts S1x2048x128
  transposes_S1x2048x2048x16_S1x2048x2048x16_0_2_1_3 : S1x2048x2048x16.Transposes [0, 2, 1, 3] S1x2048x2048x16
  bcast_S_S1x2048x2048x16 : S_.BroadcastsInDim S1x2048x2048x16 (![] : Fin 0 → Fin S1x2048x2048x16.rank)
  bcast_S_S1x2048x16 : S_.BroadcastsInDim S1x2048x16 (![] : Fin 0 → Fin S1x2048x16.rank)
  shapeCasts_S1x2048x2048_S2048x2048 : S1x2048x2048.ShapeCasts S2048x2048
  bcast_S2048x2048_S2048x2048x1_0_1 : S2048x2048.BroadcastsInDim S2048x2048x1 (![0, 1] : Fin 2 → Fin S2048x2048x1.rank)
  bcast_S2048x2048_S2048x1x2048_0_2 : S2048x2048.BroadcastsInDim S2048x1x2048 (![0, 2] : Fin 2 → Fin S2048x1x2048.rank)
  bcast_S2048x2048x1_S2048x2048x2048_0_1_2 : S2048x2048x1.BroadcastsInDim S2048x2048x2048 (![0, 1, 2] : Fin 3 → Fin S2048x2048x2048.rank)
  bcast_S2048x1x2048_S2048x2048x2048_0_1_2 : S2048x1x2048.BroadcastsInDim S2048x2048x2048 (![0, 1, 2] : Fin 3 → Fin S2048x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S2048x2048x2048_0_1_2 : S1x2048x2048.BroadcastsInDim S2048x2048x2048 (![0, 1, 2] : Fin 3 → Fin S2048x2048x2048.rank)
  dot_S1x2048x1536_S1536x16x128_S1x2048x16x128_2_0_01_12_n_n_wf : DotDims.WF S1x2048x1536 S1536x16x128 S1x2048x16x128 [2] [0] [0, 1] [1, 2] [] []
  dot_S1x2048x2048_S2048x128_S1x2048x128_2_0_01_1_n_n_wf : DotDims.WF S1x2048x2048 S2048x128 S1x2048x128 [2] [0] [0, 1] [1] [] []
  dot_S1x2048x128_S1x2048x16x128_S1x2048x2048x16_2_3_1_12_0_0_wf : DotDims.WF S1x2048x128 S1x2048x16x128 S1x2048x2048x16 [2] [3] [1] [1, 2] [0] [0]
  dot_S1x2048x2048_S2048x16_S1x2048x16_2_0_01_1_n_n_wf : DotDims.WF S1x2048x2048 S2048x16 S1x2048x16 [2] [0] [0, 1] [1] [] []
  dot_S1x2048x2048x16_S1x2048x16_S1x2048x2048_3_2_2_n_01_01_wf : DotDims.WF S1x2048x2048x16 S1x2048x16 S1x2048x2048 [3] [2] [2] [] [0, 1] [0, 1]

variable [Facts]

def dot_S1x2048x1536_S1536x16x128_S1x2048x16x128_2_0_01_12_n_n : DotDims S1x2048x1536 S1536x16x128 S1x2048x16x128 where
  lhsContracting := [2]
  rhsContracting := [0]
  lhsNonContracting := [0, 1]
  rhsNonContracting := [1, 2]
  lhsBatch := []
  rhsBatch := []
  wf := dot_S1x2048x1536_S1536x16x128_S1x2048x16x128_2_0_01_12_n_n_wf
def dot_S1x2048x2048_S2048x128_S1x2048x128_2_0_01_1_n_n : DotDims S1x2048x2048 S2048x128 S1x2048x128 where
  lhsContracting := [2]
  rhsContracting := [0]
  lhsNonContracting := [0, 1]
  rhsNonContracting := [1]
  lhsBatch := []
  rhsBatch := []
  wf := dot_S1x2048x2048_S2048x128_S1x2048x128_2_0_01_1_n_n_wf
def dot_S1x2048x128_S1x2048x16x128_S1x2048x2048x16_2_3_1_12_0_0 : DotDims S1x2048x128 S1x2048x16x128 S1x2048x2048x16 where
  lhsContracting := [2]
  rhsContracting := [3]
  lhsNonContracting := [1]
  rhsNonContracting := [1, 2]
  lhsBatch := [0]
  rhsBatch := [0]
  wf := dot_S1x2048x128_S1x2048x16x128_S1x2048x2048x16_2_3_1_12_0_0_wf
def dot_S1x2048x2048_S2048x16_S1x2048x16_2_0_01_1_n_n : DotDims S1x2048x2048 S2048x16 S1x2048x16 where
  lhsContracting := [2]
  rhsContracting := [0]
  lhsNonContracting := [0, 1]
  rhsNonContracting := [1]
  lhsBatch := []
  rhsBatch := []
  wf := dot_S1x2048x2048_S2048x16_S1x2048x16_2_0_01_1_n_n_wf
def dot_S1x2048x2048x16_S1x2048x16_S1x2048x2048_3_2_2_n_01_01 : DotDims S1x2048x2048x16 S1x2048x16 S1x2048x2048 where
  lhsContracting := [3]
  rhsContracting := [2]
  lhsNonContracting := [2]
  rhsNonContracting := []
  lhsBatch := [0, 1]
  rhsBatch := [0, 1]
  wf := dot_S1x2048x2048x16_S1x2048x16_S1x2048x2048_3_2_2_n_01_01_wf
def fn_where {F : FTy → Type} [FloatOps F] (arg0 : IVec S_ 1) (arg1 : FVec F S1x2048x1 .f32) (arg2 : FVec F S_ .f32) : FVec F S1x2048x1 .f32 :=
  let v0 : FVec F S_ .f32 := id arg2
  let v1 : FVec F S1x2048x1 .f32 := broadcastInDim S1x2048x1 ![] bcast_S_S1x2048x1 v0
  let v2 : FVec F S1x2048x1 .f32 := (fun p a b => select (broadcastInDim S1x2048x1 ![] bcast_S_S1x2048x1 p) a b) arg0 arg1 v1
  v2

def fn_var {F : FTy → Type} [FloatOps F] (arg0 : FVec F S1x2048x128 .f32) (arg1 : IVec S_ 32) : FVec F S1x2048x1 .f32 :=
  let cst : FVec F S_ .f32 := constant S_ .f32 0x00000000#32
  let v0 : FVec F S1x2048 .f32 := (fun x v => Host.reduceAdd x v reducesTo_S1x2048x128_S1x2048_d2 h_S_) arg0 cst
  let v1 : FVec F S1x2048x1 .f32 := broadcastInDim S1x2048x1 ![0, 1] bcast_S1x2048_S1x2048x1_0_1 v0
  let cst_0 : FVec F S_ .f32 := constant S_ .f32 0x43000000#32
  let v2 : FVec F S1x2048x1 .f32 := broadcastInDim S1x2048x1 ![] bcast_S_S1x2048x1 cst_0
  let v3 : FVec F S1x2048x1 .f32 := Host.divf v1 v2
  let v4 : FVec F S1x2048x128 .f32 := broadcastInDim S1x2048x128 ![0, 1, 2] bcast_S1x2048x1_S1x2048x128_0_1_2 v3
  let v5 : FVec F S1x2048x128 .f32 := subf arg0 v4
  let v6 : FVec F S1x2048x128 .f32 := mulf v5 v5
  let v7 : FVec F S_ .f32 := sitofp .f32 arg1
  let cst_1 : FVec F S_ .f32 := constant S_ .f32 0x43000000#32
  let v8 : FVec F S_ .f32 := subf cst_1 v7
  let cst_2 : FVec F S_ .f32 := constant S_ .f32 0x00000000#32
  let v9 : FVec F S1x2048 .f32 := (fun x v => Host.reduceAdd x v reducesTo_S1x2048x128_S1x2048_d2 h_S_) v6 cst_2
  let v10 : FVec F S1x2048x1 .f32 := broadcastInDim S1x2048x1 ![0, 1] bcast_S1x2048_S1x2048x1_0_1 v9
  let v11 : FVec F S1x2048x1 .f32 := broadcastInDim S1x2048x1 ![] bcast_S_S1x2048x1 v8
  let v12 : FVec F S1x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x2048x1 .f32 := fn_where (F := F) v13 v12 cst_4
  v14

def fn_relu {F : FTy → Type} [FloatOps F] (arg0 : FVec F S1x2048x2048x16 .f32) : FVec F S1x2048x2048x16 .f32 :=
  let cst : FVec F S_ .f32 := constant S_ .f32 0x00000000#32
  let v0 : FVec F S1x2048x2048x16 .f32 := broadcastInDim S1x2048x2048x16 ![] bcast_S_S1x2048x2048x16 cst
  let v1 : FVec F S1x2048x2048x16 .f32 := maximumf arg0 v0
  v1

def fn_part5 {F : FTy → Type} [FloatOps F] (main_v102 : FVec F S2048x2048x1 .f32) (main_v103 : FVec F S2048x1x2048 .f32) : IVec S2048x2048x2048 1 :=
  let main_v104 : FVec F S2048x2048x2048 .f32 := broadcastInDim S2048x2048x2048 ![0, 1, 2] bcast_S2048x2048x1_S2048x2048x2048_0_1_2 main_v102
  let main_v105 : FVec F S2048x2048x2048 .f32 := broadcastInDim S2048x2048x2048 ![0, 1, 2] bcast_S2048x1x2048_S2048x2048x2048_0_1_2 main_v103
  let main_v106 : IVec S2048x2048x2048 1 := cmpf .oeq main_v104 main_v105
  let main_v107 : IVec S2048 32 := iotaInDim S2048 32 0
  let main_v108 : IVec S2048x1 32 := broadcastInDim S2048x1 ![0] bcast_S2048_S2048x1_0 main_v107
  let main_v109 : IVec S2048 32 := iotaInDim S2048 32 0
  let main_v110 : IVec S1x2048 32 := broadcastInDim S1x2048 ![1] bcast_S2048_S1x2048_1 main_v109
  let main_v111 : IVec S2048x2048 32 := broadcastInDim S2048x2048 ![0, 1] bcast_S2048x1_S2048x2048_0_1 main_v108
  let main_v112 : IVec S2048x2048 32 := broadcastInDim S2048x2048 ![0, 1] bcast_S1x2048_S2048x2048_0_1 main_v110
  let main_v113 : IVec S2048x2048 1 := cmpi .ne main_v111 main_v112
  let main_v114 : IVec S1x2048x2048 1 := broadcastInDim S1x2048x2048 ![1, 2] bcast_S2048x2048_S1x2048x2048_1_2 main_v113
  let main_v115 : IVec S2048x2048x2048 1 := broadcastInDim S2048x2048x2048 ![0, 1, 2] bcast_S1x2048x2048_S2048x2048x2048_0_1_2 main_v114
  let main_v116 : IVec S2048x2048x2048 1 := andi main_v106 main_v115
  let main_v117 : IVec S2048x2048x2048 1 := noti main_v116
  main_v117

def fn_part4 {F : FTy → Type} [FloatOps F] (main_arg0 : FVec F S1x2048x2048 .f32) (main_arg6 : FVec F S2048x16 .f32) (main_v37 : FVec F S1x2048x16x128 .f32) (main_v58 : FVec F S1x2048x1x64 .f32) (main_v59 : FVec F S1x2048x1x64 .f32) (main_v78 : FVec F S1x2048x1x32 .f32) (main_v80 : FVec F S1x2048x1x32 .f32) (main_v81 : FVec F S1x2048x1x32 .f32) : IVec S2048x2048x2048 1 :=
  let main_v82 : FVec F S1x2048x1x32 .f32 := (extractStridedSlice S1x2048x1x32 ![0, 0, 0, 32] · slices_S1x2048x1x64_S1x2048x1x32_0_0_0_32) main_v58
  let main_v83 : FVec F S1x2048x1x32 .f32 := mulf main_v81 main_v78
  let main_v84 : FVec F S1x2048x1x32 .f32 := mulf main_v82 main_v80
  let main_v85 : FVec F S1x2048x1x32 .f32 := subf main_v83 main_v84
  let main_v86 : FVec F S1x2048x1x32 .f32 := mulf main_v82 main_v78
  let main_v87 : FVec F S1x2048x1x32 .f32 := mulf main_v81 main_v80
  let main_v88 : FVec F S1x2048x1x32 .f32 := addf main_v86 main_v87
  let main_v89 : FVec F S1x2048x1x64 .f32 := (fun a b => concatenate S1x2048x1x64 3 [⟨S1x2048x1x32, a⟩, ⟨S1x2048x1x32, b⟩] concatenates_S1x2048x1x32_S1x2048x1x32_S1x2048x1x64_d3) main_v85 main_v88
  let main_v90 : FVec F S1x2048x1x128 .f32 := (fun a b => concatenate S1x2048x1x128 3 [⟨S1x2048x1x64, a⟩, ⟨S1x2048x1x64, b⟩] concatenates_S1x2048x1x64_S1x2048x1x64_S1x2048x1x128_d3) main_v89 main_v59
  let main_v91 : FVec F S1x2048x128 .f32 := shapeCast S1x2048x128 main_v90 shapeCasts_S1x2048x1x128_S1x2048x128
  let main_v92 : FVec F S1x2048x2048x16 .f32 := (fun l r => Host.dotGeneral dot_S1x2048x128_S1x2048x16x128_S1x2048x2048x16_2_3_1_12_0_0 none l r) main_v91 main_v37
  let main_v93 : FVec F S1x2048x2048x16 .f32 := (transpose S1x2048x2048x16 [0, 2, 1, 3] · transposes_S1x2048x2048x16_S1x2048x2048x16_0_2_1_3) main_v92
  let main_v94 : FVec F S1x2048x2048x16 .f32 := fn_relu (F := F) main_v93
  let main_v95 : FVec F S1x2048x16 .f32 := (fun l r => Host.dotGeneral dot_S1x2048x2048_S2048x16_S1x2048x16_2_0_01_1_n_n none l r) main_arg0 main_arg6
  let main_cst_12 : FVec F S_ .f32 := constant S_ .f32 0x3E800000#32
  let main_v96 : FVec F S1x2048x16 .f32 := broadcastInDim S1x2048x16 ![] bcast_S_S1x2048x16 main_cst_12
  let main_v97 : FVec F S1x2048x16 .f32 := mulf main_v95 main_v96
  let main_cst_13 : FVec F S_ .f32 := constant S_ .f32 0x3DB504F3#32
  let main_v98 : FVec F S1x2048x16 .f32 := broadcastInDim S1x2048x16 ![] bcast_S_S1x2048x16 main_cst_13
  let main_v99 : FVec F S1x2048x16 .f32 := mulf main_v97 main_v98
  let main_v100 : FVec F S1x2048x2048 .f32 := (fun l r => Host.dotGeneral dot_S1x2048x2048x16_S1x2048x16_S1x2048x2048_3_2_2_n_01_01 none l r) main_v94 main_v99
  let main_v101 : FVec F S2048x2048 .f32 := shapeCast S2048x2048 main_v100 shapeCasts_S1x2048x2048_S2048x2048
  let main_v102 : FVec F S2048x2048x1 .f32 := broadcastInDim S2048x2048x1 ![0, 1] bcast_S2048x2048_S2048x2048x1_0_1 main_v101
  let main_v103 : FVec F S2048x1x2048 .f32 := broadcastInDim S2048x1x2048 ![0, 2] bcast_S2048x2048_S2048x1x2048_0_2 main_v101
  fn_part5 (F := F) main_v102 main_v103

def fn_part3 {F : FTy → Type} [FloatOps F] (main_arg0 : FVec F S1x2048x2048 .f32) (main_arg3 : IVec S1x2048 32) (main_arg6 : FVec F S2048x16 .f32) (main_v37 : FVec F S1x2048x16x128 .f32) (main_v58 : FVec F S1x2048x1x64 .f32) (main_v59 : FVec F S1x2048x1x64 .f32) (main_v60 : FVec F S32 .f32) (main_v61 : FVec F S32 .f32) : IVec S2048x2048x2048 1 :=
  let main_v62 : FVec F S32 .f32 := mulf main_v61 main_v60
  let main_cst_8 : FVec F S_ .f32 := constant S_ .f32 0x00000000#32
  let main_v63 : FVec F S32 .f32 := broadcastInDim S32 ![] bcast_S_S32 main_cst_8
  let main_v64 : FVec F S32 .f32 := addf main_v63 main_v62
  let main_cst_9 : FVec F S_ .f32 := constant S_ .f32 0x42800000#32
  let main_v65 : FVec F S32 .f32 := broadcastInDim S32 ![] bcast_S_S32 main_cst_9
  let main_v66 : FVec F S32 .f32 := Host.divf main_v64 main_v65
  let main_cst_10 : FVec F S_ .f32 := constant S_ .f32 0x461C4000#32
  let main_v67 : FVec F S32 .f32 := broadcastInDim S32 ![] bcast_S_S32 main_cst_10
  let main_v68 : FVec F S32 .f32 := Host.powf main_v67 main_v66
  let main_cst_11 : FVec F S_ .f32 := constant S_ .f32 0x3F800000#32
  let main_v69 : FVec F S32 .f32 := broadcastInDim S32 ![] bcast_S_S32 main_cst_11
  let main_v70 : FVec F S32 .f32 := Host.divf main_v69 main_v68
  let main_v71 : FVec F S1x2048 .f32 := sitofp .f32 main_arg3
  let main_v72 : FVec F S1x2048x1 .f32 := broadcastInDim S1x2048x1 ![0, 1] bcast_S1x2048_S1x2048x1_0_1 main_v71
  let main_v73 : FVec F S1x1x32 .f32 := broadcastInDim S1x1x32 ![2] bcast_S32_S1x1x32_2 main_v70
  let main_v74 : FVec F S1x2048x32 .f32 := broadcastInDim S1x2048x32 ![0, 1, 2] bcast_S1x2048x1_S1x2048x32_0_1_2 main_v72
  let main_v75 : FVec F S1x2048x32 .f32 := broadcastInDim S1x2048x32 ![0, 1, 2] bcast_S1x1x32_S1x2048x32_0_1_2 main_v73
  let main_v76 : FVec F S1x2048x32 .f32 := mulf main_v74 main_v75
  let main_v77 : FVec F S1x2048x32 .f32 := Host.cos main_v76
  let main_v78 : FVec F S1x2048x1x32 .f32 := broadcastInDim S1x2048x1x32 ![0, 1, 3] bcast_S1x2048x32_S1x2048x1x32_0_1_3 main_v77
  let main_v79 : FVec F S1x2048x32 .f32 := Host.sin main_v76
  let main_v80 : FVec F S1x2048x1x32 .f32 := broadcastInDim S1x2048x1x32 ![0, 1, 3] bcast_S1x2048x32_S1x2048x1x32_0_1_3 main_v79
  let main_v81 : FVec F S1x2048x1x32 .f32 := (extractStridedSlice S1x2048x1x32 ![0, 0, 0, 0] · slices_S1x2048x1x64_S1x2048x1x32_0_0_0_0) main_v58
  fn_part4 (F := F) main_arg0 main_arg6 main_v37 main_v58 main_v59 main_v78 main_v80 main_v81

def fn_part2 {F : FTy → Type} [FloatOps F] (main_arg0 : FVec F S1x2048x2048 .f32) (main_arg3 : IVec S1x2048 32) (main_arg6 : FVec F S2048x16 .f32) (main_arg7 : FVec F S128 .f32) (main_arg8 : FVec F S128 .f32) (main_v37 : FVec F S1x2048x16x128 .f32) (main_v38 : FVec F S1x2048x128 .f32) (main_v40 : FVec F S1x2048x1 .f32) (main_cst_5 : FVec F S_ .f32) : IVec S2048x2048x2048 1 :=
  let main_v41 : FVec F S1x2048x1 .f32 := broadcastInDim S1x2048x1 ![] bcast_S_S1x2048x1 main_cst_5
  let main_v42 : FVec F S1x2048x1 .f32 := Host.divf main_v40 main_v41
  let main_c : IVec S_ 32 := constantI S_ 32 0#32
  let main_v43 : FVec F S1x2048x1 .f32 := fn_var (F := F) main_v38 main_c
  let main_v44 : FVec F S1x2048x128 .f32 := broadcastInDim S1x2048x128 ![0, 1, 2] bcast_S1x2048x1_S1x2048x128_0_1_2 main_v42
  let main_v45 : FVec F S1x2048x128 .f32 := subf main_v38 main_v44
  let main_cst_6 : FVec F S_ .f32 := constant S_ .f32 0x358637BD#32
  let main_v46 : FVec F S1x2048x1 .f32 := broadcastInDim S1x2048x1 ![] bcast_S_S1x2048x1 main_cst_6
  let main_v47 : FVec F S1x2048x1 .f32 := addf main_v43 main_v46
  let main_v48 : FVec F S1x2048x1 .f32 := Host.rsqrt main_v47
  let main_v49 : FVec F S1x2048x128 .f32 := broadcastInDim S1x2048x128 ![0, 1, 2] bcast_S1x2048x1_S1x2048x128_0_1_2 main_v48
  let main_v50 : FVec F S1x2048x128 .f32 := mulf main_v45 main_v49
  let main_v51 : FVec F S1x1x128 .f32 := broadcastInDim S1x1x128 ![2] bcast_S128_S1x1x128_2 main_arg7
  let main_v52 : FVec F S1x2048x128 .f32 := broadcastInDim S1x2048x128 ![0, 1, 2] bcast_S1x1x128_S1x2048x128_0_1_2 main_v51
  let main_v53 : FVec F S1x2048x128 .f32 := mulf main_v50 main_v52
  let main_v54 : FVec F S1x1x128 .f32 := broadcastInDim S1x1x128 ![2] bcast_S128_S1x1x128_2 main_arg8
  let main_v55 : FVec F S1x2048x128 .f32 := broadcastInDim S1x2048x128 ![0, 1, 2] bcast_S1x1x128_S1x2048x128_0_1_2 main_v54
  let main_v56 : FVec F S1x2048x128 .f32 := addf main_v53 main_v55
  let main_v57 : FVec F S1x2048x1x128 .f32 := broadcastInDim S1x2048x1x128 ![0, 1, 3] bcast_S1x2048x128_S1x2048x1x128_0_1_3 main_v56
  let main_v58 : FVec F S1x2048x1x64 .f32 := (extractStridedSlice S1x2048x1x64 ![0, 0, 0, 0] · slices_S1x2048x1x128_S1x2048x1x64_0_0_0_0) main_v57
  let main_v59 : FVec F S1x2048x1x64 .f32 := (extractStridedSlice S1x2048x1x64 ![0, 0, 0, 64] · slices_S1x2048x1x128_S1x2048x1x64_0_0_0_64) main_v57
  let main_v60 : FVec F S32 .f32 := sitofp .f32 (iotaInDim S32 32 0)
  let main_cst_7 : FVec F S_ .f32 := constant S_ .f32 0x40000000#32
  let main_v61 : FVec F S32 .f32 := broadcastInDim S32 ![] bcast_S_S32 main_cst_7
  fn_part3 (F := F) main_arg0 main_arg3 main_arg6 main_v37 main_v58 main_v59 main_v60 main_v61

def fn_part1 {F : FTy → Type} [FloatOps F] (main_arg0 : FVec F S1x2048x2048 .f32) (main_arg2 : FVec F S1x2048x2048 .f32) (main_arg3 : IVec S1x2048 32) (main_arg5 : FVec F S2048x128 .f32) (main_arg6 : FVec F S2048x16 .f32) (main_arg7 : FVec F S128 .f32) (main_arg8 : FVec F S128 .f32) (main_v1 : FVec F S1x2048x16x64 .f32) (main_v2 : FVec F S1x2048x16x64 .f32) (main_v17 : FVec F S1x2048x32 .f32) (main_v18 : FVec F S1x2048x32 .f32) : IVec S2048x2048x2048 1 :=
  let main_v19 : FVec F S1x2048x32 .f32 := mulf main_v17 main_v18
  let main_v20 : FVec F S1x2048x32 .f32 := Host.cos main_v19
  let main_v21 : FVec F S1x2048x1x32 .f32 := broadcastInDim S1x2048x1x32 ![0, 1, 3] bcast_S1x2048x32_S1x2048x1x32_0_1_3 main_v20
  let main_v22 : FVec F S1x2048x32 .f32 := Host.sin main_v19
  let main_v23 : FVec F S1x2048x1x32 .f32 := broadcastInDim S1x2048x1x32 ![0, 1, 3] bcast_S1x2048x32_S1x2048x1x32_0_1_3 main_v22
  let main_v24 : FVec F S1x2048x16x32 .f32 := (extractStridedSlice S1x2048x16x32 ![0, 0, 0, 0] · slices_S1x2048x16x64_S1x2048x16x32_0_0_0_0) main_v1
  let main_v25 : FVec F S1x2048x16x32 .f32 := (extractStridedSlice S1x2048x16x32 ![0, 0, 0, 32] · slices_S1x2048x16x64_S1x2048x16x32_0_0_0_32) main_v1
  let main_v26 : FVec F S1x2048x16x32 .f32 := broadcastInDim S1x2048x16x32 ![0, 1, 2, 3] bcast_S1x2048x1x32_S1x2048x16x32_0_1_2_3 main_v21
  let main_v27 : FVec F S1x2048x16x32 .f32 := mulf main_v24 main_v26
  let main_v28 : FVec F S1x2048x16x32 .f32 := broadcastInDim S1x2048x16x32 ![0, 1, 2, 3] bcast_S1x2048x1x32_S1x2048x16x32_0_1_2_3 main_v23
  let main_v29 : FVec F S1x2048x16x32 .f32 := mulf main_v25 main_v28
  let main_v30 : FVec F S1x2048x16x32 .f32 := subf main_v27 main_v29
  let main_v31 : FVec F S1x2048x16x32 .f32 := broadcastInDim S1x2048x16x32 ![0, 1, 2, 3] bcast_S1x2048x1x32_S1x2048x16x32_0_1_2_3 main_v21
  let main_v32 : FVec F S1x2048x16x32 .f32 := mulf main_v25 main_v31
  let main_v33 : FVec F S1x2048x16x32 .f32 := broadcastInDim S1x2048x16x32 ![0, 1, 2, 3] bcast_S1x2048x1x32_S1x2048x16x32_0_1_2_3 main_v23
  let main_v34 : FVec F S1x2048x16x32 .f32 := mulf main_v24 main_v33
  let main_v35 : FVec F S1x2048x16x32 .f32 := addf main_v32 main_v34
  let main_v36 : FVec F S1x2048x16x64 .f32 := (fun a b => concatenate S1x2048x16x64 3 [⟨S1x2048x16x32, a⟩, ⟨S1x2048x16x32, b⟩] concatenates_S1x2048x16x32_S1x2048x16x32_S1x2048x16x64_d3) main_v30 main_v35
  let main_v37 : FVec F S1x2048x16x128 .f32 := (fun a b => concatenate S1x2048x16x128 3 [⟨S1x2048x16x64, a⟩, ⟨S1x2048x16x64, b⟩] concatenates_S1x2048x16x64_S1x2048x16x64_S1x2048x16x128_d3) main_v36 main_v2
  let main_v38 : FVec F S1x2048x128 .f32 := (fun l r => Host.dotGeneral dot_S1x2048x2048_S2048x128_S1x2048x128_2_0_01_1_n_n none l r) main_arg2 main_arg5
  let main_cst_4 : FVec F S_ .f32 := constant S_ .f32 0x00000000#32
  let main_v39 : FVec F S1x2048 .f32 := (fun x v => Host.reduceAdd x v reducesTo_S1x2048x128_S1x2048_d2 h_S_) main_v38 main_cst_4
  let main_v40 : FVec F S1x2048x1 .f32 := broadcastInDim S1x2048x1 ![0, 1] bcast_S1x2048_S1x2048x1_0_1 main_v39
  let main_cst_5 : FVec F S_ .f32 := constant S_ .f32 0x43000000#32
  fn_part2 (F := F) main_arg0 main_arg3 main_arg6 main_arg7 main_arg8 main_v37 main_v38 main_v40 main_cst_5

def fn {F : FTy → Type} [FloatOps F] (main_arg0 : FVec F S1x2048x2048 .f32) (main_arg1 : FVec F S1x2048x1536 .f32) (main_arg2 : FVec F S1x2048x2048 .f32) (main_arg3 : IVec S1x2048 32) (main_arg4 : FVec F S1536x16x128 .f32) (main_arg5 : FVec F S2048x128 .f32) (main_arg6 : FVec F S2048x16 .f32) (main_arg7 : FVec F S128 .f32) (main_arg8 : FVec F S128 .f32) : IVec S2048x2048x2048 1 :=
  let main_v0 : FVec F S1x2048x16x128 .f32 := (fun l r => Host.dotGeneral dot_S1x2048x1536_S1536x16x128_S1x2048x16x128_2_0_01_12_n_n none l r) main_arg1 main_arg4
  let main_v1 : FVec F S1x2048x16x64 .f32 := (extractStridedSlice S1x2048x16x64 ![0, 0, 0, 0] · slices_S1x2048x16x128_S1x2048x16x64_0_0_0_0) main_v0
  let main_v2 : FVec F S1x2048x16x64 .f32 := (extractStridedSlice S1x2048x16x64 ![0, 0, 0, 64] · slices_S1x2048x16x128_S1x2048x16x64_0_0_0_64) main_v0
  let main_v3 : FVec F S32 .f32 := sitofp .f32 (iotaInDim S32 32 0)
  let main_cst : FVec F S_ .f32 := constant S_ .f32 0x40000000#32
  let main_v4 : FVec F S32 .f32 := broadcastInDim S32 ![] bcast_S_S32 main_cst
  let main_v5 : FVec F S32 .f32 := mulf main_v4 main_v3
  let main_cst_0 : FVec F S_ .f32 := constant S_ .f32 0x00000000#32
  let main_v6 : FVec F S32 .f32 := broadcastInDim S32 ![] bcast_S_S32 main_cst_0
  let main_v7 : FVec F S32 .f32 := addf main_v6 main_v5
  let main_cst_1 : FVec F S_ .f32 := constant S_ .f32 0x42800000#32
  let main_v8 : FVec F S32 .f32 := broadcastInDim S32 ![] bcast_S_S32 main_cst_1
  let main_v9 : FVec F S32 .f32 := Host.divf main_v7 main_v8
  let main_cst_2 : FVec F S_ .f32 := constant S_ .f32 0x461C4000#32
  let main_v10 : FVec F S32 .f32 := broadcastInDim S32 ![] bcast_S_S32 main_cst_2
  let main_v11 : FVec F S32 .f32 := Host.powf main_v10 main_v9
  let main_cst_3 : FVec F S_ .f32 := constant S_ .f32 0x3F800000#32
  let main_v12 : FVec F S32 .f32 := broadcastInDim S32 ![] bcast_S_S32 main_cst_3
  let main_v13 : FVec F S32 .f32 := Host.divf main_v12 main_v11
  let main_v14 : FVec F S1x2048 .f32 := sitofp .f32 main_arg3
  let main_v15 : FVec F S1x2048x1 .f32 := broadcastInDim S1x2048x1 ![0, 1] bcast_S1x2048_S1x2048x1_0_1 main_v14
  let main_v16 : FVec F S1x1x32 .f32 := broadcastInDim S1x1x32 ![2] bcast_S32_S1x1x32_2 main_v13
  let main_v17 : FVec F S1x2048x32 .f32 := broadcastInDim S1x2048x32 ![0, 1, 2] bcast_S1x2048x1_S1x2048x32_0_1_2 main_v15
  let main_v18 : FVec F S1x2048x32 .f32 := broadcastInDim S1x2048x32 ![0, 1, 2] bcast_S1x1x32_S1x2048x32_0_1_2 main_v16
  fn_part1 (F := F) main_arg0 main_arg2 main_arg3 main_arg5 main_arg6 main_arg7 main_arg8 main_v1 main_v2 main_v17 main_v18
-- ==== Kernel.lean ====
abbrev S1x2048x2048 : Shape := ⟨3, ![1, 2048, 2048]⟩
abbrev S1x2048x1536 : Shape := ⟨3, ![1, 2048, 1536]⟩
abbrev S1x2048 : Shape := ⟨2, ![1, 2048]⟩
abbrev S1536x16x128 : Shape := ⟨3, ![1536, 16, 128]⟩
abbrev S2048x128 : Shape := ⟨2, ![2048, 128]⟩
abbrev S2048x16 : Shape := ⟨2, ![2048, 16]⟩
abbrev S128 : Shape := ⟨1, ![128]⟩
abbrev S2048x2048 : Shape := ⟨2, ![2048, 2048]⟩
abbrev S2048x1536 : Shape := ⟨2, ![2048, 1536]⟩
abbrev S2048 : Shape := ⟨1, ![2048]⟩
abbrev S1536x2048 : Shape := ⟨2, ![1536, 2048]⟩
abbrev S1x128 : Shape := ⟨2, ![1, 128]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S512x2048 : Shape := ⟨2, ![512, 2048]⟩
abbrev S512x32 : Shape := ⟨2, ![512, 32]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S256x1536 : Shape := ⟨2, ![256, 1536]⟩
abbrev S256x2048 : Shape := ⟨2, ![256, 2048]⟩
abbrev S256x32 : Shape := ⟨2, ![256, 32]⟩
abbrev S256x16 : Shape := ⟨2, ![256, 16]⟩
abbrev S256x128 : Shape := ⟨2, ![256, 128]⟩
abbrev S256x64 : Shape := ⟨2, ![256, 64]⟩
abbrev S256x1 : Shape := ⟨2, ![256, 1]⟩
abbrev S2048x64 : Shape := ⟨2, ![2048, 64]⟩
abbrev S8x2048 : Shape := ⟨2, ![8, 2048]⟩
abbrev S8x64 : Shape := ⟨2, ![8, 64]⟩
abbrev S64 : Shape := ⟨1, ![64]⟩
abbrev S256 : Shape := ⟨1, ![256]⟩
abbrev S1 : Shape := ⟨1, ![1]⟩
abbrev S16 : Shape := ⟨1, ![16]⟩
abbrev S1x16 : Shape := ⟨2, ![1, 16]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S15 : Shape := ⟨1, ![15]⟩
abbrev S1x2048x64 : Shape := ⟨3, ![1, 2048, 64]⟩

abbrev nBuf : Table → Nat
  | .hbm => 47
  | .local .tc .vmem => 24
  | .local .scVector .smem => 2
  | .local .scVector .vmem => 5
  | _ => 0

abbrev bufTy : (tb : Table) → Fin (nBuf tb) → BufTy
  | .hbm, ⟨0, _⟩ => ⟨S1x2048x2048, .f32⟩
  | .hbm, ⟨1, _⟩ => ⟨S1x2048x1536, .f32⟩
  | .hbm, ⟨2, _⟩ => ⟨S1x2048x2048, .f32⟩
  | .hbm, ⟨3, _⟩ => ⟨S1x2048, .i32⟩
  | .hbm, ⟨4, _⟩ => ⟨S1536x16x128, .f32⟩
  | .hbm, ⟨5, _⟩ => ⟨S2048x128, .f32⟩
  | .hbm, ⟨6, _⟩ => ⟨S2048x16, .f32⟩
  | .hbm, ⟨7, _⟩ => ⟨S128, .f32⟩
  | .hbm, ⟨8, _⟩ => ⟨S128, .f32⟩
  | .hbm, ⟨9, _⟩ => ⟨S2048x2048, .f32⟩
  | .hbm, ⟨10, _⟩ => ⟨S2048x1536, .f32⟩
  | .hbm, ⟨11, _⟩ => ⟨S2048x2048, .f32⟩
  | .hbm, ⟨12, _⟩ => ⟨S2048, .i32⟩
  | .hbm, ⟨13, _⟩ => ⟨S1536x2048, .f32⟩
  | .hbm, ⟨14, _⟩ => ⟨S1x128, .f32⟩
  | .hbm, ⟨15, _⟩ => ⟨S1x128, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2048, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x128, .f32⟩
  | .hbm, ⟨41, _⟩ => ⟨S2048x2048, .f32⟩
  | .hbm, ⟨42, _⟩ => ⟨S2048x64, .i32⟩
  | .hbm, ⟨43, _⟩ => ⟨S2048x2048, .f32⟩
  | .hbm, ⟨44, _⟩ => ⟨S1x2048x2048, .f32⟩
  | .hbm, ⟨45, _⟩ => ⟨S1x2048x64, .i32⟩
  | .hbm, ⟨46, _⟩ => ⟨S1x2048x2048, .f32⟩
  | .local .tc .vmem, ⟨0, _⟩ => ⟨S512x2048, .f32⟩
  | .local .tc .vmem, ⟨1, _⟩ => ⟨S512x2048, .f32⟩
  | .local .tc .vmem, ⟨2, _⟩ => ⟨S2048x128, .f32⟩
  | .local .tc .vmem, ⟨3, _⟩ => ⟨S512x32, .f32⟩
  | .local .tc .vmem, ⟨4, _⟩ => ⟨S512x32, .f32⟩
  | .local .tc .vmem, ⟨5, _⟩ => ⟨S512x32, .f32⟩
  | .local .tc .vmem, ⟨6, _⟩ => ⟨S512x32, .f32⟩
  | .local .tc .vmem, ⟨7, _⟩ => ⟨S1x128, .f32⟩
  | .local .tc .vmem, ⟨8, _⟩ => ⟨S1x128, .f32⟩
  | .local .tc .vmem, ⟨9, _⟩ => ⟨S512x128, .f32⟩
  | .local .tc .vmem, ⟨10, _⟩ => ⟨S512x128, .f32⟩
  | .local .tc .vmem, ⟨11, _⟩ => ⟨S256x1536, .f32⟩
  | .local .tc .vmem, ⟨12, _⟩ => ⟨S256x1536, .f32⟩
  | .local .tc .vmem, ⟨13, _⟩ => ⟨S1536x2048, .f32⟩
  | .local .tc .vmem, ⟨14, _⟩ => ⟨S256x2048, .f32⟩
  | .local .tc .vmem, ⟨15, _⟩ => ⟨S256x2048, .f32⟩
  | .local .tc .vmem, ⟨16, _⟩ => ⟨S2048x16, .f32⟩
  | .local .tc .vmem, ⟨17, _⟩ => ⟨S2048x128, .f32⟩
  | .local .tc .vmem, ⟨18, _⟩ => ⟨S256x32, .f32⟩
  | .local .tc .vmem, ⟨19, _⟩ => ⟨S256x32, .f32⟩
  | .local .tc .vmem, ⟨20, _⟩ => ⟨S256x32, .f32⟩
  | .local .tc .vmem, ⟨21, _⟩ => ⟨S256x32, .f32⟩
  | .local .tc .vmem, ⟨22, _⟩ => ⟨S256x2048, .f32⟩
  | .local .tc .vmem, ⟨23, _⟩ => ⟨S256x2048, .f32⟩
  | .local .scVector .smem, ⟨0, _⟩ => ⟨S256, .f32⟩
  | .local .scVector .smem, ⟨1, _⟩ => ⟨S1, .f32⟩
  | .local .scVector .vmem, ⟨0, _⟩ => ⟨S8x2048, .f32⟩
  | .local .scVector .vmem, ⟨1, _⟩ => ⟨S8x64, .i32⟩
  | .local .scVector .vmem, ⟨2, _⟩ => ⟨S8x2048, .f32⟩
  | .local .scVector .vmem, ⟨3, _⟩ => ⟨S64, .f32⟩
  | .local .scVector .vmem, ⟨4, _⟩ => ⟨S64, .i32⟩
  | _, _ => ⟨S1x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v27_scv : Ref sig .scVector := ⟨.hbm, 41, rfl⟩
abbrev main_v28_0_scv : Ref sig .scVector := ⟨.hbm, 42, rfl⟩
abbrev main_v28_1_scv : Ref sig .scVector := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_scratch5 : Ref sig .scVector := ⟨.smem, 0, rfl⟩
abbrev cc2_scratch6 : Ref sig .scVector := ⟨.smem, 1, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 16], ![false, false]⟩

@[reducible] def k2_t1_loop : Scf.Loop 32 :=
  let c0_i32_1 : BitVec 32 := 0#32
  let c128_i32 : BitVec 32 := 128#32
  let v5 : BitVec 32 := Scalar.addi c0_i32_1 c128_i32
  let c1_i32 : BitVec 32 := 1#32
  ⟨c0_i32_1, v5, c1_i32⟩
def k2_off1 (k2_t1 : Fin k2_t1_loop.trips) : Fin 2 → Nat :=
  let c0_i32_42 : BitVec 32 := 0#32
  let v15 : Index := Scalar.indexCast c0_i32_42
  let c0_i32_1 : BitVec 32 := 0#32
  let c1_i32 : BitVec 32 := 1#32
  let arg12 : BitVec 32 := Scf.iv c0_i32_1 c1_i32 k2_t1
  let c16_i32 : BitVec 32 := 16#32
  let v14 : BitVec 32 := Scalar.muli arg12 c16_i32
  let v16 : Index := Scalar.indexCast v14
  ![0, v16.toNat]
@[reducible] def k2_t2_loop : Scf.Loop 32 :=
  let c0_i32_4 : BitVec 32 := 0#32
  let c128_i32_5 : BitVec 32 := 128#32
  let v6 : BitVec 32 := Scalar.addi c0_i32_4 c128_i32_5
  let c1_i32_6 : BitVec 32 := 1#32
  ⟨c0_i32_4, v6, c1_i32_6⟩
def k2_off2 (k2_t2 : Fin k2_t2_loop.trips) : Fin 2 → Nat :=
  let c1_i32_42 : BitVec 32 := 1#32
  let v15 : Index := Scalar.indexCast c1_i32_42
  let c0_i32_4 : BitVec 32 := 0#32
  let c1_i32_6 : BitVec 32 := 1#32
  let arg12 : BitVec 32 := Scf.iv c0_i32_4 c1_i32_6 k2_t2
  let c16_i32 : BitVec 32 := 16#32
  let v14 : BitVec 32 := Scalar.muli arg12 c16_i32
  let v16 : Index := Scalar.indexCast v14
  ![1, v16.toNat]
@[reducible] def k2_t3_loop : Scf.Loop 32 :=
  let c0_i32_9 : BitVec 32 := 0#32
  let c128_i32_10 : BitVec 32 := 128#32
  let v7 : BitVec 32 := Scalar.addi c0_i32_9 c128_i32_10
  let c1_i32_11 : BitVec 32 := 1#32
  ⟨c0_i32_9, v7, c1_i32_11⟩
def k2_off3 (k2_t3 : Fin k2_t3_loop.trips) : Fin 2 → Nat :=
  let c2_i32_42 : BitVec 32 := 2#32
  let v15 : Index := Scalar.indexCast c2_i32_42
  let c0_i32_9 : BitVec 32 := 0#32
  let c1_i32_11 : BitVec 32 := 1#32
  let arg12 : BitVec 32 := Scf.iv c0_i32_9 c1_i32_11 k2_t3
  let c16_i32 : BitVec 32 := 16#32
  let v14 : BitVec 32 := Scalar.muli arg12 c16_i32
  let v16 : Index := Scalar.indexCast v14
  ![2, v16.toNat]
@[reducible] def k2_t4_loop : Scf.Loop 32 :=
  let c0_i32_14 : BitVec 32 := 0#32
  let c128_i32_15 : BitVec 32 := 128#32
  let v8 : BitVec 32 := Scalar.addi c0_i32_14 c128_i32_15
  let c1_i32_16 : BitVec 32 := 1#32
  ⟨c0_i32_14, v8, c1_i32_16⟩
def k2_off4 (k2_t4 : Fin k2_t4_loop.trips) : Fin 2 → Nat :=
  let c3_i32 : BitVec 32 := 3#32
  let v15 : Index := Scalar.indexCast c3_i32
  let c0_i32_14 : BitVec 32 := 0#32
  let c1_i32_16 : BitVec 32 := 1#32
  let arg12 : BitVec 32 := Scf.iv c0_i32_14 c1_i32_16 k2_t4
  let c16_i32 : BitVec 32 := 16#32
  let v14 : BitVec 32 := Scalar.muli arg12 c16_i32
  let v16 : Index := Scalar.indexCast v14
  ![3, v16.toNat]
@[reducible] def k2_t5_loop : Scf.Loop 32 :=
  let c0_i32_19 : BitVec 32 := 0#32
  let c128_i32_20 : BitVec 32 := 128#32
  let v9 : BitVec 32 := Scalar.addi c0_i32_19 c128_i32_20
  let c1_i32_21 : BitVec 32 := 1#32
  ⟨c0_i32_19, v9, c1_i32_21⟩
def k2_off5 (k2_t5 : Fin k2_t5_loop.trips) : Fin 2 → Nat :=
  let c4_i32 : BitVec 32 := 4#32
  let v15 : Index := Scalar.indexCast c4_i32
  let c0_i32_19 : BitVec 32 := 0#32
  let c1_i32_21 : BitVec 32 := 1#32
  let arg12 : BitVec 32 := Scf.iv c0_i32_19 c1_i32_21 k2_t5
  let c16_i32 : BitVec 32 := 16#32
  let v14 : BitVec 32 := Scalar.muli arg12 c16_i32
  let v16 : Index := Scalar.indexCast v14
  ![4, v16.toNat]
@[reducible] def k2_t6_loop : Scf.Loop 32 :=
  let c0_i32_24 : BitVec 32 := 0#32
  let c128_i32_25 : BitVec 32 := 128#32
  let v10 : BitVec 32 := Scalar.addi c0_i32_24 c128_i32_25
  let c1_i32_26 : BitVec 32 := 1#32
  ⟨c0_i32_24, v10, c1_i32_26⟩
def k2_off6 (k2_t6 : Fin k2_t6_loop.trips) : Fin 2 → Nat :=
  let c5_i32 : BitVec 32 := 5#32
  let v15 : Index := Scalar.indexCast c5_i32
  let c0_i32_24 : BitVec 32 := 0#32
  let c1_i32_26 : BitVec 32 := 1#32
  let arg12 : BitVec 32 := Scf.iv c0_i32_24 c1_i32_26 k2_t6
  let c16_i32 : BitVec 32 := 16#32
  let v14 : BitVec 32 := Scalar.muli arg12 c16_i32
  let v16 : Index := Scalar.indexCast v14
  ![5, v16.toNat]
@[reducible] def k2_t7_loop : Scf.Loop 32 :=
  let c0_i32_29 : BitVec 32 := 0#32
  let c128_i32_30 : BitVec 32 := 128#32
  let v11 : BitVec 32 := Scalar.addi c0_i32_29 c128_i32_30
  let c1_i32_31 : BitVec 32 := 1#32
  ⟨c0_i32_29, v11, c1_i32_31⟩
def k2_off7 (k2_t7 : Fin k2_t7_loop.trips) : Fin 2 → Nat :=
  let c6_i32 : BitVec 32 := 6#32
  let v15 : Index := Scalar.indexCast c6_i32
  let c0_i32_29 : BitVec 32 := 0#32
  let c1_i32_31 : BitVec 32 := 1#32
  let arg12 : BitVec 32 := Scf.iv c0_i32_29 c1_i32_31 k2_t7
  let c16_i32 : BitVec 32 := 16#32
  let v14 : BitVec 32 := Scalar.muli arg12 c16_i32
  let v16 : Index := Scalar.indexCast v14
  ![6, v16.toNat]
@[reducible] def k2_t8_loop : Scf.Loop 32 :=
  let c0_i32_34 : BitVec 32 := 0#32
  let c128_i32_35 : BitVec 32 := 128#32
  let v12 : BitVec 32 := Scalar.addi c0_i32_34 c128_i32_35
  let c1_i32_36 : BitVec 32 := 1#32
  ⟨c0_i32_34, v12, c1_i32_36⟩
def k2_off8 (k2_t8 : Fin k2_t8_loop.trips) : Fin 2 → Nat :=
  let c7_i32 : BitVec 32 := 7#32
  let v15 : Index := Scalar.indexCast c7_i32
  let c0_i32_34 : BitVec 32 := 0#32
  let c1_i32_36 : BitVec 32 := 1#32
  let arg12 : BitVec 32 := Scf.iv c0_i32_34 c1_i32_36 k2_t8
  let c16_i32 : BitVec 32 := 16#32
  let v14 : BitVec 32 := Scalar.muli arg12 c16_i32
  let v16 : Index := Scalar.indexCast v14
  ![7, v16.toNat]
@[reducible] def k2_t9_loop : Scf.Loop 32 :=
  let c0_i32_39 : BitVec 32 := 0#32
  let c8_i32 : BitVec 32 := 8#32
  let v13 : BitVec 32 := Scalar.addi c0_i32_39 c8_i32
  let c1_i32_40 : BitVec 32 := 1#32
  ⟨c0_i32_39, v13, c1_i32_40⟩
def k2_off9 (i : grid2.Coords) (k2_t9 : Fin k2_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v14 : BitVec 32 := Scalar.muli v1 c64_i32
  let c0_i32_39 : BitVec 32 := 0#32
  let c1_i32_40 : BitVec 32 := 1#32
  let arg12 : BitVec 32 := Scf.iv c0_i32_39 c1_i32_40 k2_t9
  let c8_i32_42 : BitVec 32 := 8#32
  let v15 : BitVec 32 := Scalar.muli arg12 c8_i32_42
  let v16 : BitVec 32 := Scalar.addi v14 v15
  let c0_i32_56_r0 : BitVec 32 := 0#32
  ![v16.toNat, 0]
@[reducible] def k2_t10_loop : Scf.Loop 32 :=
  let c0_i32_43 : BitVec 32 := 0#32
  let c256_i32 : BitVec 32 := 256#32
  let v17 : BitVec 32 := Scalar.addi c0_i32_43 c256_i32
  let c1_i32_44 : BitVec 32 := 1#32
  ⟨c0_i32_43, v17, c1_i32_44⟩
def k2_off10 (k2_t10 : Fin k2_t10_loop.trips) (c0_i32_71 : BitVec 32) : Fin 2 → Nat :=
  let c0_i32_57 : BitVec 32 := 0#32
  let c0_i32_43 : BitVec 32 := 0#32
  let c1_i32_44 : BitVec 32 := 1#32
  let arg13 : BitVec 32 := Scf.iv c0_i32_43 c1_i32_44 k2_t10
  let c1_i32_56 : BitVec 32 := 1#32
  let v20 : BitVec 32 := Scalar.muli arg13 c1_i32_56
  let v21 : BitVec 32 := Scalar.addi c0_i32_57 v20
  let c0_i32_58 : BitVec 32 := 0#32
  let v23 : BitVec 1 := Scalar.cmpi .sgt v21 c0_i32_58
  let v24 : BitVec 32 := Scalar.extui v23
  let c0_i32_59 : BitVec 32 := 0#32
  let v25 : BitVec 1 := Scalar.cmpi .slt v21 c0_i32_59
  let v26 : BitVec 32 := Scalar.extui v25
  let v27 : BitVec 32 := Scalar.subi v24 v26
  let c32_i32 : BitVec 32 := 32#32
  let c0_i32_60 : BitVec 32 := 0#32
  let v28 : BitVec 1 := Scalar.cmpi .sgt c32_i32 c0_i32_60
  let v29 : BitVec 32 := Scalar.extui v28
  let c0_i32_61 : BitVec 32 := 0#32
  let v30 : BitVec 1 := Scalar.cmpi .slt c32_i32 c0_i32_61
  let v31 : BitVec 32 := Scalar.extui v30
  let v32 : BitVec 32 := Scalar.subi v29 v31
  let v33 : BitVec 1 := Scalar.cmpi .ne v27 v32
  let v34 : BitVec 32 := Scalar.remsi v21 c32_i32
  let c0_i32_62 : BitVec 32 := 0#32
  let v35 : BitVec 1 := Scalar.cmpi .ne v34 c0_i32_62
  let v36 : BitVec 1 := Scalar.andi v33 v35
  let v22 : BitVec 32 := Scalar.divsi v21 c32_i32
  let c1_i32_63 : BitVec 32 := 1#32
  let v37 : BitVec 32 := Scalar.subi v22 c1_i32_63
  let v38 : BitVec 32 := Scalar.select v36 v37 v22
  let v51 : Index := Scalar.indexCast v38
  let c32_i32_64 : BitVec 32 := 32#32
  let c0_i32_65 : BitVec 32 := 0#32
  let v39 : BitVec 1 := Scalar.cmpi .eq c32_i32_64 c0_i32_65
  let c1_i32_66 : BitVec 32 := 1#32
  let v40 : BitVec 32 := Scalar.select v39 c1_i32_66 c32_i32_64
  let v41 : BitVec 32 := Scalar.remsi v21 v40
  let c0_i32_68 : BitVec 32 := 0#32
  let v43 : BitVec 1 := Scalar.cmpi .slt v41 c0_i32_68
  let c0_i32_69 : BitVec 32 := 0#32
  let v44 : BitVec 1 := Scalar.cmpi .slt v40 c0_i32_69
  let v45 : BitVec 1 := Scalar.xori v43 v44
  let c0_i32_67 : BitVec 32 := 0#32
  let v42 : BitVec 1 := Scalar.cmpi .ne v41 c0_i32_67
  let v46 : BitVec 1 := Scalar.andi v45 v42
  let v47 : BitVec 32 := Scalar.addi v41 v40
  let v48 : BitVec 32 := Scalar.select v46 v47 v41
  let c64_i32_70 : BitVec 32 := 64#32
  let v49 : BitVec 32 := Scalar.muli v48 c64_i32_70
  let v50 : BitVec 32 := Scalar.addi v49 c0_i32_71
  let v52 : Index := Scalar.indexCast v50
  ![v51.toNat, v52.toNat]
def k2_off11 (k2_t10 : Fin k2_t10_loop.trips) : Fin 1 → Nat :=
  let c0_i32_57 : BitVec 32 := 0#32
  let c0_i32_43 : BitVec 32 := 0#32
  let c1_i32_44 : BitVec 32 := 1#32
  let arg13 : BitVec 32 := Scf.iv c0_i32_43 c1_i32_44 k2_t10
  let c1_i32_56 : BitVec 32 := 1#32
  let v20 : BitVec 32 := Scalar.muli arg13 c1_i32_56
  let v21 : BitVec 32 := Scalar.addi c0_i32_57 v20
  let v87 : Index := Scalar.indexCast v21
  ![v87.toNat]
@[reducible] def k2_t11_loop : Scf.Loop 32 :=
  let c0_i32_47 : BitVec 32 := 0#32
  let c8_i32_48 : BitVec 32 := 8#32
  let v18 : BitVec 32 := Scalar.addi c0_i32_47 c8_i32_48
  let c1_i32_49 : BitVec 32 := 1#32
  ⟨c0_i32_47, v18, c1_i32_49⟩
def k2_off12 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v20 : Index := Scalar.indexCast arg13
  let c0 : Index := 0#32
  ![v20.toNat, 0]
def k2_off13 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v22 : Index := Scalar.indexCast arg13
  let c16 : Index := 16#32
  ![v22.toNat, 16]
def k2_off14 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v24 : Index := Scalar.indexCast arg13
  let c32 : Index := 32#32
  ![v24.toNat, 32]
def k2_off15 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v26 : Index := Scalar.indexCast arg13
  let c48 : Index := 48#32
  ![v26.toNat, 48]
@[reducible] def k2_t12_loop : Scf.Loop 32 :=
  let c0_i32_57 : BitVec 32 := 0#32
  let c16_i32_58 : BitVec 32 := 16#32
  let v37 : BitVec 32 := Scalar.addi c0_i32_57 c16_i32_58
  let c1_i32_59 : BitVec 32 := 1#32
  ⟨c0_i32_57, v37, c1_i32_59⟩
@[reducible] def k2_t13_loop : Scf.Loop 32 :=
  let c0_i32_61 : BitVec 32 := 0#32
  let c16_i32_62 : BitVec 32 := 16#32
  let v40 : BitVec 32 := Scalar.addi c0_i32_61 c16_i32_62
  let c1_i32_63 : BitVec 32 := 1#32
  ⟨c0_i32_61, v40, c1_i32_63⟩
@[reducible] def k2_t14_loop : Scf.Loop 32 :=
  let c0_i32_65 : BitVec 32 := 0#32
  let c16_i32_66 : BitVec 32 := 16#32
  let v43 : BitVec 32 := Scalar.addi c0_i32_65 c16_i32_66
  let c1_i32_67 : BitVec 32 := 1#32
  ⟨c0_i32_65, v43, c1_i32_67⟩
@[reducible] def k2_t15_loop : Scf.Loop 32 :=
  let c0_i32_69 : BitVec 32 := 0#32
  let c16_i32_70 : BitVec 32 := 16#32
  let v46 : BitVec 32 := Scalar.addi c0_i32_69 c16_i32_70
  let c1_i32_71 : BitVec 32 := 1#32
  ⟨c0_i32_69, v46, c1_i32_71⟩
@[reducible] def k2_t16_loop : Scf.Loop 32 :=
  let c0_i32_73 : BitVec 32 := 0#32
  let c16_i32_74 : BitVec 32 := 16#32
  let v88 : BitVec 32 := Scalar.addi c0_i32_73 c16_i32_74
  let c1_i32_75 : BitVec 32 := 1#32
  ⟨c0_i32_73, v88, c1_i32_75⟩
@[reducible] def k2_t17_loop : Scf.Loop 32 :=
  let c0_i32_77 : BitVec 32 := 0#32
  let c16_i32_78 : BitVec 32 := 16#32
  let v91 : BitVec 32 := Scalar.addi c0_i32_77 c16_i32_78
  let c1_i32_79 : BitVec 32 := 1#32
  ⟨c0_i32_77, v91, c1_i32_79⟩
@[reducible] def k2_t18_loop : Scf.Loop 32 :=
  let c0_i32_81 : BitVec 32 := 0#32
  let c16_i32_82 : BitVec 32 := 16#32
  let v133 : BitVec 32 := Scalar.addi c0_i32_81 c16_i32_82
  let c1_i32_83 : BitVec 32 := 1#32
  ⟨c0_i32_81, v133, c1_i32_83⟩
@[reducible] def k2_t19_loop : Scf.Loop 32 :=
  let c0_i32_85 : BitVec 32 := 0#32
  let c16_i32_86 : BitVec 32 := 16#32
  let v136 : BitVec 32 := Scalar.addi c0_i32_85 c16_i32_86
  let c1_i32_87 : BitVec 32 := 1#32
  ⟨c0_i32_85, v136, c1_i32_87⟩
@[reducible] def k2_t20_loop : Scf.Loop 32 :=
  let c0_i32_89 : BitVec 32 := 0#32
  let c16_i32_90 : BitVec 32 := 16#32
  let v227 : BitVec 32 := Scalar.addi c0_i32_89 c16_i32_90
  let c1_i32_91 : BitVec 32 := 1#32
  ⟨c0_i32_89, v227, c1_i32_91⟩
@[reducible] def k2_t21_loop : Scf.Loop 32 :=
  let c0_i32_93 : BitVec 32 := 0#32
  let c16_i32_94 : BitVec 32 := 16#32
  let v230 : BitVec 32 := Scalar.addi c0_i32_93 c16_i32_94
  let c1_i32_95 : BitVec 32 := 1#32
  ⟨c0_i32_93, v230, c1_i32_95⟩
@[reducible] def k2_t22_loop : Scf.Loop 32 :=
  let c0_i32_97 : BitVec 32 := 0#32
  let c16_i32_98 : BitVec 32 := 16#32
  let v233 : BitVec 32 := Scalar.addi c0_i32_97 c16_i32_98
  let c1_i32_99 : BitVec 32 := 1#32
  ⟨c0_i32_97, v233, c1_i32_99⟩
@[reducible] def k2_t23_loop : Scf.Loop 32 :=
  let c0_i32_101 : BitVec 32 := 0#32
  let c16_i32_102 : BitVec 32 := 16#32
  let v236 : BitVec 32 := Scalar.addi c0_i32_101 c16_i32_102
  let c1_i32_103 : BitVec 32 := 1#32
  ⟨c0_i32_101, v236, c1_i32_103⟩
@[reducible] def k2_t24_loop : Scf.Loop 32 :=
  let c1_i32_115 : BitVec 32 := 1#32
  let c31_i32 : BitVec 32 := 31#32
  let v266 : BitVec 32 := Scalar.addi c1_i32_115 c31_i32
  let c1_i32_116 : BitVec 32 := 1#32
  ⟨c1_i32_115, v266, c1_i32_116⟩
def k2_off16 (k2_t11 : Fin k2_t11_loop.trips) (k2_t24 : Fin k2_t24_loop.trips) : Fin 1 → Nat :=
  let c0_i32_47 : BitVec 32 := 0#32
  let c1_i32_49 : BitVec 32 := 1#32
  let arg13 : BitVec 32 := Scf.iv c0_i32_47 c1_i32_49 k2_t11
  let c32_i32_127 : BitVec 32 := 32#32
  let v349 : BitVec 32 := Scalar.muli arg13 c32_i32_127
  let c1_i32_115 : BitVec 32 := 1#32
  let c1_i32_116 : BitVec 32 := 1#32
  let arg14 : BitVec 32 := Scf.iv c1_i32_115 c1_i32_116 k2_t24
  let v350 : BitVec 32 := Scalar.addi v349 arg14
  let v351 : Index := Scalar.indexCast v350
  ![v351.toNat]
def k2_off17 (k2_t11 : Fin k2_t11_loop.trips) (k2_t24 : Fin k2_t24_loop.trips) (c0_i32_130 : BitVec 32) : Fin 2 → Nat :=
  let c0_i32_47 : BitVec 32 := 0#32
  let c1_i32_49 : BitVec 32 := 1#32
  let arg13 : BitVec 32 := Scf.iv c0_i32_47 c1_i32_49 k2_t11
  let v359 : Index := Scalar.indexCast arg13
  let c1_i32_115 : BitVec 32 := 1#32
  let c1_i32_116 : BitVec 32 := 1#32
  let arg14 : BitVec 32 := Scf.iv c1_i32_115 c1_i32_116 k2_t24
  let c64_i32_126 : BitVec 32 := 64#32
  let v348 : BitVec 32 := Scalar.muli arg14 c64_i32_126
  let v358 : BitVec 32 := Scalar.addi v348 c0_i32_130
  let v360 : Index := Scalar.indexCast v358
  ![v359.toNat, v360.toNat]
@[reducible] def k2_t25_loop : Scf.Loop 32 :=
  let c0_i32_138 : BitVec 32 := 0#32
  let c16_i32_139 : BitVec 32 := 16#32
  let v391 : BitVec 32 := Scalar.addi c0_i32_138 c16_i32_139
  let c1_i32_140 : BitVec 32 := 1#32
  ⟨c0_i32_138, v391, c1_i32_140⟩
@[reducible] def k2_t26_loop : Scf.Loop 32 :=
  let c0_i32_142 : BitVec 32 := 0#32
  let c16_i32_143 : BitVec 32 := 16#32
  let v394 : BitVec 32 := Scalar.addi c0_i32_142 c16_i32_143
  let c1_i32_144 : BitVec 32 := 1#32
  ⟨c0_i32_142, v394, c1_i32_144⟩
@[reducible] def k2_t27_loop : Scf.Loop 32 :=
  let c0_i32_146 : BitVec 32 := 0#32
  let c16_i32_147 : BitVec 32 := 16#32
  let v397 : BitVec 32 := Scalar.addi c0_i32_146 c16_i32_147
  let c1_i32_148 : BitVec 32 := 1#32
  ⟨c0_i32_146, v397, c1_i32_148⟩
@[reducible] def k2_t28_loop : Scf.Loop 32 :=
  let c0_i32_150 : BitVec 32 := 0#32
  let c16_i32_151 : BitVec 32 := 16#32
  let v400 : BitVec 32 := Scalar.addi c0_i32_150 c16_i32_151
  let c1_i32_152 : BitVec 32 := 1#32
  ⟨c0_i32_150, v400, c1_i32_152⟩
@[reducible] def k2_t29_loop : Scf.Loop 32 :=
  let c0_i32_154 : BitVec 32 := 0#32
  let c16_i32_155 : BitVec 32 := 16#32
  let v442 : BitVec 32 := Scalar.addi c0_i32_154 c16_i32_155
  let c1_i32_156 : BitVec 32 := 1#32
  ⟨c0_i32_154, v442, c1_i32_156⟩
@[reducible] def k2_t30_loop : Scf.Loop 32 :=
  let c0_i32_158 : BitVec 32 := 0#32
  let c16_i32_159 : BitVec 32 := 16#32
  let v445 : BitVec 32 := Scalar.addi c0_i32_158 c16_i32_159
  let c1_i32_160 : BitVec 32 := 1#32
  ⟨c0_i32_158, v445, c1_i32_160⟩
@[reducible] def k2_t31_loop : Scf.Loop 32 :=
  let c0_i32_162 : BitVec 32 := 0#32
  let c16_i32_163 : BitVec 32 := 16#32
  let v487 : BitVec 32 := Scalar.addi c0_i32_162 c16_i32_163
  let c1_i32_164 : BitVec 32 := 1#32
  ⟨c0_i32_162, v487, c1_i32_164⟩
@[reducible] def k2_t32_loop : Scf.Loop 32 :=
  let c0_i32_166 : BitVec 32 := 0#32
  let c16_i32_167 : BitVec 32 := 16#32
  let v490 : BitVec 32 := Scalar.addi c0_i32_166 c16_i32_167
  let c1_i32_168 : BitVec 32 := 1#32
  ⟨c0_i32_166, v490, c1_i32_168⟩
@[reducible] def k2_t33_loop : Scf.Loop 32 :=
  let c0_i32_170 : BitVec 32 := 0#32
  let c16_i32_171 : BitVec 32 := 16#32
  let v581 : BitVec 32 := Scalar.addi c0_i32_170 c16_i32_171
  let c1_i32_172 : BitVec 32 := 1#32
  ⟨c0_i32_170, v581, c1_i32_172⟩
@[reducible] def k2_t34_loop : Scf.Loop 32 :=
  let c0_i32_174 : BitVec 32 := 0#32
  let c16_i32_175 : BitVec 32 := 16#32
  let v584 : BitVec 32 := Scalar.addi c0_i32_174 c16_i32_175
  let c1_i32_176 : BitVec 32 := 1#32
  ⟨c0_i32_174, v584, c1_i32_176⟩
@[reducible] def k2_t35_loop : Scf.Loop 32 :=
  let c0_i32_178 : BitVec 32 := 0#32
  let c16_i32_179 : BitVec 32 := 16#32
  let v587 : BitVec 32 := Scalar.addi c0_i32_178 c16_i32_179
  let c1_i32_180 : BitVec 32 := 1#32
  ⟨c0_i32_178, v587, c1_i32_180⟩
@[reducible] def k2_t36_loop : Scf.Loop 32 :=
  let c0_i32_182 : BitVec 32 := 0#32
  let c16_i32_183 : BitVec 32 := 16#32
  let v590 : BitVec 32 := Scalar.addi c0_i32_182 c16_i32_183
  let c1_i32_184 : BitVec 32 := 1#32
  ⟨c0_i32_182, v590, c1_i32_184⟩
@[reducible] def k2_t37_loop : Scf.Loop 32 :=
  let c0_i32_194 : BitVec 32 := 0#32
  let c16_i32_195 : BitVec 32 := 16#32
  let v769 : BitVec 32 := Scalar.addi c0_i32_194 c16_i32_195
  let c1_i32_196 : BitVec 32 := 1#32
  ⟨c0_i32_194, v769, c1_i32_196⟩
@[reducible] def k2_t38_loop : Scf.Loop 32 :=
  let c0_i32_198 : BitVec 32 := 0#32
  let c16_i32_199 : BitVec 32 := 16#32
  let v772 : BitVec 32 := Scalar.addi c0_i32_198 c16_i32_199
  let c1_i32_200 : BitVec 32 := 1#32
  ⟨c0_i32_198, v772, c1_i32_200⟩
@[reducible] def k2_t39_loop : Scf.Loop 32 :=
  let c0_i32_202 : BitVec 32 := 0#32
  let c16_i32_203 : BitVec 32 := 16#32
  let v775 : BitVec 32 := Scalar.addi c0_i32_202 c16_i32_203
  let c1_i32_204 : BitVec 32 := 1#32
  ⟨c0_i32_202, v775, c1_i32_204⟩
@[reducible] def k2_t40_loop : Scf.Loop 32 :=
  let c0_i32_206 : BitVec 32 := 0#32
  let c16_i32_207 : BitVec 32 := 16#32
  let v778 : BitVec 32 := Scalar.addi c0_i32_206 c16_i32_207
  let c1_i32_208 : BitVec 32 := 1#32
  ⟨c0_i32_206, v778, c1_i32_208⟩
def k2_off18 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v289 : Index := Scalar.indexCast arg13
  let c0_122 : Index := 0#32
  ![v289.toNat, 0]
def k2_off19 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v308 : Index := Scalar.indexCast arg13
  let c16_123 : Index := 16#32
  ![v308.toNat, 16]
def k2_off20 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v327 : Index := Scalar.indexCast arg13
  let c32_124 : Index := 32#32
  ![v327.toNat, 32]
def k2_off21 (k2_t11 : Fin k2_t11_loop.trips) : Fin 2 → Nat :=
  let c0_i32_47 : BitVec 32 := 0#32
  let c1_i32_49 : BitVec 32 := 1#32
  let arg13 : BitVec 32 := Scf.iv c0_i32_47 c1_i32_49 k2_t11
  let v346 : Index := Scalar.indexCast arg13
  let c48_125 : Index := 48#32
  ![v346.toNat, 48]

def k2_chk1 (v267 : IVec S16 32) (v268 : IVec S16 32) : Prop :=
  (∀ a x, ((![v267, v268] : Fin 2 → IVec S16 32) a x).toNat < S8x2048.size a)
theorem k2_idx1_inb : ∀ (v267 : IVec S16 32) (v268 : IVec S16 32) (k2_hw1 : k2_chk1 v267 v268), ∀ a x, ((![v267, v268] : Fin 2 → IVec S16 32) a x).toNat < S8x2048.size a := fun v267 v268 k2_hw1 => k2_hw1

def k2_chk2 (v267 : IVec S16 32) (v269 : IVec S16 32) : Prop :=
  (∀ a x, ((![v267, v269] : Fin 2 → IVec S16 32) a x).toNat < S8x2048.size a)
theorem k2_idx2_inb : ∀ (v267 : IVec S16 32) (v269 : IVec S16 32) (k2_hw2 : k2_chk2 v267 v269), ∀ a x, ((![v267, v269] : Fin 2 → IVec S16 32) a x).toNat < S8x2048.size a := fun v267 v269 k2_hw2 => k2_hw2

def k2_chk3 (v267 : IVec S16 32) (v270 : IVec S16 32) : Prop :=
  (∀ a x, ((![v267, v270] : Fin 2 → IVec S16 32) a x).toNat < S8x2048.size a)
theorem k2_idx3_inb : ∀ (v267 : IVec S16 32) (v270 : IVec S16 32) (k2_hw3 : k2_chk3 v267 v270), ∀ a x, ((![v267, v270] : Fin 2 → IVec S16 32) a x).toNat < S8x2048.size a := fun v267 v270 k2_hw3 => k2_hw3

def k2_chk4 (v267 : IVec S16 32) (v271 : IVec S16 32) : Prop :=
  (∀ a x, ((![v267, v271] : Fin 2 → IVec S16 32) a x).toNat < S8x2048.size a)
theorem k2_idx4_inb : ∀ (v267 : IVec S16 32) (v271 : IVec S16 32) (k2_hw4 : k2_chk4 v267 v271), ∀ a x, ((![v267, v271] : Fin 2 → IVec S16 32) a x).toNat < S8x2048.size a := fun v267 v271 k2_hw4 => k2_hw4
def k2_off22 (i : grid2.Coords) (k2_t9 : Fin k2_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v14 : BitVec 32 := Scalar.muli v1 c64_i32
  let c0_i32_39 : BitVec 32 := 0#32
  let c1_i32_40 : BitVec 32 := 1#32
  let arg12 : BitVec 32 := Scf.iv c0_i32_39 c1_i32_40 k2_t9
  let c8_i32_42 : BitVec 32 := 8#32
  let v15 : BitVec 32 := Scalar.muli arg12 c8_i32_42
  let v16 : BitVec 32 := Scalar.addi v14 v15
  let c0_i32_56_r1 : BitVec 32 := 0#32
  ![v16.toNat, 0]
@[reducible] def k2_t41_loop : Scf.Loop 32 :=
  let c0_i32_52 : BitVec 32 := 0#32
  let c8_i32_53 : BitVec 32 := 8#32
  let v19 : BitVec 32 := Scalar.addi c0_i32_52 c8_i32_53
  let c1_i32_54 : BitVec 32 := 1#32
  ⟨c0_i32_52, v19, c1_i32_54⟩
def k2_off23 (k2_t41 : Fin k2_t41_loop.trips) : Fin 2 → Nat :=
  let c0_i32_52 : BitVec 32 := 0#32
  let c1_i32_54 : BitVec 32 := 1#32
  let arg13 : BitVec 32 := Scf.iv c0_i32_52 c1_i32_54 k2_t41
  let v21 : Index := Scalar.indexCast arg13
  let c0 : Index := 0#32
  ![v21.toNat, 0]

def k2_chk5 (v20 : IVec S16 32) (v22 : IVec S16 32) : Prop :=
  (∀ a x, ((![v20, v22] : Fin 2 → IVec S16 32) a x).toNat < S8x2048.size a)
theorem k2_idx5_inb : ∀ (v20 : IVec S16 32) (v22 : IVec S16 32) (k2_hw5 : k2_chk5 v20 v22), ∀ a x, ((![v20, v22] : Fin 2 → IVec S16 32) a x).toNat < S8x2048.size a := fun v20 v22 k2_hw5 => k2_hw5
def k2_off24 (k2_t41 : Fin k2_t41_loop.trips) : Fin 2 → Nat :=
  let c0_i32_52 : BitVec 32 := 0#32
  let c1_i32_54 : BitVec 32 := 1#32
  let arg13 : BitVec 32 := Scf.iv c0_i32_52 c1_i32_54 k2_t41
  let v23 : Index := Scalar.indexCast arg13
  let c16 : Index := 16#32
  ![v23.toNat, 16]

def k2_chk6 (v20 : IVec S16 32) (v24 : IVec S16 32) : Prop :=
  (∀ a x, ((![v20, v24] : Fin 2 → IVec S16 32) a x).toNat < S8x2048.size a)
theorem k2_idx6_inb : ∀ (v20 : IVec S16 32) (v24 : IVec S16 32) (k2_hw6 : k2_chk6 v20 v24), ∀ a x, ((![v20, v24] : Fin 2 → IVec S16 32) a x).toNat < S8x2048.size a := fun v20 v24 k2_hw6 => k2_hw6
def k2_off25 (k2_t41 : Fin k2_t41_loop.trips) : Fin 2 → Nat :=
  let c0_i32_52 : BitVec 32 := 0#32
  let c1_i32_54 : BitVec 32 := 1#32
  let arg13 : BitVec 32 := Scf.iv c0_i32_52 c1_i32_54 k2_t41
  let v25 : Index := Scalar.indexCast arg13
  let c32 : Index := 32#32
  ![v25.toNat, 32]

def k2_chk7 (v20 : IVec S16 32) (v26 : IVec S16 32) : Prop :=
  (∀ a x, ((![v20, v26] : Fin 2 → IVec S16 32) a x).toNat < S8x2048.size a)
theorem k2_idx7_inb : ∀ (v20 : IVec S16 32) (v26 : IVec S16 32) (k2_hw7 : k2_chk7 v20 v26), ∀ a x, ((![v20, v26] : Fin 2 → IVec S16 32) a x).toNat < S8x2048.size a := fun v20 v26 k2_hw7 => k2_hw7
def k2_off26 (k2_t41 : Fin k2_t41_loop.trips) : Fin 2 → Nat :=
  let c0_i32_52 : BitVec 32 := 0#32
  let c1_i32_54 : BitVec 32 := 1#32
  let arg13 : BitVec 32 := Scf.iv c0_i32_52 c1_i32_54 k2_t41
  let v27 : Index := Scalar.indexCast arg13
  let c48 : Index := 48#32
  ![v27.toNat, 48]

def k2_chk8 (v20 : IVec S16 32) (v28 : IVec S16 32) : Prop :=
  (∀ a x, ((![v20, v28] : Fin 2 → IVec S16 32) a x).toNat < S8x2048.size a)
theorem k2_idx8_inb : ∀ (v20 : IVec S16 32) (v28 : IVec S16 32) (k2_hw8 : k2_chk8 v20 v28), ∀ a x, ((![v20, v28] : Fin 2 → IVec S16 32) a x).toNat < S8x2048.size a := fun v20 v28 k2_hw8 => k2_hw8
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048x2048 : Shape := ⟨3, ![1, 2048, 2048]⟩
abbrev S1x2048x1536 : Shape := ⟨3, ![1, 2048, 1536]⟩
abbrev S1x2048 : Shape := ⟨2, ![1, 2048]⟩
abbrev S1536x16x128 : Shape := ⟨3, ![1536, 16, 128]⟩
abbrev S2048x128 : Shape := ⟨2, ![2048, 128]⟩
abbrev S2048x16 : Shape := ⟨2, ![2048, 16]⟩
abbrev S128 : Shape := ⟨1, ![128]⟩
abbrev S1x2048x16x128 : Shape := ⟨4, ![1, 2048, 16, 128]⟩
abbrev S1x2048x16x64 : Shape := ⟨4, ![1, 2048, 16, 64]⟩
abbrev S32 : Shape := ⟨1, ![32]⟩
abbrev S_ : Shape := ⟨0, ![]⟩
abbrev S1x2048x1 : Shape := ⟨3, ![1, 2048, 1]⟩
abbrev S1x1x32 : Shape := ⟨3, ![1, 1, 32]⟩
abbrev S1x2048x32 : Shape := ⟨3, ![1, 2048, 32]⟩
abbrev S1x2048x1x32 : Shape := ⟨4, ![1, 2048, 1, 32]⟩
abbrev S1x2048x16x32 : Shape := ⟨4, ![1, 2048, 16, 32]⟩
abbrev S1x2048x128 : Shape := ⟨3, ![1, 2048, 128]⟩
abbrev S1x1x128 : Shape := ⟨3, ![1, 1, 128]⟩
abbrev S1x2048x1x128 : Shape := ⟨4, ![1, 2048, 1, 128]⟩
abbrev S1x2048x1x64 : Shape := ⟨4, ![1, 2048, 1, 64]⟩
abbrev S1x2048x2048x16 : Shape := ⟨4, ![1, 2048, 2048, 16]⟩
abbrev S1x2048x16 : Shape := ⟨3, ![1, 2048, 16]⟩
abbrev S1x2048x64 : Shape := ⟨3, ![1, 2048, 64]⟩
abbrev S2048 : Shape := ⟨1, ![2048]⟩
abbrev S1x2048x64x1 : Shape := ⟨4, ![1, 2048, 64, 1]⟩
abbrev S1x1x1x2048 : Shape := ⟨4, ![1, 1, 1, 2048]⟩
abbrev S1x2048x64x2048 : Shape := ⟨4, ![1, 2048, 64, 2048]⟩

abbrev nBuf : Space → Nat
  | .hbm => 165
  | .vmem => 0
  | .smem => 0
  | _ => 0

abbrev hbmTy0_0 (i : Nat) : BufTy := match i % 128 with
  | 0 => ⟨S1x2048x2048, .f32⟩
  | 1 => ⟨S1x2048x1536, .f32⟩
  | 2 => ⟨S1x2048x2048, .f32⟩
  | 3 => ⟨S1x2048, .i32⟩
  | 4 => ⟨S1536x16x128, .f32⟩
  | 5 => ⟨S2048x128, .f32⟩
  | 6 => ⟨S2048x16, .f32⟩
  | 7 => ⟨S128, .f32⟩
  | 8 => ⟨S128, .f32⟩
  | 9 => ⟨S1x2048x16x128, .f32⟩
  | 10 => ⟨S1x2048x16x64, .f32⟩
  | 11 => ⟨S1x2048x16x64, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S1x2048, .f32⟩
  | 29 => ⟨S1x2048x1, .f32⟩
  | 30 => ⟨S1x1x32, .f32⟩
  | 31 => ⟨S1x2048x32, .f32⟩
  | 32 => ⟨S1x2048x32, .f32⟩
  | 33 => ⟨S1x2048x32, .f32⟩
  | 34 => ⟨S1x2048x32, .f32⟩
  | 35 => ⟨S1x2048x1x32, .f32⟩
  | 36 => ⟨S1x2048x32, .f32⟩
  | 37 => ⟨S1x2048x1x32, .f32⟩
  | 38 => ⟨S1x2048x16x32, .f32⟩
  | 39 => ⟨S1x2048x16x32, .f32⟩
  | 40 => ⟨S1x2048x16x32, .f32⟩
  | 41 => ⟨S1x2048x16x32, .f32⟩
  | 42 => ⟨S1x2048x16x32, .f32⟩
  | 43 => ⟨S1x2048x16x32, .f32⟩
  | 44 => ⟨S1x2048x16x32, .f32⟩
  | 45 => ⟨S1x2048x16x32, .f32⟩
  | 46 => ⟨S1x2048x16x32, .f32⟩
  | 47 => ⟨S1x2048x16x32, .f32⟩
  | 48 => ⟨S1x2048x16x32, .f32⟩
  | 49 => ⟨S1x2048x16x32, .f32⟩
  | 50 => ⟨S1x2048x16x64, .f32⟩
  | 51 => ⟨S1x2048x16x128, .f32⟩
  | 52 => ⟨S1x2048x128, .f32⟩
  | 53 => ⟨S_, .f32⟩
  | 54 => ⟨S1x2048, .f32⟩
  | 55 => ⟨S1x2048x1, .f32⟩
  | 56 => ⟨S_, .f32⟩
  | 57 => ⟨S1x2048x1, .f32⟩
  | 58 => ⟨S1x2048x1, .f32⟩
  | 59 => ⟨S_, .i32⟩
  | 60 => ⟨S_, .f32⟩
  | 61 => ⟨S1x2048, .f32⟩
  | 62 => ⟨S1x2048x1, .f32⟩
  | 63 => ⟨S_, .f32⟩
  | 64 => ⟨S1x2048x1, .f32⟩
  | 65 => ⟨S1x2048x1, .f32⟩
  | 66 => ⟨S1x2048x128, .f32⟩
  | 67 => ⟨S1x2048x128, .f32⟩
  | 68 => ⟨S1x2048x128, .f32⟩
  | 69 => ⟨S_, .f32⟩
  | 70 => ⟨S_, .f32⟩
  | 71 => ⟨S_, .f32⟩
  | 72 => ⟨S_, .f32⟩
  | 73 => ⟨S1x2048, .f32⟩
  | 74 => ⟨S1x2048x1, .f32⟩
  | 75 => ⟨S1x2048x1, .f32⟩
  | 76 => ⟨S1x2048x1, .f32⟩
  | 77 => ⟨S_, .f32⟩
  | 78 => ⟨S_, .i1⟩
  | 79 => ⟨S_, .f32⟩
  | 80 => ⟨S_, .f32⟩
  | 81 => ⟨S1x2048x1, .f32⟩
  | 82 => ⟨S1x2048x1, .f32⟩
  | 83 => ⟨S1x2048x128, .f32⟩
  | 84 => ⟨S1x2048x128, .f32⟩
  | 85 => ⟨S_, .f32⟩
  | 86 => ⟨S1x2048x1, .f32⟩
  | 87 => ⟨S1x2048x1, .f32⟩
  | 88 => ⟨S1x2048x1, .f32⟩
  | 89 => ⟨S1x2048x128, .f32⟩
  | 90 => ⟨S1x2048x128, .f32⟩
  | 91 => ⟨S1x1x128, .f32⟩
  | 92 => ⟨S1x2048x128, .f32⟩
  | 93 => ⟨S1x2048x128, .f32⟩
  | 94 => ⟨S1x1x128, .f32⟩
  | 95 => ⟨S1x2048x128, .f32⟩
  | 96 => ⟨S1x2048x128, .f32⟩
  | 97 => ⟨S1x2048x1x128, .f32⟩
  | 98 => ⟨S1x2048x1x64, .f32⟩
  | 99 => ⟨S1x2048x1x64, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S1x2048, .f32⟩
  | 117 => ⟨S1x2048x1, .f32⟩
  | 118 => ⟨S1x1x32, .f32⟩
  | 119 => ⟨S1x2048x32, .f32⟩
  | 120 => ⟨S1x2048x32, .f32⟩
  | 121 => ⟨S1x2048x32, .f32⟩
  | 122 => ⟨S1x2048x32, .f32⟩
  | 123 => ⟨S1x2048x1x32, .f32⟩
  | 124 => ⟨S1x2048x32, .f32⟩
  | 125 => ⟨S1x2048x1x32, .f32⟩
  | 126 => ⟨S1x2048x1x32, .f32⟩
  | 127 => ⟨S1x2048x1x32, .f32⟩
  | _ => ⟨S1x2048x2048, .f32⟩

abbrev hbmTy0_1 (i : Nat) : BufTy := match i % 128 with
  | 0 => ⟨S1x2048x1x32, .f32⟩
  | 1 => ⟨S1x2048x1x32, .f32⟩
  | 2 => ⟨S1x2048x1x32, .f32⟩
  | 3 => ⟨S1x2048x1x32, .f32⟩
  | 4 => ⟨S1x2048x1x32, .f32⟩
  | 5 => ⟨S1x2048x1x32, .f32⟩
  | 6 => ⟨S1x2048x1x64, .f32⟩
  | 7 => ⟨S1x2048x1x128, .f32⟩
  | 8 => ⟨S1x2048x128, .f32⟩
  | 9 => ⟨S1x2048x2048x16, .f32⟩
  | 10 => ⟨S1x2048x2048x16, .f32⟩
  | 11 => ⟨S_, .f32⟩
  | 12 => ⟨S1x2048x2048x16, .f32⟩
  | 13 => ⟨S1x2048x2048x16, .f32⟩
  | 14 => ⟨S1x2048x16, .f32⟩
  | 15 => ⟨S_, .f32⟩
  | 16 => ⟨S1x2048x16, .f32⟩
  | 17 => ⟨S1x2048x16, .f32⟩
  | 18 => ⟨S_, .f32⟩
  | 19 => ⟨S1x2048x16, .f32⟩
  | 20 => ⟨S1x2048x16, .f32⟩
  | 21 => ⟨S1x2048x2048, .f32⟩
  | 22 => ⟨S1x2048x64, .f32⟩
  | 23 => ⟨S1x2048x64, .i32⟩
  | 24 => ⟨S2048, .i32⟩
  | 25 => ⟨S1x2048x64x1, .i32⟩
  | 26 => ⟨S1x1x1x2048, .i32⟩
  | 27 => ⟨S1x2048x64x2048, .i32⟩
  | 28 => ⟨S1x2048x64x2048, .i32⟩
  | 29 => ⟨S1x2048x64x2048, .i1⟩
  | 30 => ⟨S_, .i1⟩
  | 31 => ⟨S1x2048x2048, .i1⟩
  | 32 => ⟨S_, .f32⟩
  | 33 => ⟨S_, .f32⟩
  | 34 => ⟨S1x2048x2048, .f32⟩
  | 35 => ⟨S1x2048x2048, .f32⟩
  | 36 => ⟨S1x2048x2048, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_c : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_cst_3 : Ref sig .tc := ⟨.hbm, 77, rfl⟩
abbrev main_call0_v13 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_6 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_cst_8 : Ref sig .tc := ⟨.hbm, 104, rfl⟩
abbrev main_v63 : Ref sig .tc := ⟨.hbm, 105, rfl⟩
abbrev main_v64 : Ref sig .tc := ⟨.hbm, 106, rfl⟩
abbrev main_cst_9 : Ref sig .tc := ⟨.hbm, 107, rfl⟩
abbrev main_v65 : Ref sig .tc := ⟨.hbm, 108, rfl⟩
abbrev main_v66 : Ref sig .tc := ⟨.hbm, 109, rfl⟩
abbrev main_cst_10 : Ref sig .tc := ⟨.hbm, 110, rfl⟩
abbrev main_v67 : Ref sig .tc := ⟨.hbm, 111, rfl⟩
abbrev main_v68 : Ref sig .tc := ⟨.hbm, 112, rfl⟩
abbrev main_cst_11 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_call1_cst : Ref sig .tc := ⟨.hbm, 139, rfl⟩
abbrev main_call1_v0 : Ref sig .tc := ⟨.hbm, 140, rfl⟩
abbrev main_v94 : Ref sig .tc := ⟨.hbm, 141, rfl⟩
abbrev main_v95 : Ref sig .tc := ⟨.hbm, 142, rfl⟩
abbrev main_cst_12 : Ref sig .tc := ⟨.hbm, 143, rfl⟩
abbrev main_v96 : Ref sig .tc := ⟨.hbm, 144, rfl⟩
abbrev main_v97 : Ref sig .tc := ⟨.hbm, 145, rfl⟩
abbrev main_cst_13 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_values : Ref sig .tc := ⟨.hbm, 150, rfl⟩
abbrev main_indices : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_c_14 : Ref sig .tc := ⟨.hbm, 158, rfl⟩
abbrev main_v107 : Ref sig .tc := ⟨.hbm, 159, rfl⟩
abbrev main_cst_15 : Ref sig .tc := ⟨.hbm, 160, rfl⟩
abbrev main_cst_16 : Ref sig .tc := ⟨.hbm, 161, rfl⟩
abbrev main_call2_v0 : Ref sig .tc := ⟨.hbm, 162, rfl⟩
abbrev main_call2_v1 : Ref sig .tc := ⟨.hbm, 163, rfl⟩
abbrev main_v108 : Ref sig .tc := ⟨.hbm, 164, rfl⟩

abbrev nD : Nat := 1
abbrev τ : Topo := Topo.v7x

variable {F : FTy → Type} [FloatOps F]
-- ==== Proof.Net.lean ====
/-
  The register operations of the row routine, written once: a vector of sixteen keys travels with a vector of
  sixteen positions, and every operation moves the two together. `sortReg` sorts one register, `cmpx` is the
  compare-exchange of two, `sort64` sorts four, `mergeTop` keeps the best sixty-four of two sorted quadruples.
-/
module

public import proofs.«01_k».proof.Proof.Gen.KernelIdeal.Skeleton

@[expose] public section

noncomputable section

universe v

namespace Cert.KernelIdeal.Net

open Idealize.ShloMosaic Idealize.SL.Sem
open Cert.KernelIdeal Cert.KernelIdeal.Gen

variable {F : FTy → Type} [FloatOps F]

/-- A register of keys and the register of their positions. -/
abbrev KI (F : FTy → Type) := Vec F S16 .f32 × IVec S16 32

/-- The lane numbers. -/
def lanes : IVec S16 32 := iota .scVector S16 32 [0] iota_S16_d0_w32_scVector

/-- The lanes in the opposite order. -/
def rev {α : Type} (x : S16.Idx → α) : S16.Idx → α :=
  concatenate S16 0 [⟨S1, extractStridedSlice S1 ![15] x slices_S16_o15_S1⟩, ⟨S1, extractStridedSlice S1 ![14] x slices_S16_o14_S1⟩,
    ⟨S1, extractStridedSlice S1 ![13] x slices_S16_o13_S1⟩, ⟨S1, extractStridedSlice S1 ![12] x slices_S16_o12_S1⟩,
    ⟨S1, extractStridedSlice S1 ![11] x slices_S16_o11_S1⟩, ⟨S1, extractStridedSlice S1 ![10] x slices_S16_o10_S1⟩,
    ⟨S1, extractStridedSlice S1 ![9] x slices_S16_o9_S1⟩, ⟨S1, extractStridedSlice S1 ![8] x slices_S16_o8_S1⟩,
    ⟨S1, extractStridedSlice S1 ![7] x slices_S16_o7_S1⟩, ⟨S1, extractStridedSlice S1 ![6] x slices_S16_o6_S1⟩,
    ⟨S1, extractStridedSlice S1 ![5] x slices_S16_o5_S1⟩, ⟨S1, extractStridedSlice S1 ![4] x slices_S16_o4_S1⟩,
    ⟨S1, extractStridedSlice S1 ![3] x slices_S16_o3_S1⟩, ⟨S1, extractStridedSlice S1 ![2] x slices_S16_o2_S1⟩,
    ⟨S1, extractStridedSlice S1 ![1] x slices_S16_o1_S1⟩, ⟨S1, extractStridedSlice S1 ![0] x slices_S16_o0_S1⟩]
    concatenates_S1_S1_S1_S1_S1_S1_S1_S1_S1_S1_S1_S1_S1_S1_S1_S1_S16_d0

def rot8 {α : Type} (x : S16.Idx → α) : S16.Idx → α :=
  concatenate S16 0 [⟨S8, extractStridedSlice S8 ![8] x slices_S16_o8_S8⟩, ⟨S8, extractStridedSlice S8 ![0] x slices_S16_o0_S8⟩]
    concatenates_S8_S8_S16_d0
def rot4 {α : Type} (x : S16.Idx → α) : S16.Idx → α :=
  concatenate S16 0 [⟨S12, extractStridedSlice S12 ![4] x slices_S16_o4_S12⟩, ⟨S4, extractStridedSlice S4 ![0] x slices_S16_o0_S4⟩]
    concatenates_S12_S4_S16_d0
def rot2 {α : Type} (x : S16.Idx → α) : S16.Idx → α :=
  concatenate S16 0 [⟨S14, extractStridedSlice S14 ![2] x slices_S16_o2_S14⟩, ⟨S2, extractStridedSlice S2 ![0] x slices_S16_o0_S2⟩]
    concatenates_S14_S2_S16_d0
/-- The lanes turned by one: lane `l` takes lane `l + 1`. -/
def rot1 {α : Type} (x : S16.Idx → α) : S16.Idx → α :=
  concatenate S16 0 [⟨S15, extractStridedSlice S15 ![1] x slices_S16_o1_S15⟩, ⟨S1, extractStridedSlice S1 ![0] x slices_S16_o0_S1⟩]
    concatenates_S15_S1_S16_d0

/-- The first lane. -/
def head {α : Type} (x : S16.Idx → α) : α := extractAt ![0] (extractStridedSlice S1 ![0] x slices_S16_o0_S1) inpos_S1_p0

/-- The greatest lane, by four halvings. -/
def laneMax (x : Vec F S16 .f32) : F .f32 :=
  let a : Vec F S16 .f32 := maximumf x (rot8 x)
  let b : Vec F S16 .f32 := maximumf a (rot4 a)
  let c : Vec F S16 .f32 := maximumf b (rot2 b)
  head (maximumf c (rot1 c))

/-- The least lane, by four halvings. -/
def laneMin (x : Vec F S16 .f32) : F .f32 :=
  let a : Vec F S16 .f32 := minimumf x (rot8 x)
  let b : Vec F S16 .f32 := minimumf a (rot4 a)
  let c : Vec F S16 .f32 := minimumf b (rot2 b)
  head (minimumf c (rot1 c))

/-- Which lane the key that is at the head in turn `n` belongs in: the number of keys before it. -/
def placeMask (k : Vec F S16 .f32) (n : Nat) (a : Vec F S16 .f32) : IVec S16 1 :=
  cmpi .eq lanes (broadcast S16 (extractAt ![15] (scan .sum (extui 32 (ori (cmpf .olt k (broadcast S16 (head a)))
    (andi (cmpf .oeq k (broadcast S16 (head a))) (cmpi .slt lanes (broadcast S16 (Scf.iv 0#32 1#32 n))))) natLt_1_32)) inpos_S16_p15))

/-- One turn of the sort: the key and position at the head are put in their lane, the rest turns by one. -/
def placeStep (k : Vec F S16 .f32) (n : Nat) : Vec F S16 .f32 × IVec S16 32 × Vec F S16 .f32 × IVec S16 32 →
    Vec F S16 .f32 × IVec S16 32 × Vec F S16 .f32 × IVec S16 32 :=
  fun (a, b, c, d) => (rot1 a, rot1 b, select (placeMask k n a) (broadcast S16 (head a)) c,
    select (placeMask k n a) (broadcast S16 (head b)) d)

/-- The state of the sort after `n` turns. -/
def placeN (x : KI F) : Nat → Vec F S16 .f32 × IVec S16 32 × Vec F S16 .f32 × IVec S16 32
  | 0 => (x.1, x.2, x.1, x.2)
  | n + 1 => placeStep x.1 n (placeN x n)

/-- A register sorted, least key first. -/
@[irreducible] def sortReg (x : KI F) : KI F := ((placeN x 16).2.2.1, (placeN x 16).2.2.2)

/-- The loop of sixteen turns computes it. -/
theorem sort_for {E : Type → Type v} (L : Scf.Loop 32) (hok : L.OK) (k : Vec F S16 .f32) (i : IVec S16 32)
    (body : Fin L.trips → Vec F S16 .f32 × IVec S16 32 × Vec F S16 .f32 × IVec S16 32 →
      Prog E (Vec F S16 .f32 × IVec S16 32 × Vec F S16 .f32 × IVec S16 32))
    (ht : L.trips = 16) (h : ∀ n s, body n s = .ret (placeStep k n.val s)) :
    Scf.Loop.for L hok (k, i, k, i) body
      = .ret ((placeN (k, i) 16).1, (placeN (k, i) 16).2.1, (sortReg (k, i)).1, (sortReg (k, i)).2) := by
  have key : ∀ (m : Nat) (hm : m ≤ L.trips),
      Scf.forFrom body ((List.finRange L.trips).drop m) (placeN (k, i) m) = .ret (placeN (k, i) L.trips) := by
    intro m hm
    induction hd : L.trips - m generalizing m with
    | zero =>
      obtain rfl : m = L.trips := by omega
      rw [List.drop_of_length_le (by simp), Scf.forFrom_nil]
    | succ d ih =>
      have hlt : m < L.trips := by omega
      rw [List.drop_eq_getElem_cons (by simpa using hlt), List.getElem_finRange, Fin.cast_mk, Scf.forFrom_cons, h]
      exact ih (m + 1) (by omega) (by omega)
  have h0 := key 0 (Nat.zero_le _)
  rw [List.drop_zero] at h0
  rw [Scf.Loop.for, Scf.for_eq]
  unfold sortReg
  refine h0.trans ?_
  rw [ht]

/-- Lane by lane, the smaller of two keys with its position, and the greater with its own. -/
def cmpx (x y : KI F) : KI F × KI F :=
  ((select (cmpf .oge x.1 y.1) y.1 x.1, select (cmpf .oge x.1 y.1) y.2 x.2),
    (select (cmpf .oge x.1 y.1) x.1 y.1, select (cmpf .oge x.1 y.1) x.2 y.2))

/-- Lane by lane, the greater of two keys with its position. -/
def better (x y : KI F) : KI F := (cmpx x y).2

/-- A register and its positions in the opposite order. -/
def revK (x : KI F) : KI F := (rev x.1, rev x.2)

/-- Two sorted registers merged into the sorted thirty-two. -/
def merge16 (x y : KI F) : KI F × KI F := (sortReg (cmpx x (revK y)).1, sortReg (cmpx x (revK y)).2)

/-- Four registers of keys with their positions. -/
structure Regs (F : FTy → Type) where
  r0 : KI F
  r1 : KI F
  r2 : KI F
  r3 : KI F

/-- Each register sorted. -/
def Regs.sorted (s : Regs F) : Regs F := ⟨sortReg s.r0, sortReg s.r1, sortReg s.r2, sortReg s.r3⟩

/-- Two merged pairs spread over four registers, every key of one register at most every key of the next. -/
def spread32 (a b : KI F × KI F) : Regs F :=
  ⟨(cmpx (cmpx a.1 (revK b.2)).1 (cmpx a.2 (revK b.1)).1).1, (cmpx (cmpx a.1 (revK b.2)).1 (cmpx a.2 (revK b.1)).1).2,
    (cmpx (cmpx a.1 (revK b.2)).2 (cmpx a.2 (revK b.1)).2).1, (cmpx (cmpx a.1 (revK b.2)).2 (cmpx a.2 (revK b.1)).2).2⟩

/-- Sixty-four keys sorted. -/
def sort64 (s : Regs F) : Regs F :=
  (spread32 (merge16 (sortReg s.r0) (sortReg s.r1)) (merge16 (sortReg s.r2) (sortReg s.r3))).sorted

/-- Two rounds of compare-exchanges: registers two apart, then one apart. -/
def spread64 (h : Regs F) : Regs F :=
  ⟨(cmpx (cmpx h.r0 h.r2).1 (cmpx h.r1 h.r3).1).1, (cmpx (cmpx h.r0 h.r2).1 (cmpx h.r1 h.r3).1).2,
    (cmpx (cmpx h.r0 h.r2).2 (cmpx h.r1 h.r3).2).1, (cmpx (cmpx h.r0 h.r2).2 (cmpx h.r1 h.r3).2).2⟩

/-- Lane by lane, the greater of two sorted quadruples, the second taken from its end. -/
def upper (t c : Regs F) : Regs F :=
  ⟨better t.r0 (revK c.r3), better t.r1 (revK c.r2), better t.r2 (revK c.r1), better t.r3 (revK c.r0)⟩

/-- The best sixty-four of two sorted quadruples, sorted. -/
def mergeTop (t c : Regs F) : Regs F := (spread64 (upper t c)).sorted

end Cert.KernelIdeal.Net

end
-- ==== Proof.Parts.lean ====
/-
  The chunk's and the row's straight-line parts, as programs over the register operations of `Net`: each part's
  sort loops computed (`sort_for`) and its values named.
-/
module

public import proofs.«01_k».proof.Proof.Net

@[expose] public section

set_option maxRecDepth 65536
set_option maxHeartbeats 4000000

noncomputable section

universe v

namespace Cert.KernelIdeal.Net

open Idealize.ShloMosaic Idealize.SL.Sem
open Cert.KernelIdeal Cert.KernelIdeal.Gen

variable {F : FTy → Type} [FloatOps F]

theorem bindc {E : Type → Type v} {α β : Type} (p : Prog E α) {f g : α → Prog E β} (h : ∀ a, f a = g a) :
    p >>= f = p >>= g := by rw [funext h]

/-- A loaded row of sixteen as a register. -/
def reg (x : Vec F S1x16 .f32) : Vec F S16 .f32 := shapeCast S16 x shapeCasts_S1x16_S16

/-- The positions of the register at `off` of the chunk that begins at `b`. -/
def posn (v : IVec S16 32) (b off : BitVec 32) : IVec S16 32 := addi (addi v (broadcast S16 b)) (broadcast S16 off)

variable (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

theorem part2_eq (v : IVec S16 32) (n11 : Fin k2_t11_loop.trips) (b : BitVec 32) (n24 : Fin k2_t24_loop.trips) (st : BitVec 32) :
    k2_part2 i arg2 harg2 arg3 harg3 arg4 harg4 arg5 harg5 arg6 harg6 arg7 harg7 arg8 harg8 arg9 harg9 arg10 harg10 arg11 harg11 r0 r1 r2 v n11 b n24 st
      = (do
        let x0 : Vec F S1x16 .f32 ← Prog.lift (.load arg5 (Rect.unit (s := S8x2048) (k2_off17 n11 n24 0#32) S1x16.size (k2_off17_inb n11 n24 0)).toLoadRect (View.loadsAt_vmem h_S1x16))
        let x1 : Vec F S1x16 .f32 ← Prog.lift (.load arg5 (Rect.unit (s := S8x2048) (k2_off17 n11 n24 16#32) S1x16.size (k2_off17_inb n11 n24 1)).toLoadRect (View.loadsAt_vmem h_S1x16))
        let x2 : Vec F S1x16 .f32 ← Prog.lift (.load arg5 (Rect.unit (s := S8x2048) (k2_off17 n11 n24 32#32) S1x16.size (k2_off17_inb n11 n24 2)).toLoadRect (View.loadsAt_vmem h_S1x16))
        let x3 : Vec F S1x16 .f32 ← Prog.lift (.load arg5 (Rect.unit (s := S8x2048) (k2_off17 n11 n24 48#32) S1x16.size (k2_off17_inb n11 n24 3)).toLoadRect (View.loadsAt_vmem h_S1x16))
        pure ⟨reg x2, reg x3, posn v st 32#32, posn v st 48#32,
          (sortReg (reg x0, posn v st 0#32)).1, (sortReg (reg x0, posn v st 0#32)).2,
          (sortReg (reg x1, posn v st 16#32)).1, (sortReg (reg x1, posn v st 16#32)).2, lanes, 0#32⟩) := by
  rw [k2_part2_eq_skeleton]
  unfold k2_part2_skel
  refine bindc _ fun x0 => bindc _ fun x1 => bindc _ fun x2 => bindc _ fun x3 => ?_
  rw [sort_for, sort_for]
  · rfl
  all_goals first | decide | exact fun _ _ => rfl

theorem part3_eq (k2 k3 : Vec F S16 .f32) (i2 i3 : IVec S16 32) (ka kb : Vec F S16 .f32) (ia ib : IVec S16 32) :
    k2_part3 i arg2 harg2 arg3 harg3 arg4 harg4 arg5 harg5 arg6 harg6 arg7 harg7 arg8 harg8 arg9 harg9 arg10 harg10 arg11 harg11 r0 r1 r2 k2 k3 i2 i3 ka ia kb ib lanes 0#32
      = .ret ⟨(sortReg (k2, i2)).1, (sortReg (k2, i2)).2, (sortReg (k3, i3)).1, (sortReg (k3, i3)).2,
          (cmpx (ka, ia) (revK (kb, ib))).2.1, (cmpx (ka, ia) (revK (kb, ib))).2.2,
          (merge16 (ka, ia) (kb, ib)).1.1, (merge16 (ka, ia) (kb, ib)).1.2, lanes, 0#32⟩ := by
  rw [k2_part3_eq_skeleton]
  unfold k2_part3_skel
  rw [sort_for, sort_for, sort_for]
  · rfl
  all_goals first | decide | exact fun _ _ => rfl

theorem part4_eq (k2 k3 kl : Vec F S16 .f32) (i2 i3 il : IVec S16 32) :
    k2_part4 i arg2 harg2 arg3 harg3 arg4 harg4 arg5 harg5 arg6 harg6 arg7 harg7 arg8 harg8 arg9 harg9 arg10 harg10 arg11 harg11 r0 r1 r2 k2 i2 k3 i3 kl il lanes 0#32
      = .ret ⟨(sortReg (kl, il)).1, (sortReg (kl, il)).2, (merge16 (k2, i2) (k3, i3)).1.1, (merge16 (k2, i2) (k3, i3)).1.2,
          (merge16 (k2, i2) (k3, i3)).2.1, (merge16 (k2, i2) (k3, i3)).2.2,
          k2_pay75 (merge16 (k2, i2) (k3, i3)).2.1, k2_pay76 (merge16 (k2, i2) (k3, i3)).2.1⟩ := by
  rw [k2_part4_eq_skeleton]
  unfold k2_part4_skel
  rw [sort_for, sort_for, sort_for]
  · rfl
  all_goals first | decide | exact fun _ _ => rfl

theorem part5_eq (k2 k3 : Vec F S16 .f32) (i2 i3 : IVec S16 32) :
    k2_part5 i arg2 harg2 arg3 harg3 arg4 harg4 arg5 harg5 arg6 harg6 arg7 harg7 arg8 harg8 arg9 harg9 arg10 harg10 arg11 harg11 r0 r1 r2 k2 i2 k3 i3 (k2_pay75 k3) (k2_pay76 k3)
      = .ret ⟨rev k3, rev i3, rev k2, k2_pay80 i2, k2_pay81 i2, k2_pay82 i2, k2_pay83 i2, k2_pay84 i2, k2_pay85 i2, k2_pay86 i2,
          k2_pay87 i2, k2_pay88 i2, k2_pay89 i2, k2_pay90 i2⟩ := by
  rw [k2_part5_eq_skeleton]
  rfl

theorem part6_eq (ka kb k2 k3 : Vec F S16 .f32) (ia ib i2 i3 : IVec S16 32) :
    k2_part6 i arg2 harg2 arg3 harg3 arg4 harg4 arg5 harg5 arg6 harg6 arg7 harg7 arg8 harg8 arg9 harg9 arg10 harg10 arg11 harg11 r0 r1 r2 ka ia kb ib i2 (rev k3) (rev i3) (rev k2) (k2_pay80 i2) (k2_pay81 i2) (k2_pay82 i2) (k2_pay83 i2) (k2_pay84 i2)
        (k2_pay85 i2) (k2_pay86 i2) (k2_pay87 i2) (k2_pay88 i2) (k2_pay89 i2) (k2_pay90 i2)
      = (do
        let t0 : Vec F S16 .f32 ← Prog.lift (.load arg8 (Rect.unit (s := S64) ![0] S16.size inb_S64_S16_0).toLoadRect (View.loadsAt_vmem h_S16))
        let t1 : Vec F S16 .f32 ← Prog.lift (.load arg8 (Rect.unit (s := S64) ![16] S16.size inb_S64_S16_16).toLoadRect (View.loadsAt_vmem h_S16))
        let t2 : Vec F S16 .f32 ← Prog.lift (.load arg8 (Rect.unit (s := S64) ![32] S16.size inb_S64_S16_32).toLoadRect (View.loadsAt_vmem h_S16))
        pure (let c := (spread32 ((ka, ia), (kb, ib)) ((k2, i2), (k3, i3))).sorted
          ⟨c.r0.1, c.r0.2, c.r1.1, c.r1.2, c.r2.1, c.r2.2, c.r3.1, c.r3.2, t0, t1, t2⟩)) := by
  rw [k2_part6_eq_skeleton]
  unfold k2_part6_skel
  rw [sort_for, sort_for, sort_for, sort_for]
  · rfl
  all_goals first | decide | exact fun _ _ => rfl

theorem part7_eq (k1 k2 k3 : Vec F S16 .f32) :
    k2_part7 i arg2 harg2 arg3 harg3 arg4 harg4 arg5 harg5 arg6 harg6 arg7 harg7 arg8 harg8 arg9 harg9 arg10 harg10 arg11 harg11 r0 r1 r2 k1 k2 k3
      = (do
        let t3 : Vec F S16 .f32 ← Prog.lift (.load arg8 (Rect.unit (s := S64) ![48] S16.size inb_S64_S16_48).toLoadRect (View.loadsAt_vmem h_S16))
        let j0 : Vec F S16 .i32 ← Prog.lift (.load arg9 (Rect.unit (s := S64) ![0] S16.size inb_S64_S16_0).toLoadRect (View.loadsAt_vmem h_S16))
        let j1 : Vec F S16 .i32 ← Prog.lift (.load arg9 (Rect.unit (s := S64) ![16] S16.size inb_S64_S16_16).toLoadRect (View.loadsAt_vmem h_S16))
        let j2 : Vec F S16 .i32 ← Prog.lift (.load arg9 (Rect.unit (s := S64) ![32] S16.size inb_S64_S16_32).toLoadRect (View.loadsAt_vmem h_S16))
        let j3 : Vec F S16 .i32 ← Prog.lift (.load arg9 (Rect.unit (s := S64) ![48] S16.size inb_S64_S16_48).toLoadRect (View.loadsAt_vmem h_S16))
        pure ⟨t3, j0, j1, j2, j3, rev k3, rev k2, k2_pay138 k1, k2_pay139 k1, k2_pay140 k1, k2_pay141 k1, k2_pay142 k1, k2_pay143 k1,
          k2_pay144 k1, k2_pay145 k1, k2_pay146 k1, k2_pay147 k1, k2_pay148 k1, k2_pay149 k1, k2_pay150 k1, k2_pay151 k1,
          k2_pay152 k1, k2_pay153 k1⟩) := by
  rw [k2_part7_eq_skeleton]
  rfl

theorem part8_eq (k0 k1 : Vec F S16 .f32) (i1 i2 i3 : IVec S16 32) :
    k2_part8 i arg2 harg2 arg3 harg3 arg4 harg4 arg5 harg5 arg6 harg6 arg7 harg7 arg8 harg8 arg9 harg9 arg10 harg10 arg11 harg11 r0 r1 r2 k0 i1 i2 i3 (k2_pay138 k1) (k2_pay139 k1) (k2_pay140 k1) (k2_pay141 k1) (k2_pay142 k1) (k2_pay143 k1)
        (k2_pay144 k1) (k2_pay145 k1) (k2_pay146 k1) (k2_pay147 k1) (k2_pay148 k1) (k2_pay149 k1) (k2_pay150 k1) (k2_pay151 k1)
        (k2_pay152 k1) (k2_pay153 k1)
      = .ret ⟨rev k1, rev k0, rev i3, rev i2, k2_pay158 i1, k2_pay159 i1, k2_pay160 i1, k2_pay161 i1, k2_pay162 i1, k2_pay163 i1,
          k2_pay164 i1, k2_pay165 i1⟩ := by
  rw [k2_part8_eq_skeleton]
  rfl

theorem part9_eq (t0 t1 t2 t3 k0 k1 k2 k3 : Vec F S16 .f32) (j0 j1 j2 j3 : IVec S16 32) (i0 i1 i2 i3 : IVec S16 32) :
    k2_part9 i arg2 harg2 arg3 harg3 arg4 harg4 arg5 harg5 arg6 harg6 arg7 harg7 arg8 harg8 arg9 harg9 arg10 harg10 arg11 harg11 r0 r1 r2 i0 i1 t0 t1 t2 t3 j0 j1 j2 j3 (rev k3) (rev k2) (rev k1) (rev k0) (rev i3) (rev i2) (k2_pay158 i1) (k2_pay159 i1)
        (k2_pay160 i1) (k2_pay161 i1) (k2_pay162 i1) (k2_pay163 i1) (k2_pay164 i1) (k2_pay165 i1)
      = .ret (let a := spread64 (upper ⟨(t0, j0), (t1, j1), (t2, j2), (t3, j3)⟩ ⟨(k0, i0), (k1, i1), (k2, i2), (k3, i3)⟩)
          ⟨a.r0.1, a.r0.2, a.r1.1, a.r1.2, a.r2.1, a.r2.2, a.r3.1, a.r3.2, lanes, 0#32⟩) := by
  rw [k2_part9_eq_skeleton]
  rfl

/-- The least key of the best sixty-four put in its cell, and the best sixty-four stored. -/
def keepFirst (T : Regs F) : Prog (TpuEff nD τ sig (Elt F) Λ₀ (.scVector ((i 0).castLE hcore2) ((i 1).castLE hsub2))) PUnit := do
  let _ : Vec F S16 .f32 ← Prog.lift (.load arg8 (Rect.unit (s := S64) ![0] S16.size inb_S64_S16_0).toLoadRect (View.loadsAt_vmem h_S16))
  Prog.lift (.store arg8 (Rect.unit (s := S64) ![0] S16.size inb_S64_S16_0) T.r0.1 Finset.univ (View.stores_vmem_bits_univ h_S16 rfl) (.inl rfl))
  let _ : Vec F S16 .i32 ← Prog.lift (.load arg9 (Rect.unit (s := S64) ![0] S16.size inb_S64_S16_0).toLoadRect (View.loadsAt_vmem h_S16))
  Prog.lift (.store arg9 (Rect.unit (s := S64) ![0] S16.size inb_S64_S16_0) T.r0.2 Finset.univ (View.stores_vmem_bits_univ h_S16 rfl) (.inl rfl))
  let _ : Vec F S16 .f32 ← Prog.lift (.load arg8 (Rect.unit (s := S64) ![16] S16.size inb_S64_S16_16).toLoadRect (View.loadsAt_vmem h_S16))
  Prog.lift (.store arg8 (Rect.unit (s := S64) ![16] S16.size inb_S64_S16_16) T.r1.1 Finset.univ (View.stores_vmem_bits_univ h_S16 rfl) (.inl rfl))
  let _ : Vec F S16 .i32 ← Prog.lift (.load arg9 (Rect.unit (s := S64) ![16] S16.size inb_S64_S16_16).toLoadRect (View.loadsAt_vmem h_S16))
  Prog.lift (.store arg9 (Rect.unit (s := S64) ![16] S16.size inb_S64_S16_16) T.r1.2 Finset.univ (View.stores_vmem_bits_univ h_S16 rfl) (.inl rfl))

def keepLast (T : Regs F) : Prog (TpuEff nD τ sig (Elt F) Λ₀ (.scVector ((i 0).castLE hcore2) ((i 1).castLE hsub2))) PUnit := do
  let _ : Vec F S16 .f32 ← Prog.lift (.load arg8 (Rect.unit (s := S64) ![32] S16.size inb_S64_S16_32).toLoadRect (View.loadsAt_vmem h_S16))
  Prog.lift (.store arg8 (Rect.unit (s := S64) ![32] S16.size inb_S64_S16_32) T.r2.1 Finset.univ (View.stores_vmem_bits_univ h_S16 rfl) (.inl rfl))
  let _ : Vec F S16 .i32 ← Prog.lift (.load arg9 (Rect.unit (s := S64) ![32] S16.size inb_S64_S16_32).toLoadRect (View.loadsAt_vmem h_S16))
  Prog.lift (.store arg9 (Rect.unit (s := S64) ![32] S16.size inb_S64_S16_32) T.r2.2 Finset.univ (View.stores_vmem_bits_univ h_S16 rfl) (.inl rfl))
  let _ : Vec F S16 .f32 ← Prog.lift (.load arg8 (Rect.unit (s := S64) ![48] S16.size inb_S64_S16_48).toLoadRect (View.loadsAt_vmem h_S16))
  Prog.lift (.store arg8 (Rect.unit (s := S64) ![48] S16.size inb_S64_S16_48) T.r3.1 Finset.univ (View.stores_vmem_bits_univ h_S16 rfl) (.inl rfl))
  let _ : Vec F S16 .i32 ← Prog.lift (.load arg9 (Rect.unit (s := S64) ![48] S16.size inb_S64_S16_48).toLoadRect (View.loadsAt_vmem h_S16))
  Prog.lift (.store arg9 (Rect.unit (s := S64) ![48] S16.size inb_S64_S16_48) T.r3.2 Finset.univ (View.stores_vmem_bits_univ h_S16 rfl) (.inl rfl))

theorem part10_eq (k0 k1 k2 k3 : Vec F S16 .f32) (i0 i1 i2 i3 : IVec S16 32) :
    k2_part10 i arg2 harg2 arg3 harg3 arg4 harg4 arg5 harg5 arg6 harg6 arg7 harg7 arg8 harg8 arg9 harg9 arg10 harg10 arg11 harg11 r0 r1 r2 k0 i0 k1 i1 k2 i2 k3 i3 lanes 0#32
      = (do
        let _ : Elt F .f32 ← smemLoad arg11 (Rect.unit (s := S1) ![0] S1.size inb_S1_S1_0) numel1_S1 rfl
        Prog.lift (.store arg11 (Rect.unit (s := S1) ![0] S1.size inb_S1_S1_0) (fun _ => laneMin (sortReg (k0, i0)).1) Finset.univ (View.stores_smem_one rfl numel1_S1) (.inl rfl))
        keepFirst i arg8 arg9 (Regs.sorted ⟨(k0, i0), (k1, i1), (k2, i2), (k3, i3)⟩)
        pure ⟨(sortReg (k2, i2)).1, (sortReg (k2, i2)).2, (sortReg (k3, i3)).1, (sortReg (k3, i3)).2⟩) := by
  rw [k2_part10_eq_skeleton]
  unfold k2_part10_skel
  rw [sort_for, sort_for, sort_for, sort_for]
  · rfl
  all_goals first | decide | exact fun _ _ => rfl

/-- A later chunk: looked at only when its greatest key exceeds the least kept one; then it is sorted and merged into
    the best sixty-four. -/
theorem chunk_eq (v : IVec S16 32) (n11 : Fin k2_t11_loop.trips) (b : BitVec 32) (y0 y1 y2 y3 : Vec F S16 .f32) (z0 z1 z2 z3 : IVec S16 32)
    (w : F .f32) (n24 : Fin k2_t24_loop.trips) (u : Unit) :
    k2_t24_body i arg2 harg2 arg3 harg3 arg4 harg4 arg5 harg5 arg6 harg6 arg7 harg7 arg8 harg8 arg9 harg9 arg10 harg10 arg11 harg11 r0 r1 r2 v n11 b y0 z0 y1 z1 y2 z2 y3 z3 w n24 u
      = (do
        let m : Elt F .f32 ← smemLoad arg10 (Rect.unit (s := S256) (k2_off16 n11 n24) S1.size (k2_off16_inb n11 n24)) numel1_S1 rfl
        let c : Elt F .f32 ← smemLoad arg11 (Rect.unit (s := S1) ![0] S1.size inb_S1_S1_0) numel1_S1 rfl
        if Scalar.cmpi .ne (Scalar.extui (Scalar.cmpf .ogt m c) : BitVec 32) 0#32 = 1#1 then do
          let x0 : Vec F S1x16 .f32 ← Prog.lift (.load arg5 (Rect.unit (s := S8x2048) (k2_off17 n11 n24 0#32) S1x16.size (k2_off17_inb n11 n24 0)).toLoadRect (View.loadsAt_vmem h_S1x16))
          let x1 : Vec F S1x16 .f32 ← Prog.lift (.load arg5 (Rect.unit (s := S8x2048) (k2_off17 n11 n24 16#32) S1x16.size (k2_off17_inb n11 n24 1)).toLoadRect (View.loadsAt_vmem h_S1x16))
          let x2 : Vec F S1x16 .f32 ← Prog.lift (.load arg5 (Rect.unit (s := S8x2048) (k2_off17 n11 n24 32#32) S1x16.size (k2_off17_inb n11 n24 2)).toLoadRect (View.loadsAt_vmem h_S1x16))
          let x3 : Vec F S1x16 .f32 ← Prog.lift (.load arg5 (Rect.unit (s := S8x2048) (k2_off17 n11 n24 48#32) S1x16.size (k2_off17_inb n11 n24 3)).toLoadRect (View.loadsAt_vmem h_S1x16))
          let t0 : Vec F S16 .f32 ← Prog.lift (.load arg8 (Rect.unit (s := S64) ![0] S16.size inb_S64_S16_0).toLoadRect (View.loadsAt_vmem h_S16))
          let t1 : Vec F S16 .f32 ← Prog.lift (.load arg8 (Rect.unit (s := S64) ![16] S16.size inb_S64_S16_16).toLoadRect (View.loadsAt_vmem h_S16))
          let t2 : Vec F S16 .f32 ← Prog.lift (.load arg8 (Rect.unit (s := S64) ![32] S16.size inb_S64_S16_32).toLoadRect (View.loadsAt_vmem h_S16))
          let t3 : Vec F S16 .f32 ← Prog.lift (.load arg8 (Rect.unit (s := S64) ![48] S16.size inb_S64_S16_48).toLoadRect (View.loadsAt_vmem h_S16))
          let j0 : Vec F S16 .i32 ← Prog.lift (.load arg9 (Rect.unit (s := S64) ![0] S16.size inb_S64_S16_0).toLoadRect (View.loadsAt_vmem h_S16))
          let j1 : Vec F S16 .i32 ← Prog.lift (.load arg9 (Rect.unit (s := S64) ![16] S16.size inb_S64_S16_16).toLoadRect (View.loadsAt_vmem h_S16))
          let j2 : Vec F S16 .i32 ← Prog.lift (.load arg9 (Rect.unit (s := S64) ![32] S16.size inb_S64_S16_32).toLoadRect (View.loadsAt_vmem h_S16))
          let j3 : Vec F S16 .i32 ← Prog.lift (.load arg9 (Rect.unit (s := S64) ![48] S16.size inb_S64_S16_48).toLoadRect (View.loadsAt_vmem h_S16))
          let T : Regs F := mergeTop ⟨(t0, j0), (t1, j1), (t2, j2), (t3, j3)⟩
            (sort64 ⟨(reg x0, posn v (Scalar.muli (Scf.iv 1#32 1#32 n24) 64#32) 0#32), (reg x1, posn v (Scalar.muli (Scf.iv 1#32 1#32 n24) 64#32) 16#32),
              (reg x2, posn v (Scalar.muli (Scf.iv 1#32 1#32 n24) 64#32) 32#32), (reg x3, posn v (Scalar.muli (Scf.iv 1#32 1#32 n24) 64#32) 48#32)⟩)
          let _ : Elt F .f32 ← smemLoad arg11 (Rect.unit (s := S1) ![0] S1.size inb_S1_S1_0) numel1_S1 rfl
          Prog.lift (.store arg11 (Rect.unit (s := S1) ![0] S1.size inb_S1_S1_0) (fun _ => laneMin T.r0.1) Finset.univ (View.stores_smem_one rfl numel1_S1) (.inl rfl))
          keepFirst i arg8 arg9 T
          keepLast i arg8 arg9 T
          pure ⟨⟩
        else pure ⟨⟩
        pure ⟨⟩) := by
  unfold k2_t24_body
  dsimp only
  refine bindc _ fun m => bindc _ fun c => ?_
  refine if_congr Iff.rfl ?_ rfl
  rw [part2_eq]
  simp only [bind_assoc, pure_bind]
  refine bindc _ fun x0 => bindc _ fun x1 => bindc _ fun x2 => bindc _ fun x3 => ?_
  rw [part3_eq, Prog.bind_ret]
  dsimp only
  rw [part4_eq, Prog.bind_ret]
  dsimp only
  rw [part5_eq, Prog.bind_ret]
  dsimp only
  rw [part6_eq]
  simp only [bind_assoc, pure_bind]
  refine bindc _ fun t0 => bindc _ fun t1 => bindc _ fun t2 => ?_
  rw [part7_eq]
  simp only [bind_assoc, pure_bind]
  refine bindc _ fun t3 => bindc _ fun j0 => bindc _ fun j1 => bindc _ fun j2 => bindc _ fun j3 => ?_
  rw [part8_eq, Prog.bind_ret]
  dsimp only
  rw [part9_eq, Prog.bind_ret]
  dsimp only
  rw [part10_eq]
  rfl

end Cert.KernelIdeal.Net

end
-- ==== Proof.Row.lean ====
/-
  One row of the batch as a program over the register operations: its first chunk sorted, its later chunks each
  looked at by the loop, then the kept positions written out and the mask's cells set.
-/
module

public import proofs.«01_k».proof.Proof.Parts

@[expose] public section

set_option maxRecDepth 65536
set_option maxHeartbeats 4000000

noncomputable section

universe v

namespace Cert.KernelIdeal.Net

open Idealize.ShloMosaic Idealize.SL.Sem
open Cert.KernelIdeal Cert.KernelIdeal.Gen

variable {F : FTy → Type} [FloatOps F]

/-- Equal programs, continued alike, are equal. -/
theorem bindl {E : Type → Type v} {α β : Type} {p q : Prog E α} (k : α → Prog E β) (h : p = q) : (p >>= k) = (q >>= k) := by rw [h]

/-- The positions of the register at `off` of the first chunk. -/
def posn0 (v : IVec S16 32) (off : BitVec 32) : IVec S16 32 := addi v (broadcast S16 off)

variable (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

theorem part11_eq (v : IVec S16 32) (n11 : Fin k2_t11_loop.trips) :
    k2_part11 i arg2 harg2 arg3 harg3 arg4 harg4 arg5 harg5 arg6 harg6 arg7 harg7 arg8 harg8 arg9 harg9 arg10 harg10 arg11 harg11 r0 r1 r2 v 0#32 1#32 n11
      = (do
        let x0 : Vec F S1x16 .f32 ← Prog.lift (.load arg5 (Rect.unit (s := S8x2048) (k2_off12 n11) S1x16.size (k2_off12_inb n11)).toLoadRect (View.loadsAt_vmem h_S1x16))
        let x1 : Vec F S1x16 .f32 ← Prog.lift (.load arg5 (Rect.unit (s := S8x2048) (k2_off13 n11) S1x16.size (k2_off13_inb n11)).toLoadRect (View.loadsAt_vmem h_S1x16))
        let x2 : Vec F S1x16 .f32 ← Prog.lift (.load arg5 (Rect.unit (s := S8x2048) (k2_off14 n11) S1x16.size (k2_off14_inb n11)).toLoadRect (View.loadsAt_vmem h_S1x16))
        let x3 : Vec F S1x16 .f32 ← Prog.lift (.load arg5 (Rect.unit (s := S8x2048) (k2_off15 n11) S1x16.size (k2_off15_inb n11)).toLoadRect (View.loadsAt_vmem h_S1x16))
        pure ⟨Scf.iv 0#32 1#32 n11, (sortReg (reg x0, posn0 v 0#32)).1, (sortReg (reg x0, posn0 v 0#32)).2,
          (sortReg (reg x1, posn0 v 16#32)).1, (sortReg (reg x1, posn0 v 16#32)).2,
          (sortReg (reg x2, posn0 v 32#32)).1, (sortReg (reg x2, posn0 v 32#32)).2,
          (sortReg (reg x3, posn0 v 48#32)).1, (sortReg (reg x3, posn0 v 48#32)).2,
          k2_pay255 (sortReg (reg x1, posn0 v 16#32)).1, k2_pay256 (sortReg (reg x1, posn0 v 16#32)).1, k2_pay257 (sortReg (reg x1, posn0 v 16#32)).1⟩) := by
  rw [k2_part11_eq_skeleton]
  unfold k2_part11_skel
  refine bindc _ fun x0 => bindc _ fun x1 => bindc _ fun x2 => bindc _ fun x3 => ?_
  rw [sort_for, sort_for, sort_for, sort_for]
  · rfl
  all_goals first | decide | exact fun _ _ => rfl

theorem part12_eq (k0 k1 k3 : Vec F S16 .f32) (i0 i1 : IVec S16 32) :
    k2_part12 i arg2 harg2 arg3 harg3 arg4 harg4 arg5 harg5 arg6 harg6 arg7 harg7 arg8 harg8 arg9 harg9 arg10 harg10 arg11 harg11 r0 r1 r2 k0 i0 k1 i1 k3 (k2_pay255 k1) (k2_pay256 k1) (k2_pay257 k1)
      = .ret ⟨(merge16 (k0, i0) (k1, i1)).1.1, (merge16 (k0, i0) (k1, i1)).1.2, (merge16 (k0, i0) (k1, i1)).2.1,
          (merge16 (k0, i0) (k1, i1)).2.2, k2_pay277 k3, k2_pay278 k3, k2_pay279 k3, k2_pay280 k3, k2_pay281 k3, k2_pay282 k3, k2_pay283 k3, k2_pay284 k3, k2_pay285 k3, k2_pay286 k3⟩ := by
  rw [k2_part12_eq_skeleton]
  unfold k2_part12_skel
  rw [sort_for, sort_for]
  · rfl
  all_goals first | decide | exact fun _ _ => rfl

theorem part13_eq (k2 k3 : Vec F S16 .f32) (i2 i3 : IVec S16 32) :
    k2_part13 i arg2 harg2 arg3 harg3 arg4 harg4 arg5 harg5 arg6 harg6 arg7 harg7 arg8 harg8 arg9 harg9 arg10 harg10 arg11 harg11 r0 r1 r2 k2 i2 k3 i3 (k2_pay277 k3) (k2_pay278 k3) (k2_pay279 k3) (k2_pay280 k3) (k2_pay281 k3) (k2_pay282 k3) (k2_pay283 k3) (k2_pay284 k3) (k2_pay285 k3) (k2_pay286 k3)
      = .ret ⟨(merge16 (k2, i2) (k3, i3)).1.1, (merge16 (k2, i2) (k3, i3)).1.2, (merge16 (k2, i2) (k3, i3)).2.2,
          rev (merge16 (k2, i2) (k3, i3)).2.1⟩ := by
  rw [k2_part13_eq_skeleton]
  unfold k2_part13_skel
  rw [sort_for, sort_for]
  · rfl
  all_goals first | decide | exact fun _ _ => rfl

theorem part14_eq (ka kb kc kd : Vec F S16 .f32) (ia ib ic id : IVec S16 32) :
    k2_part14 i arg2 harg2 arg3 harg3 arg4 harg4 arg5 harg5 arg6 harg6 arg7 harg7 arg8 harg8 arg9 harg9 arg10 harg10 arg11 harg11 r0 r1 r2 ka ia kb ib kc ic id (rev kd)
      = .ret ⟨rev ic, (cmpx (ka, ia) (revK (kd, id))).1.1, (cmpx (ka, ia) (revK (kd, id))).1.2,
          (cmpx (ka, ia) (revK (kd, id))).2.1, (cmpx (ka, ia) (revK (kd, id))).2.2, cmpf .oge kb (rev kc),
          (cmpx (kb, ib) (revK (kc, ic))).1.1, (cmpx (kb, ib) (revK (kc, ic))).1.2, (cmpx (kb, ib) (revK (kc, ic))).2.1⟩ := by
  rw [k2_part14_eq_skeleton]
  rfl

theorem part15_eq (ib jc : IVec S16 32) (m : IVec S16 1) (p1 p2 q1 q2 : Vec F S16 .f32) (s1 s2 z1 : IVec S16 32) (T : Regs F)
    (hT : Regs.sorted ⟨(cmpx (p1, s1) (q1, z1)).1, (cmpx (p1, s1) (q1, z1)).2,
            (cmpx (p2, s2) (q2, select m ib jc)).1, (cmpx (p2, s2) (q2, select m ib jc)).2⟩ = T) :
    k2_part15 i arg2 harg2 arg3 harg3 arg4 harg4 arg5 harg5 arg6 harg6 arg7 harg7 arg8 harg8 arg9 harg9 arg10 harg10 arg11 harg11 r0 r1 r2 ib jc p1 s1 p2 s2 m q1 z1 q2
      = (do
        let _ : Elt F .f32 ← smemLoad arg11 (Rect.unit (s := S1) ![0] S1.size inb_S1_S1_0) numel1_S1 rfl
        pure ⟨T.r0.1, T.r0.2, T.r1.1, T.r1.2, T.r2.1, T.r2.2, T.r3.1, T.r3.2, laneMin T.r0.1⟩) := by
  subst hT
  rw [k2_part15_eq_skeleton]
  unfold k2_part15_skel
  rw [sort_for, sort_for, sort_for, sort_for]
  · rfl
  all_goals first | decide | exact fun _ _ => rfl

/-- The row's program. -/
theorem row_eq (v : IVec S16 32) (v4 : Vec F S16 .f32) (n11 : Fin k2_t11_loop.trips) (u : Unit) :
    k2_t11_body i arg2 harg2 arg3 harg3 arg4 harg4 arg5 harg5 arg6 harg6 arg7 harg7 arg8 harg8 arg9 harg9 arg10 harg10 arg11 harg11 r0 r1 r2 v v4 n11 u
      = (do
        let x0 : Vec F S1x16 .f32 ← Prog.lift (.load arg5 (Rect.unit (s := S8x2048) (k2_off12 n11) S1x16.size (k2_off12_inb n11)).toLoadRect (View.loadsAt_vmem h_S1x16))
        let x1 : Vec F S1x16 .f32 ← Prog.lift (.load arg5 (Rect.unit (s := S8x2048) (k2_off13 n11) S1x16.size (k2_off13_inb n11)).toLoadRect (View.loadsAt_vmem h_S1x16))
        let x2 : Vec F S1x16 .f32 ← Prog.lift (.load arg5 (Rect.unit (s := S8x2048) (k2_off14 n11) S1x16.size (k2_off14_inb n11)).toLoadRect (View.loadsAt_vmem h_S1x16))
        let x3 : Vec F S1x16 .f32 ← Prog.lift (.load arg5 (Rect.unit (s := S8x2048) (k2_off15 n11) S1x16.size (k2_off15_inb n11)).toLoadRect (View.loadsAt_vmem h_S1x16))
        let T : Regs F := sort64 ⟨(reg x0, posn0 v 0#32), (reg x1, posn0 v 16#32), (reg x2, posn0 v 32#32), (reg x3, posn0 v 48#32)⟩
        let _ : Elt F .f32 ← smemLoad arg11 (Rect.unit (s := S1) ![0] S1.size inb_S1_S1_0) numel1_S1 rfl
        Prog.lift (.store arg11 (Rect.unit (s := S1) ![0] S1.size inb_S1_S1_0) (fun _ => laneMin T.r0.1) Finset.univ (View.stores_smem_one rfl numel1_S1) (.inl rfl))
        keepFirst i arg8 arg9 T
        keepLast i arg8 arg9 T
        Scf.Loop.for k2_t24_loop k2_t24_ok ⟨⟩ (k2_t24_body i arg2 harg2 arg3 harg3 arg4 harg4 arg5 harg5 arg6 harg6 arg7 harg7 arg8 harg8 arg9 harg9 arg10 harg10 arg11 harg11 r0 r1 r2 v n11 (Scf.iv 0#32 1#32 n11) T.r0.1 T.r0.2 T.r1.1 T.r1.2 T.r2.1 T.r2.2
          T.r3.1 T.r3.2 (laneMin T.r0.1))
        let j0 : Vec F S16 .i32 ← Prog.lift (.load arg9 (Rect.unit (s := S64) ![0] S16.size inb_S64_S16_0).toLoadRect (View.loadsAt_vmem h_S16))
        have hw1 : k2_chk1 (broadcast S16 (Scf.iv 0#32 1#32 n11) : IVec S16 32) j0 := (← Prog.lift (TpuEff.assume (k2_chk1 (broadcast S16 (Scf.iv 0#32 1#32 n11) : IVec S16 32) j0) (k2_chk1.dec (broadcast S16 (Scf.iv 0#32 1#32 n11) : IVec S16 32) j0))).down
        let j1 : Vec F S16 .i32 ← Prog.lift (.load arg9 (Rect.unit (s := S64) ![16] S16.size inb_S64_S16_16).toLoadRect (View.loadsAt_vmem h_S16))
        have hw2 : k2_chk2 (broadcast S16 (Scf.iv 0#32 1#32 n11) : IVec S16 32) j1 := (← Prog.lift (TpuEff.assume (k2_chk2 (broadcast S16 (Scf.iv 0#32 1#32 n11) : IVec S16 32) j1) (k2_chk2.dec (broadcast S16 (Scf.iv 0#32 1#32 n11) : IVec S16 32) j1))).down
        let j2 : Vec F S16 .i32 ← Prog.lift (.load arg9 (Rect.unit (s := S64) ![32] S16.size inb_S64_S16_32).toLoadRect (View.loadsAt_vmem h_S16))
        have hw3 : k2_chk3 (broadcast S16 (Scf.iv 0#32 1#32 n11) : IVec S16 32) j2 := (← Prog.lift (TpuEff.assume (k2_chk3 (broadcast S16 (Scf.iv 0#32 1#32 n11) : IVec S16 32) j2) (k2_chk3.dec (broadcast S16 (Scf.iv 0#32 1#32 n11) : IVec S16 32) j2))).down
        let j3 : Vec F S16 .i32 ← Prog.lift (.load arg9 (Rect.unit (s := S64) ![48] S16.size inb_S64_S16_48).toLoadRect (View.loadsAt_vmem h_S16))
        have hw4 : k2_chk4 (broadcast S16 (Scf.iv 0#32 1#32 n11) : IVec S16 32) j3 := (← Prog.lift (TpuEff.assume (k2_chk4 (broadcast S16 (Scf.iv 0#32 1#32 n11) : IVec S16 32) j3) (k2_chk4.dec (broadcast S16 (Scf.iv 0#32 1#32 n11) : IVec S16 32) j3))).down
        let _ : Vec F S1x16 .i32 ← Prog.lift (.load arg6 (Rect.unit (s := S8x64) (k2_off18 n11) S1x16.size (k2_off18_inb n11)).toLoadRect (View.loadsAt_vmem h_S1x16))
        Prog.lift (.store arg6 (Rect.unit (s := S8x64) (k2_off18 n11) S1x16.size (k2_off18_inb n11)) (shapeCast S1x16 (rev j3 : IVec S16 32) shapeCasts_S16_S1x16) Finset.univ (View.stores_vmem_bits_univ h_S1x16 rfl) (.inl rfl))
        let _ : Vec F S1x16 .i32 ← Prog.lift (.load arg6 (Rect.unit (s := S8x64) (k2_off19 n11) S1x16.size (k2_off19_inb n11)).toLoadRect (View.loadsAt_vmem h_S1x16))
        Prog.lift (.store arg6 (Rect.unit (s := S8x64) (k2_off19 n11) S1x16.size (k2_off19_inb n11)) (shapeCast S1x16 (rev j2 : IVec S16 32) shapeCasts_S16_S1x16) Finset.univ (View.stores_vmem_bits_univ h_S1x16 rfl) (.inl rfl))
        let _ : Vec F S1x16 .i32 ← Prog.lift (.load arg6 (Rect.unit (s := S8x64) (k2_off20 n11) S1x16.size (k2_off20_inb n11)).toLoadRect (View.loadsAt_vmem h_S1x16))
        Prog.lift (.store arg6 (Rect.unit (s := S8x64) (k2_off20 n11) S1x16.size (k2_off20_inb n11)) (shapeCast S1x16 (rev j1 : IVec S16 32) shapeCasts_S16_S1x16) Finset.univ (View.stores_vmem_bits_univ h_S1x16 rfl) (.inl rfl))
        let _ : Vec F S1x16 .i32 ← Prog.lift (.load arg6 (Rect.unit (s := S8x64) (k2_off21 n11) S1x16.size (k2_off21_inb n11)).toLoadRect (View.loadsAt_vmem h_S1x16))
        Prog.lift (.store arg6 (Rect.unit (s := S8x64) (k2_off21 n11) S1x16.size (k2_off21_inb n11)) (shapeCast S1x16 (rev j0 : IVec S16 32) shapeCasts_S16_S1x16) Finset.univ (View.stores_vmem_bits_univ h_S1x16 rfl) (.inl rfl))
        SparseCore.vectorStoreIdx arg7 ![(broadcast S16 (Scf.iv 0#32 1#32 n11) : IVec S16 32), j0] v4 (fun _ => 1#1) false (k2_idx1_inb (broadcast S16 (Scf.iv 0#32 1#32 n11) : IVec S16 32) j0 hw1) (View.stores_vmem_bits_univ h_S8x2048 rfl)
        SparseCore.vectorStoreIdx arg7 ![(broadcast S16 (Scf.iv 0#32 1#32 n11) : IVec S16 32), j1] v4 (fun _ => 1#1) false (k2_idx2_inb (broadcast S16 (Scf.iv 0#32 1#32 n11) : IVec S16 32) j1 hw2) (View.stores_vmem_bits_univ h_S8x2048 rfl)
        SparseCore.vectorStoreIdx arg7 ![(broadcast S16 (Scf.iv 0#32 1#32 n11) : IVec S16 32), j2] v4 (fun _ => 1#1) false (k2_idx3_inb (broadcast S16 (Scf.iv 0#32 1#32 n11) : IVec S16 32) j2 hw3) (View.stores_vmem_bits_univ h_S8x2048 rfl)
        SparseCore.vectorStoreIdx arg7 ![(broadcast S16 (Scf.iv 0#32 1#32 n11) : IVec S16 32), j3] v4 (fun _ => 1#1) false (k2_idx4_inb (broadcast S16 (Scf.iv 0#32 1#32 n11) : IVec S16 32) j3 hw4) (View.stores_vmem_bits_univ h_S8x2048 rfl)
        pure ⟨⟩) := by
  unfold k2_t11_body
  dsimp only
  rw [part11_eq]
  simp only [bind_assoc, pure_bind]
  refine bindc _ fun x0 => bindc _ fun x1 => bindc _ fun x2 => bindc _ fun x3 => ?_
  rw [part12_eq, Prog.bind_ret]
  dsimp only
  rw [part13_eq, Prog.bind_ret]
  dsimp only
  rw [part14_eq, Prog.bind_ret]
  dsimp only
  apply Eq.trans
  · apply bindl
    refine part15_eq (T := sort64 ⟨(reg x0, posn0 v 0#32), (reg x1, posn0 v 16#32), (reg x2, posn0 v 32#32), (reg x3, posn0 v 48#32)⟩)
      (hT := ?_) ..
    rfl
  generalize sort64 ⟨(reg x0, posn0 v 0#32), (reg x1, posn0 v 16#32), (reg x2, posn0 v 32#32), (reg x3, posn0 v 48#32)⟩ = T
  rw [bind_assoc]
  refine bindc _ fun _ => ?_
  rw [pure_bind]
  dsimp only
  rw [k2_part16_eq_skeleton, k2_part17_eq_skeleton]
  unfold k2_part16_skel keepFirst keepLast
  simp only [bind_assoc, pure_bind]
  iterate 18 refine bindc _ fun _ => ?_
  iterate 8 refine bindc _ fun _ => ?_
  unfold k2_part17_skel
  rfl

end Cert.KernelIdeal.Net

end
-- ==== Proof.Top.lean ====
/-
  What the row routine computes from one row: the first chunk's sixty-four values sorted, then chunk by chunk the best
  sixty-four so far, a chunk whose greatest value does not pass the least one kept left out. The sixty-four positions
  go out from the greatest value to the least; the mask is set at them.
-/
module

public import proofs.«01_k».proof.Proof.Row
public import Idealize.ShloMosaic.Lib.Pointwise.Index

@[expose] public section

noncomputable section

namespace Cert.KernelIdeal.Net

open Idealize.ShloMosaic Idealize.SL.Sem
open Cert.KernelIdeal Cert.KernelIdeal.Gen

variable {F : FTy → Type} [FloatOps F]

/-- Place `n` of a row. -/
abbrev place (n : ℕ) : Fin 2048 := ⟨n % 2048, Nat.mod_lt _ (by decide)⟩

/-- Register `j` of chunk `c` of a row. -/
def chunkReg (x : Fin 2048 → F .f32) (c j : ℕ) : Vec F S16 .f32 := fun l => x (place (64 * c + 16 * j + (l 0).val))

/-- The positions it holds. -/
def chunkPos (c j : ℕ) : IVec S16 32 := fun l => BitVec.ofNat 32 (64 * c + 16 * j + (l 0).val)

/-- Chunk `c` of a row with its positions. -/
def chunk (x : Fin 2048 → F .f32) (c : ℕ) : Regs F :=
  ⟨(chunkReg x c 0, chunkPos c 0), (chunkReg x c 1, chunkPos c 1), (chunkReg x c 2, chunkPos c 2), (chunkReg x c 3, chunkPos c 3)⟩

/-- The greatest value of chunk `c`. -/
def chunkMax (x : Fin 2048 → F .f32) (c : ℕ) : F .f32 :=
  laneMax (maximumf (maximumf (chunkReg x c 0) (chunkReg x c 1)) (maximumf (chunkReg x c 2) (chunkReg x c 3)))

/-- Whether a chunk whose greatest value is `m` is to be looked at, `c` the least value kept. -/
abbrev Passes (m c : F .f32) : Prop := Scalar.cmpi .ne (Scalar.extui (Scalar.cmpf .ogt m c) : BitVec 32) 0#32 = 1#1

/-- Chunk `c` taken into the sixty-four kept. -/
def topStep (x : Fin 2048 → F .f32) (c : ℕ) (T : Regs F) : Regs F :=
  if Passes (chunkMax x c) (laneMin T.r0.1) then mergeTop T (sort64 (chunk x c)) else T

/-- The sixty-four kept after chunks `0 … n`. -/
def topN (x : Fin 2048 → F .f32) : ℕ → Regs F
  | 0 => sort64 (chunk x 0)
  | n + 1 => topStep x (n + 1) (topN x n)

/-- The sixty-four kept of the whole row. -/
def rowTop (x : Fin 2048 → F .f32) : Regs F := topN x 31

/-- Register `j` of four. -/
def Regs.reg (T : Regs F) : ℕ → KI F
  | 0 => T.r0
  | 1 => T.r1
  | 2 => T.r2
  | _ => T.r3

/-- Lane `p % 16`. -/
abbrev lane (p : ℕ) : S16.Idx := ix1 ⟨p % 16, Nat.mod_lt _ (by decide)⟩

/-- The keys of four registers as one vector of sixty-four, and their positions. -/
def Regs.keys (T : Regs F) : Vec F S64 .f32 := fun p => (T.reg ((p 0).val / 16)).1 (lane (p 0).val)
def Regs.poss (T : Regs F) : Vec F S64 .i32 := fun p => (T.reg ((p 0).val / 16)).2 (lane (p 0).val)

/-- Entry `p` of a row's sixty-four positions, the greatest value's first. -/
def idxRow (x : Fin 2048 → F .f32) (p : Fin 64) : BitVec 32 := (rev ((rowTop x).reg (3 - p.val / 16)).2 : IVec S16 32) (lane p.val)

/-- Position `s` is one of the sixty-four kept. -/
def Kept (T : Regs F) (s : ℕ) : Prop := ∃ j, j < 4 ∧ ∃ l : S16.Idx, ((T.reg j).2 l).toNat = s

/-- What the mask holds: at a position kept, and elsewhere. -/
def onVal : F .f32 := (k2_pay383 : FVec F S16 .f32) (lane 0)
def offVal : F .f32 := (k2_pay382 : FVec F S16 .f32) (lane 0)

open scoped Classical in
/-- The mask's row. -/
def maskRow (x : Fin 2048 → F .f32) (s : Fin 2048) : F .f32 := if Kept (rowTop x) s.val then onVal else offVal

end Cert.KernelIdeal.Net

end
-- ==== Proof.Lanes.lean ====
/-
  Which lane each lane operation takes its value from, and what the register operations keep: a property of a key and
  its position that every lane has going in, every lane has coming out.
-/
module

public import proofs.«01_k».proof.Proof.Top

@[expose] public section

set_option maxRecDepth 65536

noncomputable section

namespace Cert.KernelIdeal.Net

open Idealize.ShloMosaic Idealize.SL.Sem
open Cert.KernelIdeal Cert.KernelIdeal.Gen

variable {F : FTy → Type} [FloatOps F]

theorem rev_nat {α : Type} (x : S16.Idx → α) (l : Fin 16) : rev x (ix1 l) = x (rev (fun y => y) (ix1 l)) := by
  fin_cases l <;> rfl

theorem rev_apply {α : Type} (x : S16.Idx → α) (l : Fin 16) : rev x (ix1 l) = x (ix1 l.rev) := by
  rw [rev_nat]; congr 1; revert l; decide +kernel

theorem rot8_apply {α : Type} (x : S16.Idx → α) (l : Fin 16) : rot8 x (ix1 l) = x (ix1 (l + 8)) := by
  rw [show rot8 x (ix1 l) = x (rot8 (fun y => y) (ix1 l)) by fin_cases l <;> rfl]; congr 1; revert l; decide +kernel
theorem rot4_apply {α : Type} (x : S16.Idx → α) (l : Fin 16) : rot4 x (ix1 l) = x (ix1 (l + 4)) := by
  rw [show rot4 x (ix1 l) = x (rot4 (fun y => y) (ix1 l)) by fin_cases l <;> rfl]; congr 1; revert l; decide +kernel
theorem rot2_apply {α : Type} (x : S16.Idx → α) (l : Fin 16) : rot2 x (ix1 l) = x (ix1 (l + 2)) := by
  rw [show rot2 x (ix1 l) = x (rot2 (fun y => y) (ix1 l)) by fin_cases l <;> rfl]; congr 1; revert l; decide +kernel
theorem rot1_apply {α : Type} (x : S16.Idx → α) (l : Fin 16) : rot1 x (ix1 l) = x (ix1 (l + 1)) := by
  rw [show rot1 x (ix1 l) = x (rot1 (fun y => y) (ix1 l)) by fin_cases l <;> rfl]; congr 1; revert l; decide +kernel

theorem head_apply {α : Type} (x : S16.Idx → α) : head x = x (ix1 0) := by
  rw [show head x = x (head (fun y => y)) from rfl]; congr 1; decide +kernel

/-- Every lane's key and position have the property. -/
def All (R : F .f32 → BitVec 32 → Prop) (x : KI F) : Prop := ∀ l : Fin 16, R (x.1 (ix1 l)) (x.2 (ix1 l))

/-- Every lane of four registers does. -/
def Regs.All (R : F .f32 → BitVec 32 → Prop) (T : Regs F) : Prop := Net.All R T.r0 ∧ Net.All R T.r1 ∧ Net.All R T.r2 ∧ Net.All R T.r3

variable {R : F .f32 → BitVec 32 → Prop}

theorem all_select (m : IVec S16 1) {x y : KI F} (hx : All R x) (hy : All R y) : All R (select m x.1 y.1, select m x.2 y.2) := by
  intro l
  show R (if m (ix1 l) = 1 then _ else _) (if m (ix1 l) = 1 then _ else _)
  split
  · exact hx l
  · exact hy l

theorem all_placeN {x : KI F} (hx : All R x) (n : ℕ) :
    All R ((placeN x n).1, (placeN x n).2.1) ∧ All R ((placeN x n).2.2.1, (placeN x n).2.2.2) := by
  induction n with
  | zero => exact ⟨hx, hx⟩
  | succ n ih =>
    obtain ⟨ha, hc⟩ := ih
    refine ⟨fun l => ?_, ?_⟩
    · show R (rot1 _ (ix1 l)) (rot1 _ (ix1 l))
      rw [rot1_apply, rot1_apply]
      exact ha (l + 1)
    · refine all_select (placeMask x.1 n (placeN x n).1) (x := (broadcast S16 (head (placeN x n).1), broadcast S16 (head (placeN x n).2.1)))
        (fun l => ?_) hc
      show R (head _) (head _)
      rw [head_apply, head_apply]
      exact ha 0

theorem all_sortReg {x : KI F} (hx : All R x) : All R (sortReg x) := by
  unfold sortReg
  exact (all_placeN hx 16).2

theorem all_cmpx {x y : KI F} (hx : All R x) (hy : All R y) : All R (cmpx x y).1 ∧ All R (cmpx x y).2 :=
  ⟨all_select (cmpf .oge x.1 y.1) hy hx, all_select (cmpf .oge x.1 y.1) hx hy⟩

theorem all_revK {x : KI F} (hx : All R x) : All R (revK x) := fun l => by
  show R (rev _ (ix1 l)) (rev _ (ix1 l))
  rw [rev_apply, rev_apply]
  exact hx l.rev

theorem all_merge16 {x y : KI F} (hx : All R x) (hy : All R y) : All R (merge16 x y).1 ∧ All R (merge16 x y).2 :=
  ⟨all_sortReg (all_cmpx hx (all_revK hy)).1, all_sortReg (all_cmpx hx (all_revK hy)).2⟩

theorem Regs.All.sorted {T : Regs F} (h : T.All R) : T.sorted.All R :=
  ⟨all_sortReg h.1, all_sortReg h.2.1, all_sortReg h.2.2.1, all_sortReg h.2.2.2⟩

theorem all_spread32 {a b : KI F × KI F} (a1 : All R a.1) (a2 : All R a.2) (b1 : All R b.1) (b2 : All R b.2) : (spread32 a b).All R :=
  have p := all_cmpx a1 (all_revK b2)
  have q := all_cmpx a2 (all_revK b1)
  have u := all_cmpx p.1 q.1
  have v := all_cmpx p.2 q.2
  ⟨u.1, u.2, v.1, v.2⟩

theorem all_sort64 {T : Regs F} (h : T.All R) : (sort64 T).All R :=
  have a := all_merge16 (all_sortReg h.1) (all_sortReg h.2.1)
  have b := all_merge16 (all_sortReg h.2.2.1) (all_sortReg h.2.2.2)
  (all_spread32 a.1 a.2 b.1 b.2).sorted

theorem all_mergeTop {t c : Regs F} (ht : t.All R) (hc : c.All R) : (mergeTop t c).All R := by
  have h0 := (all_cmpx ht.1 (all_revK hc.2.2.2)).2
  have h1 := (all_cmpx ht.2.1 (all_revK hc.2.2.1)).2
  have h2 := (all_cmpx ht.2.2.1 (all_revK hc.2.1)).2
  have h3 := (all_cmpx ht.2.2.2 (all_revK hc.1)).2
  have p := all_cmpx h0 h2
  have q := all_cmpx h1 h3
  have u := all_cmpx p.1 q.1
  have v := all_cmpx p.2 q.2
  exact Regs.All.sorted (T := spread64 (upper t c)) ⟨u.1, u.2, v.1, v.2⟩

/-- A lane holds a value of the row and where it stands. -/
def At (x : Fin 2048 → F .f32) (k : F .f32) (i : BitVec 32) : Prop := ∃ h : i.toNat < 2048, k = x ⟨i.toNat, h⟩

theorem all_chunk (x : Fin 2048 → F .f32) (c : ℕ) (hc : c < 32) : (chunk x c).All (At x) := by
  have h : ∀ j, j < 4 → All (At x) (chunkReg x c j, chunkPos c j) := by
    intro j hj l
    have hl : l.val < 16 := l.isLt
    have e : (BitVec.ofNat 32 (64 * c + 16 * j + l.val)).toNat = 64 * c + 16 * j + l.val := by
      rw [BitVec.toNat_ofNat]; exact Nat.mod_eq_of_lt (by omega)
    refine ⟨?_, ?_⟩
    · show (BitVec.ofNat 32 (64 * c + 16 * j + l.val)).toNat < 2048
      omega
    · show x _ = x _
      congr 1
      refine Fin.ext ?_
      show (64 * c + 16 * j + l.val) % 2048 = (BitVec.ofNat 32 (64 * c + 16 * j + l.val)).toNat
      omega
  exact ⟨h 0 (by omega), h 1 (by omega), h 2 (by omega), h 3 (by omega)⟩

theorem all_topN (x : Fin 2048 → F .f32) (n : ℕ) (hn : n < 32) : (topN x n).All (At x) := by
  induction n with
  | zero => exact all_sort64 (all_chunk x 0 hn)
  | succ n ih =>
    show (topStep x (n + 1) (topN x n)).All (At x)
    unfold topStep
    split
    · exact all_mergeTop (ih (by omega)) (all_sort64 (all_chunk x (n + 1) hn))
    · exact ih (by omega)

theorem Regs.All.reg {T : Regs F} (h : T.All R) (j : ℕ) : Net.All R (T.reg j) := by
  match j with
  | 0 => exact h.1
  | 1 => exact h.2.1
  | 2 => exact h.2.2.1
  | _ + 3 => exact h.2.2.2

theorem rowTop_at (x : Fin 2048 → F .f32) (j : ℕ) (l : S16.Idx) : At x (((rowTop x).reg j).1 l) (((rowTop x).reg j).2 l) := by
  rw [← ix1_eta l]
  exact (all_topN x 31 (by omega)).reg j (l 0)

theorem rowTop_lt (x : Fin 2048 → F .f32) (j : ℕ) (l : S16.Idx) : (((rowTop x).reg j).2 l).toNat < 2048 := (rowTop_at x j l).1

/-! ## Setting the mask's cells -/

open scoped Classical in
/-- Steps that each set some cells to one value set the cells any of them sets. -/
theorem foldl_set {ι α β : Type} (P : ι → α → Prop) (c : β) (step : (α → β) → ι → α → β)
    (hs : ∀ g k y, step g k y = if P k y then c else g y) (L : List ι) (g : α → β) (y : α) :
    L.foldl step g y = if ∃ k ∈ L, P k y then c else g y := by
  induction L generalizing g with
  | nil => rw [if_neg]; · rfl
           rintro ⟨k, hk, _⟩; exact absurd hk List.not_mem_nil
  | cons k L ih =>
    rw [List.foldl_cons, ih, hs]
    by_cases h1 : ∃ k ∈ L, P k y
    · obtain ⟨k', hk', hp⟩ := h1
      rw [if_pos ⟨k', hk', hp⟩, if_pos ⟨k', List.mem_cons_of_mem _ hk', hp⟩]
    · rw [if_neg h1]
      by_cases h2 : P k y
      · rw [if_pos h2, if_pos ⟨k, List.mem_cons_self, h2⟩]
      · rw [if_neg h2, if_neg]
        rintro ⟨k', hk', hp⟩
        rcases List.mem_cons.mp hk' with rfl | hk''
        · exact h2 hp
        · exact h1 ⟨k', hk'', hp⟩

open scoped Classical in
/-- An indexed store of one value: the cells some lane names hold it, the others what they held. -/
theorem storeIdx_const {s : Shape} {e : EltTy} (f : Vec F s e) (idxs : Fin s.rank → IVec S16 32) (v : Vec F S16 e) (c : Elt F e)
    (hv : ∀ l, v l = c) (h : ∀ a x, (idxs a x).toNat < s.size a) :
    storeIdx f idxs v (fun _ => 1#1) false h = fun y => if ∃ l : S16.Idx, ∀ a, (y a).val = (idxs a l).toNat then c else f y := by
  funext y
  have el : ∀ l : S16.Idx, l = Shape.ofLane (d := ![16]) (l 0) := fun l => by
    funext a; match a with
    | ⟨0, _⟩ => rfl
  refine (foldl_set (fun (k : Fin 16) (y : s.Idx) => ∀ a, (y a).val = (idxAt idxs h (Shape.ofLane (d := ![16]) k) a).val) c _
    (fun g k y => ?_) (List.finRange 16) f y).trans ?_
  · by_cases hk : ∀ a, (y a).val = (idxAt idxs h (Shape.ofLane (d := ![16]) k) a).val
    · rw [if_pos hk]; exact (congrFun (if_pos rfl) y).trans ((if_pos hk).trans (hv (Shape.ofLane (d := ![16]) k)))
    · rw [if_neg hk]; exact (congrFun (if_pos rfl) y).trans (if_neg hk)
  · by_cases hl : ∃ l : S16.Idx, ∀ a, (y a).val = (idxs a l).toNat
    · rw [if_pos hl]
      obtain ⟨l, hl⟩ := hl
      exact if_pos ⟨l 0, List.mem_finRange _, fun a => (hl a).trans (congrArg (fun l => (idxs a l).toNat) (el l))⟩
    · rw [if_neg hl]
      exact if_neg fun ⟨k, _, hk⟩ => hl ⟨Shape.ofLane (d := ![16]) k, hk⟩

end Cert.KernelIdeal.Net

end
-- ==== Proof.Sorting.lean ====
/-
  The keys read as extended reals: what the sort of one register does to them. Turn `n` puts the key of lane `n` in the
  lane that is the number of keys before it, so a sorted register is read by counting: its lane `l` holds a key of at
  least `t` exactly when `l` is among the last lanes, as many as the keys of at least `t` the register had.
-/
module

public import proofs.«01_k».proof.Proof.Lanes
public import Idealize.ShloMosaic.PureOps.Ideal.Laws
public import Mathlib.Data.Prod.Lex
public import Mathlib.Data.Fintype.Card

@[expose] public section

set_option maxRecDepth 65536

noncomputable section

namespace Cert.KernelIdeal.Net

open Idealize.ShloMosaic Idealize.SL.Sem
open Cert.KernelIdeal Cert.KernelIdeal.Gen

/-! ## Ranks -/

/-- How many come before entry `m`. -/
def rankOf {ι α : Type} [Fintype ι] [LinearOrder α] (e : ι → α) (m : ι) : ℕ := (Finset.univ.filter fun l => e l < e m).card

theorem rankOf_lt {ι α : Type} [Fintype ι] [LinearOrder α] (e : ι → α) (m : ι) : rankOf e m < Fintype.card ι :=
  Finset.card_lt_card (Finset.filter_ssubset.mpr ⟨m, Finset.mem_univ m, lt_irrefl _⟩)

theorem rankOf_strictMono {ι α : Type} [Fintype ι] [LinearOrder α] (e : ι → α) {a b : ι} (h : e a < e b) : rankOf e a < rankOf e b := by
  refine Finset.card_lt_card ((Finset.ssubset_iff_of_subset fun l hl => ?_).mpr ⟨a, ?_, ?_⟩)
  · rw [Finset.mem_filter] at hl ⊢; exact ⟨hl.1, hl.2.trans h⟩
  · rw [Finset.mem_filter]; exact ⟨Finset.mem_univ _, h⟩
  · rw [Finset.mem_filter]; exact fun hl => lt_irrefl _ hl.2

theorem rankOf_injective {ι α : Type} [Fintype ι] [LinearOrder α] (e : ι → α) (he : Function.Injective e) : Function.Injective (rankOf e) := by
  intro a b h
  rcases lt_trichotomy (e a) (e b) with hl | hq | hl
  · exact absurd h (rankOf_strictMono e hl).ne
  · exact he hq
  · exact absurd h.symm (rankOf_strictMono e hl).ne

/-! ## The keys of a register -/

/-- Lane `l`'s key. -/
def key (x : KI Ideal) (l : Fin 16) : EReal := x.1 (ix1 l)

/-- How many of a register's keys are at least `t`. -/
def cnt (t : EReal) (x : KI Ideal) : ℕ := (Finset.univ.filter fun l => t ≤ key x l).card

/-- A register's keys of at least `t` are its last `n` lanes. -/
def Cut1 (t : EReal) (x : KI Ideal) (n : ℕ) : Prop := n ≤ 16 ∧ ∀ l : Fin 16, t ≤ key x l ↔ 16 - n ≤ l.val

/-- Lane `l`'s key, and of equal keys the earlier lane first. -/
def lexKey (x : KI Ideal) (l : Fin 16) : EReal ×ₗ Fin 16 := toLex (key x l, l)

theorem lexKey_injective (x : KI Ideal) : Function.Injective (lexKey x) := fun a b h => by
  have h' := toLex.injective h
  exact (Prod.mk.injEq _ _ _ _ ▸ h').2

theorem lexKey_lt (x : KI Ideal) (a b : Fin 16) : lexKey x a < lexKey x b ↔ key x a < key x b ∨ key x a = key x b ∧ a < b :=
  Prod.Lex.toLex_lt_toLex

/-- The lane a key goes to. -/
def slot (x : KI Ideal) (m : Fin 16) : Fin 16 := ⟨rankOf (lexKey x) m, by simpa using rankOf_lt (lexKey x) m⟩

theorem slot_injective (x : KI Ideal) : Function.Injective (slot x) := fun a b h =>
  rankOf_injective _ (lexKey_injective x) (Fin.mk.inj_iff.mp h)

/-! ## Counting by a running sum -/

theorem foldl_addi (c : Fin 16 → ℕ) (L : List (Fin 16)) (a : ℕ) :
    L.foldl (fun r k => IntOp.addi r (BitVec.ofNat 32 (c k))) (BitVec.ofNat 32 a) = BitVec.ofNat 32 (a + (L.map c).sum) := by
  induction L generalizing a with
  | nil => rfl
  | cons k L ih =>
    rw [List.foldl_cons, show IntOp.addi (BitVec.ofNat 32 a) (BitVec.ofNat 32 (c k)) = BitVec.ofNat 32 (a + c k) from
      (BitVec.ofNat_add _ _).symm, ih, List.map_cons, List.sum_cons, Nat.add_assoc]

theorem extui_bit (b : BitVec 1) : b.setWidth 32 = BitVec.ofNat 32 (if b = 1#1 then 1 else 0) := by
  revert b; decide

/-- The last lane of the running sum of a mask is the number of lanes set. -/
theorem scan_count (M : IVec S16 1) :
    extractAt ![15] (scan .sum (extui 32 M natLt_1_32)) inpos_S16_p15 = BitVec.ofNat 32 (Finset.univ.filter fun l : Fin 16 => M (ix1 l) = 1#1).card := by
  have hv : ∀ k : Fin 16, extui 32 M natLt_1_32 (ix1 k) = BitVec.ofNat 32 (if M (ix1 k) = 1#1 then 1 else 0) := fun k => extui_bit _
  have hL : ((List.finRange 16).filter fun k => decide (0 < k.val ∧ k.val ≤ 15)) = [1, 2, 3, 4, 5, 6, 7, 8, 9, 10, 11, 12, 13, 14, 15] := by decide
  have e : extractAt ![15] (scan .sum (extui 32 M natLt_1_32)) inpos_S16_p15
      = ((List.finRange 16).filter fun k => decide (0 < k.val ∧ k.val ≤ 15)).foldl
        (fun r k => IntOp.addi r (extui 32 M natLt_1_32 (ix1 k))) (extui 32 M natLt_1_32 (ix1 0)) := by
    have ol : ∀ k : Fin 16, (Shape.ofLane (d := ![16]) k) = ix1 k := fun k => by
      funext a; match a with
      | ⟨0, _⟩ => rfl
    have : ∀ k : Fin 16, extui 32 M natLt_1_32 (ix1 k) = extui 32 M natLt_1_32 (Shape.ofLane (d := ![16]) k) := fun k => by rw [ol]
    simp only [this]
    rfl
  rw [e, hL]
  simp only [hv]
  refine (foldl_addi (fun k => if M (ix1 k) = 1#1 then 1 else 0) _ (if M (ix1 0) = 1#1 then 1 else 0)).trans (congrArg _ ?_)
  rw [Finset.card_filter, Fin.sum_univ_def]
  rfl

/-! ## One turn of the sort -/

theorem lanes_slt : ∀ n l : Fin 16, cmpi .slt lanes (broadcast S16 (Scf.iv 0#32 1#32 n.val)) (ix1 l) = 1#1 ↔ l < n := by
  decide +kernel

theorem lanes_eq : ∀ r l : Fin 16, cmpi .eq lanes (broadcast S16 (BitVec.ofNat 32 r.val)) (ix1 l) = 1#1 ↔ l = r := by
  decide +kernel

theorem or_and_bit (a b c : BitVec 1) : IntOp.ori a (IntOp.andi b c) = 1#1 ↔ a = 1#1 ∨ b = 1#1 ∧ c = 1#1 := by
  revert a b c; decide

theorem bit_decide (p : Prop) [Decidable p] : BitVec.ofBool (decide p) = 1#1 ↔ p := by
  by_cases h : p <;> simp [h]

/-- Turn `n`'s mask: the one lane that the key of lane `n` goes to. -/
theorem placeMask_apply (x : KI Ideal) (n : Fin 16) (a : Vec Ideal S16 .f32) (ha : a (ix1 0) = x.1 (ix1 n)) (l : Fin 16) :
    placeMask x.1 n.val a (ix1 l) = 1#1 ↔ l = slot x n := by
  unfold placeMask
  rw [scan_count, Finset.filter_congr (q := fun k => lexKey x k < lexKey x n) fun k _ => ?_]
  · exact lanes_eq (slot x n) l
  rw [lexKey_lt]
  refine (or_and_bit _ _ _).trans (or_congr ?_ (and_congr ?_ (lanes_slt n k)))
  · show BitVec.ofBool (decide (key x k < head a)) = 1#1 ↔ _
    rw [bit_decide, head_apply, ha]; rfl
  · show BitVec.ofBool (decide (key x k = head a)) = 1#1 ↔ _
    rw [bit_decide, head_apply, ha]; rfl

theorem rot1_idx (l : Fin 16) (n : ℕ) : l + 1 + Fin.ofNat 16 n = l + Fin.ofNat 16 (n + 1) := by
  refine Fin.ext ?_
  simp only [Fin.val_add, Fin.ofNat]
  simp
  omega

/-- After `n` turns the keys have turned by `n`, and those of the first `n` lanes are where they go. -/
theorem placeN_spec (x : KI Ideal) (n : ℕ) (hn : n ≤ 16) :
    (∀ l : Fin 16, (placeN x n).1 (ix1 l) = x.1 (ix1 (l + Fin.ofNat 16 n)))
      ∧ ∀ m : Fin 16, m.val < n → (placeN x n).2.2.1 (ix1 (slot x m)) = x.1 (ix1 m) := by
  induction n with
  | zero =>
    refine ⟨fun l => ?_, fun m hm => absurd hm (Nat.not_lt_zero _)⟩
    show x.1 (ix1 l) = x.1 (ix1 (l + 0))
    rw [add_zero]
  | succ n ih =>
    obtain ⟨ha, hc⟩ := ih (by omega)
    have h0 : (placeN x n).1 (ix1 0) = x.1 (ix1 (⟨n, hn⟩ : Fin 16)) := by
      rw [ha 0, zero_add]
      exact congrArg (fun i => x.1 (ix1 i)) (Fin.ext (Nat.mod_eq_of_lt hn))
    refine ⟨fun l => ?_, fun m hm => ?_⟩
    · show rot1 (placeN x n).1 (ix1 l) = _
      rw [rot1_apply, ha, rot1_idx]
    · show (if placeMask x.1 n (placeN x n).1 (ix1 (slot x m)) = 1#1 then head (placeN x n).1 else (placeN x n).2.2.1 (ix1 (slot x m))) = _
      by_cases hmn : m.val = n
      · have e : m = ⟨n, hn⟩ := Fin.ext hmn
        rw [if_pos ((placeMask_apply x ⟨n, hn⟩ _ h0 _).mpr (congrArg _ e)), head_apply, h0, e]
      · rw [if_neg fun h => hmn (congrArg Fin.val (slot_injective x ((placeMask_apply x ⟨n, hn⟩ _ h0 _).mp h)))]
        exact hc m (by omega)

/-! ## The sort -/

theorem key_sortReg (x : KI Ideal) (m : Fin 16) : key (sortReg x) (slot x m) = key x m := by
  unfold sortReg
  exact (placeN_spec x 16 le_rfl).2 m m.isLt

theorem cnt_le (t : EReal) (x : KI Ideal) : cnt t x ≤ 16 := (Finset.card_le_univ _).trans (by simp)

theorem cut_sortReg (t : EReal) (x : KI Ideal) : Cut1 t (sortReg x) (cnt t x) := by
  refine ⟨cnt_le t x, fun l => ?_⟩
  obtain ⟨m, rfl⟩ := Finite.surjective_of_injective (slot_injective x) l
  rw [key_sortReg]
  have hc : (Finset.univ.filter fun l => key x l < t).card = 16 - cnt t x := by
    have h := Finset.card_filter_add_card_filter_not (s := (Finset.univ : Finset (Fin 16))) (fun l => t ≤ key x l)
    simp only [not_le, Finset.card_univ, Fintype.card_fin] at h
    unfold cnt
    omega
  rw [← hc]
  show _ ↔ _ ≤ rankOf (lexKey x) m
  constructor
  · intro h
    refine Finset.card_le_card fun l hl => ?_
    rw [Finset.mem_filter] at hl ⊢
    exact ⟨hl.1, (lexKey_lt x l m).mpr (.inl (hl.2.trans_le h))⟩
  · intro h
    by_contra hm
    rw [not_le] at hm
    refine absurd h (not_le.mpr (Finset.card_lt_card ((Finset.ssubset_iff_of_subset fun l hl => ?_).mpr ⟨m, ?_, ?_⟩)))
    · rw [Finset.mem_filter] at hl ⊢
      refine ⟨hl.1, ?_⟩
      rcases (lexKey_lt x l m).mp hl.2 with h | h
      · exact h.trans hm
      · exact h.1 ▸ hm
    · rw [Finset.mem_filter]; exact ⟨Finset.mem_univ _, hm⟩
    · rw [Finset.mem_filter]; exact fun hl => lt_irrefl _ hl.2

end Cert.KernelIdeal.Net

end
-- ==== Proof.Counts.lean ====
/-
  The merges' counts over sixteen lanes, one statement for all the numbers two sorted sequences can have above a
  threshold. A lane of a sorted register is among the last `a`; of a register reversed, its mirror lane is.
-/
module

public import Mathlib.Data.Fintype.Card
public import Mathlib.Data.Fin.Rev

@[expose] public section

namespace Cert.KernelIdeal.Net

/-! ## Two registers -/

theorem count_merge : ∀ a b : Fin 17,
    (Finset.univ.filter fun l : Fin 16 => 16 - a.val ≤ l.val ∧ 16 - b.val ≤ l.rev.val).card = a.val + b.val - 16
      ∧ (Finset.univ.filter fun l : Fin 16 => 16 - a.val ≤ l.val ∨ 16 - b.val ≤ l.rev.val).card = min 16 (a.val + b.val) := by
  decide +kernel

/-! ## Two merged pairs -/

theorem count_spread32 : ∀ a b : Fin 33,
    (Finset.univ.filter fun l : Fin 16 => (16 - (a.val - 16) ≤ l.val ∧ 16 - min 16 b.val ≤ l.rev.val) ∧ (16 - min 16 a.val ≤ l.val ∧ 16 - (b.val - 16) ≤ l.rev.val)).card = a.val + b.val - 48
    ∧ (Finset.univ.filter fun l : Fin 16 => (16 - (a.val - 16) ≤ l.val ∧ 16 - min 16 b.val ≤ l.rev.val) ∨ (16 - min 16 a.val ≤ l.val ∧ 16 - (b.val - 16) ≤ l.rev.val)).card = min 16 (a.val + b.val - 32)
    ∧ (Finset.univ.filter fun l : Fin 16 => (16 - (a.val - 16) ≤ l.val ∨ 16 - min 16 b.val ≤ l.rev.val) ∧ (16 - min 16 a.val ≤ l.val ∨ 16 - (b.val - 16) ≤ l.rev.val)).card = min 16 (a.val + b.val - 16)
    ∧ (Finset.univ.filter fun l : Fin 16 => (16 - (a.val - 16) ≤ l.val ∨ 16 - min 16 b.val ≤ l.rev.val) ∨ (16 - min 16 a.val ≤ l.val ∨ 16 - (b.val - 16) ≤ l.rev.val)).card = min 16 (a.val + b.val) := by
  decide +kernel

/-! ## Two sorted quadruples -/

/-- Which places of the upper sixty-four hold a key of at least `t`, `a` and `b` the counts of the two quadruples. -/
abbrev up0 (a b : ℕ) (l : Fin 16) : Prop := 16 - (a - 48) ≤ l.val ∨ 16 - min 16 b ≤ l.rev.val
abbrev up1 (a b : ℕ) (l : Fin 16) : Prop := 16 - min 16 (a - 32) ≤ l.val ∨ 16 - min 16 (b - 16) ≤ l.rev.val
abbrev up2 (a b : ℕ) (l : Fin 16) : Prop := 16 - min 16 (a - 16) ≤ l.val ∨ 16 - min 16 (b - 32) ≤ l.rev.val
abbrev up3 (a b : ℕ) (l : Fin 16) : Prop := 16 - min 16 a ≤ l.val ∨ 16 - (b - 48) ≤ l.rev.val

theorem count_spread64 : ∀ a b : Fin 65,
    (Finset.univ.filter fun l : Fin 16 => (up0 a b l ∧ up2 a b l) ∧ (up1 a b l ∧ up3 a b l)).card = min 64 (a.val + b.val) - 48
    ∧ (Finset.univ.filter fun l : Fin 16 => (up0 a b l ∧ up2 a b l) ∨ (up1 a b l ∧ up3 a b l)).card = min 16 (min 64 (a.val + b.val) - 32)
    ∧ (Finset.univ.filter fun l : Fin 16 => (up0 a b l ∨ up2 a b l) ∧ (up1 a b l ∨ up3 a b l)).card = min 16 (min 64 (a.val + b.val) - 16)
    ∧ (Finset.univ.filter fun l : Fin 16 => (up0 a b l ∨ up2 a b l) ∨ (up1 a b l ∨ up3 a b l)).card = min 16 (min 64 (a.val + b.val)) := by
  decide +kernel

end Cert.KernelIdeal.Net
-- ==== Proof.Cuts.lean ====
/-
  The register operations read through a threshold `t`: which lanes hold a key of at least `t`. A compare-exchange is
  "and" and "or" of the lanes, so from registers whose last lanes are the ones, the merges are a count over lanes; the
  sixty-four sorted keys of two quadruples are read as the last of sixty-four places, as many as the two had together.
-/
module

public import proofs.«01_k».proof.Proof.Sorting
public import proofs.«01_k».proof.Proof.Counts

@[expose] public section

set_option maxRecDepth 65536

noncomputable section

namespace Cert.KernelIdeal.Net

open Idealize.ShloMosaic Idealize.SL.Sem
open Cert.KernelIdeal Cert.KernelIdeal.Gen

variable {t : EReal}

theorem key_lo (x y : KI Ideal) (l : Fin 16) : key (cmpx x y).1 l = if key y l ≤ key x l then key y l else key x l := by
  show (if BitVec.ofBool (decide (key y l ≤ key x l)) = 1#1 then key y l else key x l) = _
  simp only [bit_decide]

theorem key_hi (x y : KI Ideal) (l : Fin 16) : key (cmpx x y).2 l = if key y l ≤ key x l then key x l else key y l := by
  show (if BitVec.ofBool (decide (key y l ≤ key x l)) = 1#1 then key x l else key y l) = _
  simp only [bit_decide]

theorem le_lo (x y : KI Ideal) (l : Fin 16) : t ≤ key (cmpx x y).1 l ↔ t ≤ key x l ∧ t ≤ key y l := by
  rw [key_lo]
  split
  · rename_i h; exact ⟨fun q => ⟨q.trans h, q⟩, fun q => q.2⟩
  · rename_i h; exact ⟨fun q => ⟨q, q.trans (not_le.mp h).le⟩, fun q => q.1⟩

theorem le_hi (x y : KI Ideal) (l : Fin 16) : t ≤ key (cmpx x y).2 l ↔ t ≤ key x l ∨ t ≤ key y l := by
  rw [key_hi]
  split
  · rename_i h; exact ⟨.inl, fun q => q.elim id fun q => q.trans h⟩
  · rename_i h; exact ⟨.inr, fun q => q.elim (fun q => q.trans (not_le.mp h).le) id⟩

theorem key_revK (x : KI Ideal) (l : Fin 16) : key (revK x) l = key x l.rev := rev_apply x.1 l

theorem cnt_of {x : KI Ideal} (p : Fin 16 → Prop) [DecidablePred p] (h : ∀ l, t ≤ key x l ↔ p l) : cnt t x = (Finset.univ.filter p).card := by
  unfold cnt
  simp only [h]

theorem Cut1.rev {x : KI Ideal} {n : ℕ} (h : Cut1 t x n) (l : Fin 16) : t ≤ key (revK x) l ↔ 16 - n ≤ l.rev.val := by
  rw [key_revK]; exact h.2 _

theorem cut_sort {x : KI Ideal} {n : ℕ} (h : cnt t x = n) : Cut1 t (sortReg x) n := h ▸ cut_sortReg t x

/-! ## Two registers -/

theorem cut_merge16 {x y : KI Ideal} {a b : ℕ} (hx : Cut1 t x a) (hy : Cut1 t y b) :
    Cut1 t (merge16 x y).1 (a + b - 16) ∧ Cut1 t (merge16 x y).2 (min 16 (a + b)) := by
  have h := count_merge ⟨a, by have := hx.1; omega⟩ ⟨b, by have := hy.1; omega⟩
  refine ⟨cut_sort ((cnt_of _ fun l => ?_).trans h.1), cut_sort ((cnt_of _ fun l => ?_).trans h.2)⟩
  · rw [le_lo, hy.rev, hx.2]
  · rw [le_hi, hy.rev, hx.2]

/-! ## Four registers -/

/-- The keys of at least `t` of four registers are the last `n` of their sixty-four places. -/
def Cut4 (t : EReal) (T : Regs Ideal) (n : ℕ) : Prop :=
  n ≤ 64 ∧ Cut1 t T.r0 (n - 48) ∧ Cut1 t T.r1 (min 16 (n - 32)) ∧ Cut1 t T.r2 (min 16 (n - 16)) ∧ Cut1 t T.r3 (min 16 n)

theorem cut_spread32 {p q : KI Ideal × KI Ideal} {a b : ℕ} (ha : a ≤ 32) (hb : b ≤ 32) (p1 : Cut1 t p.1 (a - 16)) (p2 : Cut1 t p.2 (min 16 a))
    (q1 : Cut1 t q.1 (b - 16)) (q2 : Cut1 t q.2 (min 16 b)) : Cut4 t (spread32 p q).sorted (a + b) := by
  have h := count_spread32 ⟨a, by omega⟩ ⟨b, by omega⟩
  refine ⟨by omega, cut_sort ((cnt_of _ fun l => ?_).trans h.1), cut_sort ((cnt_of _ fun l => ?_).trans h.2.1),
    cut_sort ((cnt_of _ fun l => ?_).trans h.2.2.1), cut_sort ((cnt_of _ fun l => ?_).trans h.2.2.2)⟩
  all_goals simp only [spread32, le_lo, le_hi, q1.rev, q2.rev, p1.2, p2.2]

/-- How many of the keys of four registers are at least `t`. -/
def cnt4 (t : EReal) (s : Regs Ideal) : ℕ := cnt t s.r0 + cnt t s.r1 + (cnt t s.r2 + cnt t s.r3)

/-- Four registers sorted together. -/
theorem cut_sort64 (s : Regs Ideal) : Cut4 t (sort64 s) (cnt4 t s) := by
  have a := cut_merge16 (cut_sortReg t s.r0) (cut_sortReg t s.r1)
  have b := cut_merge16 (cut_sortReg t s.r2) (cut_sortReg t s.r3)
  exact cut_spread32 (Nat.add_le_add (cnt_le t _) (cnt_le t _)) (Nat.add_le_add (cnt_le t _) (cnt_le t _)) a.1 a.2 b.1 b.2

/-! ## Two sorted quadruples -/

/-- The best sixty-four of two sorted quadruples. -/
theorem cut_mergeTop {p q : Regs Ideal} {a b : ℕ} (hp : Cut4 t p a) (hq : Cut4 t q b) : Cut4 t (mergeTop p q) (min 64 (a + b)) := by
  obtain ⟨ha, p0, p1, p2, p3⟩ := hp
  obtain ⟨hb, q0, q1, q2, q3⟩ := hq
  have h := count_spread64 ⟨a, Nat.lt_succ_of_le ha⟩ ⟨b, Nat.lt_succ_of_le hb⟩
  have u0 : ∀ l, t ≤ key (upper p q).r0 l ↔ up0 a b l := fun l => (le_hi _ _ l).trans (or_congr (p0.2 l) (q3.rev l))
  have u1 : ∀ l, t ≤ key (upper p q).r1 l ↔ up1 a b l := fun l => (le_hi _ _ l).trans (or_congr (p1.2 l) (q2.rev l))
  have u2 : ∀ l, t ≤ key (upper p q).r2 l ↔ up2 a b l := fun l => (le_hi _ _ l).trans (or_congr (p2.2 l) (q1.rev l))
  have u3 : ∀ l, t ≤ key (upper p q).r3 l ↔ up3 a b l := fun l => (le_hi _ _ l).trans (or_congr (p3.2 l) (q0.rev l))
  refine ⟨by omega, cut_sort ((cnt_of _ fun l => ?_).trans h.1), cut_sort ((cnt_of _ fun l => ?_).trans h.2.1),
    cut_sort ((cnt_of _ fun l => ?_).trans h.2.2.1), cut_sort ((cnt_of _ fun l => ?_).trans h.2.2.2)⟩
  all_goals simp only [spread64, le_lo, le_hi, u0, u1, u2, u3]

end Cert.KernelIdeal.Net

end
-- ==== Proof.Winners.lean ====
/-
  The sixty-four kept of a row, read by counting. After every chunk the kept keys of at least `t` are the last of the
  sixty-four places, as many as the row so far has of at least `t`, but no more than sixty-four. So when no value
  repeats, entry `p` of the positions names the value that `p` others exceed.
-/
module

public import proofs.«01_k».proof.Proof.Cuts
public import Mathlib.Data.Nat.Count
public import Mathlib.Data.Finset.Max

@[expose] public section

set_option maxRecDepth 65536

noncomputable section

namespace Cert.KernelIdeal.Net

open Idealize.ShloMosaic Idealize.SL.Sem
open Cert.KernelIdeal Cert.KernelIdeal.Gen

variable {t : EReal}

/-! ## The greatest and the least lane -/

theorem le_maximumf (a b : FVec Ideal S16 .f32) (l : Fin 16) :
    @LE.le EReal _ t (maximumf a b (ix1 l)) ↔ t ≤ (a (ix1 l) : EReal) ∨ t ≤ (b (ix1 l) : EReal) := by
  exact le_max_iff (α := EReal)

theorem le_minimumf (a b : FVec Ideal S16 .f32) (l : Fin 16) :
    @LE.le EReal _ t (minimumf a b (ix1 l)) ↔ t ≤ (a (ix1 l) : EReal) ∧ t ≤ (b (ix1 l) : EReal) := by
  exact le_min_iff (α := EReal)

theorem le_laneMax (x : Vec Ideal S16 .f32) : t ≤ (laneMax x : EReal) ↔ ∃ l : Fin 16, t ≤ (x (ix1 l) : EReal) := by
  unfold laneMax
  simp only [head_apply, le_maximumf, rot8_apply, rot4_apply, rot2_apply, rot1_apply]
  constructor
  · intro h
    by_contra hn
    simp only [not_exists] at hn
    simp only [hn, or_self] at h
  · rintro ⟨l, h⟩
    revert h
    fin_cases l <;> intro h <;> simp at h ⊢ <;> simp [h]

theorem le_laneMin (x : Vec Ideal S16 .f32) : t ≤ (laneMin x : EReal) ↔ ∀ l : Fin 16, t ≤ (x (ix1 l) : EReal) := by
  unfold laneMin
  simp only [head_apply, le_minimumf, rot8_apply, rot4_apply, rot2_apply, rot1_apply]
  constructor
  · intro h l
    fin_cases l <;> simp at h ⊢ <;> simp [h]
  · intro h
    simp only [h, and_self]

theorem passes_iff (a b : Ideal .f32) : Passes a b ↔ (b : EReal) < (a : EReal) := by
  have e : Scalar.cmpf (F := Ideal) .ogt a b = BitVec.ofBool (decide ((b : EReal) < (a : EReal))) := rfl
  unfold Passes
  rw [e]
  by_cases h : (b : EReal) < (a : EReal)
  · simp only [h, decide_true, iff_true]; decide
  · simp only [h, decide_false, iff_false]; decide

/-! ## Counting along a row -/

/-- Whether place `s` of a row holds at least `t`. -/
abbrev Ge (x : Fin 2048 → EReal) (t : EReal) (s : ℕ) : Prop := t ≤ x (place s)

theorem count_fin (p : ℕ → Prop) [DecidablePred p] (n : ℕ) : (Finset.univ.filter fun l : Fin n => p l.val).card = Nat.count p n := by
  rw [Nat.count_eq_card_filter_range, Finset.card_filter, Finset.card_filter, Finset.sum_range]

theorem cnt_chunkReg (x : Fin 2048 → EReal) (c j : ℕ) (P : IVec S16 32) :
    cnt t ((chunkReg (F := Ideal) x c j, P) : KI Ideal) = Nat.count (fun l => Ge x t (64 * c + 16 * j + l)) 16 :=
  count_fin (fun l => Ge x t (64 * c + 16 * j + l)) 16

theorem cnt4_chunk (x : Fin 2048 → EReal) (c : ℕ) :
    Nat.count (Ge x t) (64 * c) + cnt4 t (chunk (F := Ideal) x c) = Nat.count (Ge x t) (64 * (c + 1)) := by
  have e : 64 * (c + 1) = 64 * c + 16 * 0 + 16 + 16 + 16 + 16 := by omega
  rw [e]
  simp only [Nat.count_add (Ge x t)]
  unfold cnt4 chunk
  simp only [cnt_chunkReg]
  have e1 : 64 * c + 16 * 0 + 16 = 64 * c + 16 * 1 := by omega
  have e2 : 64 * c + 16 * 1 + 16 = 64 * c + 16 * 2 := by omega
  have e3 : 64 * c + 16 * 2 + 16 = 64 * c + 16 * 3 := by omega
  rw [e1, e2, e3]
  simp only [Nat.mul_zero, Nat.count_zero]
  omega

theorem le_chunkMax (x : Fin 2048 → EReal) (c : ℕ) (h : cnt4 t (chunk (F := Ideal) x c) ≠ 0) : t ≤ (chunkMax (F := Ideal) x c : EReal) := by
  have pos : ∀ r : KI Ideal, cnt t r ≠ 0 → ∃ l : Fin 16, t ≤ (r.1 (ix1 l) : EReal) := fun r hr => by
    obtain ⟨l, hl⟩ := Finset.card_pos.mp (Nat.pos_of_ne_zero hr)
    exact ⟨l, (Finset.mem_filter.mp hl).2⟩
  unfold chunkMax
  rw [le_laneMax]
  simp only [le_maximumf]
  by_contra hn
  simp only [not_exists, not_or] at hn
  refine h ?_
  have z : ∀ j, (∀ l : Fin 16, ¬ t ≤ (chunkReg (F := Ideal) x c j (ix1 l) : EReal)) → cnt t ((chunkReg (F := Ideal) x c j, chunkPos c j) : KI Ideal) = 0 :=
    fun j hj => by
      by_contra h0
      obtain ⟨l, hl⟩ := pos _ h0
      exact hj l hl
  unfold cnt4 chunk
  rw [z 0 fun l => (hn l).1.1, z 1 fun l => (hn l).1.2, z 2 fun l => (hn l).2.1, z 3 fun l => (hn l).2.2]

/-! ## The sixty-four kept -/

theorem cut_topStep (x : Fin 2048 → EReal) (c : ℕ) {T : Regs Ideal} {n : ℕ} (h : Cut4 t T n) :
    Cut4 t (topStep (F := Ideal) x c T) (min 64 (n + cnt4 t (chunk (F := Ideal) x c))) := by
  unfold topStep
  split
  · exact cut_mergeTop h (cut_sort64 _)
  · rename_i hp
    have e : min 64 (n + cnt4 t (chunk (F := Ideal) x c)) = n := by
      have hn := h.1
      by_cases h0 : cnt4 t (chunk (F := Ideal) x c) = 0
      · omega
      · rw [passes_iff, not_lt] at hp
        have hk := (le_laneMin T.r0.1).mp ((le_chunkMax x c h0).trans hp)
        have := (h.2.1.2 0).mp (hk 0)
        simp at this
        omega
    rw [e]
    exact h

theorem cut_topN (x : Fin 2048 → EReal) (n : ℕ) : Cut4 t (topN (F := Ideal) x n) (min 64 (Nat.count (Ge x t) (64 * (n + 1)))) := by
  induction n with
  | zero =>
    have h := cut_sort64 (t := t) (chunk (F := Ideal) x 0)
    have e := cnt4_chunk (t := t) x 0
    simp only [Nat.mul_zero, Nat.count_zero, Nat.zero_add] at e
    rw [e] at h
    have hl := h.1
    rw [Nat.zero_add, min_eq_right hl]
    exact h
  | succ n ih =>
    have h := cut_topStep x (n + 1) ih
    have e := cnt4_chunk (t := t) x (n + 1)
    have e' : min 64 (min 64 (Nat.count (Ge x t) (64 * (n + 1))) + cnt4 t (chunk (F := Ideal) x (n + 1)))
        = min 64 (Nat.count (Ge x t) (64 * (n + 1 + 1))) := by omega
    rw [e'] at h
    exact h

/-- How many of a row's values are at least `t`. -/
def atLeast (x : Fin 2048 → EReal) (t : EReal) : ℕ := (Finset.univ.filter fun s => t ≤ x s).card

theorem count_row (x : Fin 2048 → EReal) (t : EReal) : Nat.count (Ge x t) 2048 = atLeast x t := by
  rw [← count_fin]
  unfold atLeast
  congr 1

/-- Lane `l` of register `j` of the kept holds at least `t` exactly when enough of the row does. -/
theorem le_rowTop (x : Fin 2048 → EReal) (t : EReal) (j : ℕ) (hj : j < 4) (l : Fin 16) :
    t ≤ key ((rowTop (F := Ideal) x).reg j) l ↔ 64 - min 64 (atLeast x t) ≤ 16 * j + l.val := by
  have h : Cut4 t (rowTop (F := Ideal) x) (min 64 (atLeast x t)) := count_row x t ▸ cut_topN x 31
  obtain ⟨-, h0, h1, h2, h3⟩ := h
  have hl := l.isLt
  match j, hj with
  | 0, _ => refine (h0.2 l).trans ?_; omega
  | 1, _ => refine (h1.2 l).trans ?_; omega
  | 2, _ => refine (h2.2 l).trans ?_; omega
  | 3, _ => refine (h3.2 l).trans ?_; omega

/-! ## Ranks -/

theorem atLeast_lt (x : Fin 2048 → EReal) {a b : Fin 2048} (h : x a < x b) : atLeast x (x b) < atLeast x (x a) := by
  refine Finset.card_lt_card ((Finset.ssubset_iff_of_subset fun s hs => ?_).mpr ⟨a, ?_, ?_⟩)
  · rw [Finset.mem_filter] at hs ⊢; exact ⟨hs.1, h.le.trans hs.2⟩
  · rw [Finset.mem_filter]; exact ⟨Finset.mem_univ _, le_rfl⟩
  · rw [Finset.mem_filter]; exact fun hs => absurd hs.2 (not_le.mpr h)

theorem atLeast_injective (x : Fin 2048 → EReal) (hx : Function.Injective x) : Function.Injective fun s => atLeast x (x s) := fun a b h => by
  rcases lt_trichotomy (x a) (x b) with hl | hq | hl
  · exact absurd h (atLeast_lt x hl).ne'
  · exact hx hq
  · exact absurd h (atLeast_lt x hl).ne

/-- One more than the values above it are at least as great as a value of a row without repeats. -/
theorem atLeast_eq (x : Fin 2048 → EReal) (hx : Function.Injective x) (s : Fin 2048) :
    atLeast x (x s) = (Finset.univ.filter fun q => x s < x q).card + 1 := by
  unfold atLeast
  rw [← Finset.card_insert_of_notMem (a := s) (s := Finset.univ.filter fun q => x s < x q) (by simp)]
  congr 1
  ext q
  simp only [Finset.mem_filter, Finset.mem_univ, true_and, Finset.mem_insert]
  rw [le_iff_lt_or_eq]
  constructor
  · rintro (h | h)
    · exact .inr h
    · exact .inl (hx h).symm
  · rintro (h | h)
    · exact .inr (h ▸ rfl)
    · exact .inl h

/-- A value that stands in place `63 - p` of the kept is the one that `p` others exceed. -/
theorem atLeast_of_cut (x : Fin 2048 → EReal) (hx : Function.Injective x) (s : Fin 2048) (p : ℕ) (hp : p < 64)
    (h : ∀ t, t ≤ x s ↔ 64 - min 64 (atLeast x t) ≤ 63 - p) : atLeast x (x s) = p + 1 := by
  have h1 := (h (x s)).mp le_rfl
  have he := atLeast_eq x hx s
  by_cases hne : (Finset.univ.filter fun q => x s < x q).Nonempty
  · obtain ⟨q, hq, hmin⟩ := Finset.exists_min_image _ x hne
    have hq' := (Finset.mem_filter.mp hq).2
    have hA : atLeast x (x q) = (Finset.univ.filter fun q => x s < x q).card := by
      unfold atLeast
      congr 1
      ext r
      simp only [Finset.mem_filter, Finset.mem_univ, true_and]
      exact ⟨fun hr => hq'.trans_le hr, fun hr => hmin r (Finset.mem_filter.mpr ⟨Finset.mem_univ _, hr⟩)⟩
    have h2 := mt (h (x q)).mpr (not_le.mpr hq')
    omega
  · rw [Finset.not_nonempty_iff_eq_empty] at hne
    rw [hne, Finset.card_empty] at he
    omega

theorem idxRow_lane (x : Fin 2048 → EReal) (p : Fin 64) :
    idxRow (F := Ideal) x p = ((rowTop (F := Ideal) x).reg (3 - p.val / 16)).2 (ix1 (Fin.rev ⟨p.val % 16, Nat.mod_lt _ (by decide)⟩)) :=
  rev_apply _ _

/-- The position kept in lane `l` of register `j` names a value exceeded by as many as places follow it. -/
theorem rank_reg (x : Fin 2048 → EReal) (hx : Function.Injective x) (j : ℕ) (hj : j < 4) (l : Fin 16) :
    ∃ h : (((rowTop (F := Ideal) x).reg j).2 (ix1 l)).toNat < 2048,
      atLeast x (x ⟨(((rowTop (F := Ideal) x).reg j).2 (ix1 l)).toNat, h⟩) = 64 - (16 * j + l.val) := by
  obtain ⟨h, e⟩ := rowTop_at (F := Ideal) x j (ix1 l)
  refine ⟨h, ?_⟩
  have hl := l.isLt
  have e' : key ((rowTop (F := Ideal) x).reg j) l = x ⟨(((rowTop (F := Ideal) x).reg j).2 (ix1 l)).toNat, h⟩ := e
  rw [atLeast_of_cut x hx _ (63 - (16 * j + l.val)) (by omega) fun t => ?_]
  · omega
  · rw [← e', le_rowTop x t j hj l]
    omega

theorem rank_idxRow (x : Fin 2048 → EReal) (hx : Function.Injective x) (p : Fin 64) :
    ∃ h : (idxRow (F := Ideal) x p).toNat < 2048, atLeast x (x ⟨(idxRow (F := Ideal) x p).toNat, h⟩) = p.val + 1 := by
  have hp := p.isLt
  obtain ⟨h, e⟩ := rank_reg x hx (3 - p.val / 16) (by omega) (Fin.rev ⟨p.val % 16, Nat.mod_lt _ (by decide)⟩)
  simp only [← idxRow_lane] at h e
  refine ⟨h, e.trans ?_⟩
  rw [Fin.val_rev]
  show 64 - (16 * (3 - p.val / 16) + (16 - (p.val % 16 + 1))) = p.val + 1
  omega

/-- A position is kept exactly when it is one of the sixty-four entries. -/
theorem kept_iff (x : Fin 2048 → EReal) (s : ℕ) : Kept (rowTop (F := Ideal) x) s ↔ ∃ p : Fin 64, (idxRow (F := Ideal) x p).toNat = s := by
  constructor
  · rintro ⟨j, hj, l, h⟩
    obtain ⟨l, rfl⟩ : ∃ k : Fin 16, l = ix1 k := ⟨l 0, (ix1_eta l).symm⟩
    have hl := l.isLt
    refine ⟨⟨63 - (16 * j + l.val), by omega⟩, ?_⟩
    rw [idxRow_lane, ← h]
    have e1 : 3 - (63 - (16 * j + l.val)) / 16 = j := by omega
    have e2 : (Fin.rev ⟨(63 - (16 * j + l.val)) % 16, Nat.mod_lt _ (by decide)⟩ : Fin 16) = l := Fin.ext (by
      rw [Fin.val_rev]
      show 16 - ((63 - (16 * j + l.val)) % 16 + 1) = l.val
      omega)
    show (((rowTop (F := Ideal) x).reg (3 - (63 - (16 * j + l.val)) / 16)).2 _).toNat = _
    rw [e1, e2]
  · rintro ⟨p, h⟩
    exact ⟨3 - p.val / 16, by have := p.isLt; omega, _, (idxRow_lane x p) ▸ h⟩

end Cert.KernelIdeal.Net

end
-- ==== Proof.RefTop.lean ====
/-
  What the reference's results hold, read at an index: the position in column `p` of a row is that of the value that `p`
  others exceed, and a cell of the mask is set when some column holds its position.
-/
module

public import Idealize.ShloMosaic.Lib.SortFacts
public import Idealize.ShloMosaic.Lib.Pipeline.Value
public import Mathlib.Order.Interval.Finset.Fin
public import proofs.«01_k».proof.Proof.Gen.ReferenceIdeal.Read
public import proofs.«01_k».proof.Proof.Winners

@[expose] public section

set_option maxRecDepth 65536

noncomputable section

namespace Cert.Proof.Ref

open Cert.ReferenceIdeal Cert.ReferenceIdeal.Gen
open Idealize.ShloMosaic Idealize.SL.Sem
open Cert.KernelIdeal.Net (atLeast bit_decide)

/-- A row of the scores. -/
abbrev rowOf (X : FVec Ideal S1x2048x2048 .f32) (r : Fin 2048) : Fin 2048 → EReal := fun s => X (ix3 0 r s)

/-- The positions that `top_k` gives of the scores. -/
def refIdx (X : FVec Ideal S1x2048x2048 .f32) : IVec S1x2048x64 32 :=
  (Host.topK S1x2048x64 2 (FloatOps.cmpfTotal .gt) X sliceFits_S1x2048x2048_S1x2048x64).2

/-- Where some column holds the cell's own position. -/
def hits (J : IVec S1x2048x64 32) : IVec S1x2048x2048 1 :=
  Host.reduce IntOp.ori
    (cmpi .eq
      (broadcastInDim S1x2048x64x2048 ![0, 1, 2, 3] bcast_S1x1x1x2048_S1x2048x64x2048_0_1_2_3
        (broadcastInDim S1x1x1x2048 ![3] bcast_S2048_S1x1x1x2048_3 (iotaInDim S2048 32 0)))
      (broadcastInDim S1x2048x64x2048 ![0, 1, 2, 3] bcast_S1x2048x64x1_S1x2048x64x2048_0_1_2_3
        (broadcastInDim S1x2048x64x1 ![0, 1, 2] bcast_S1x2048x64_S1x2048x64x1_0_1_2 J)))
    (constantI S_ 1 0#1) reducesTo_S1x2048x64x2048_S1x2048x2048_d2 h_S_

/-- The mask: zero at the positions named, the large negative number elsewhere. -/
def refMask (X : FVec Ideal S1x2048x2048 .f32) : FVec Ideal S1x2048x2048 .f32 :=
  select (hits (refIdx X)) (broadcastInDim S1x2048x2048 ![] bcast_S_S1x2048x2048 (constant S_ .f32 0x00000000#32))
    (broadcastInDim S1x2048x2048 ![] bcast_S_S1x2048x2048 (constant S_ .f32 0xFF333332#32))

/-! ## The positions -/

theorem along_ix3 (r s k : Fin 2048) : Shape.Idx.along (s := S1x2048x2048) (ix3 0 r s) 2 k = ix3 0 r k := by
  funext a
  match a with
  | ⟨0, _⟩ => rfl
  | ⟨1, _⟩ => rfl
  | ⟨2, _⟩ => rfl

/-- The order the reference sorts a row's positions by. -/
abbrev before (x : Fin 2048 → EReal) (k k' : Fin 2048) : Bool := decide (x k' < x k)

theorem before_eq (X : FVec Ideal S1x2048x2048 .f32) (r k k' : Fin 2048) :
    (FloatOps.cmpfTotal (F := Ideal) (φ := .f32) .gt (X (ix3 0 r k)) (X (ix3 0 r k')) == 1#1) = before (rowOf X r) k k' := by
  show (BitVec.ofBool (decide (rowOf X r k' < rowOf X r k)) == 1#1) = decide _
  by_cases h : rowOf X r k' < rowOf X r k <;> simp [h]

/-- Column `p` of the sixty-four, as a column of the row. -/
abbrev col (p : Fin 64) : Fin 2048 := ⟨p.val, by have := p.isLt; omega⟩

/-- A position that `top_k` gives is the sort's source of its column. -/
theorem topK_pos {s t : Shape} {α : Type} (d : ℕ) (hd : d < s.rank) (gt : α → α → BitVec 1) (x : s.Idx → α) (h : s.Slices (fun _ => 0) t)
    (j : t.Idx) (k : s.Idx) (hk : ∀ a : Fin s.rank, (k a).val = 0 + (j (a.cast h.1.symm)).val) :
    (Host.topK t d gt x h).2 j = BitVec.ofNat 32 (sortedFrom
      (fun q q' => gt (x (k.along ⟨d, hd⟩ q)) (x (k.along ⟨d, hd⟩ q')) == 1#1) (k ⟨d, hd⟩)).val := by
  unfold Host.topK
  dsimp only
  rw [extractStridedSlice_apply _ _ _ j k hk]
  unfold Host.sort2
  rw [dif_pos hd]
  dsimp only
  rw [dif_pos hd]
  unfold iotaInDim
  rw [show ∀ q, (k.along ⟨d, hd⟩ q) ⟨d, hd⟩ = q from fun q => Function.update_self _ _ _]

theorem refIdx_apply (X : FVec Ideal S1x2048x2048 .f32) (r : Fin 2048) (p : Fin 64) :
    refIdx X (ix3 0 r p) = BitVec.ofNat 32 (sortedFrom (before (rowOf X r)) (col p)).val := by
  unfold refIdx
  rw [topK_pos 2 (by decide) _ X _ (ix3 0 r p) (ix3 0 r (col p)) fun a => by
    match a with
    | ⟨0, _⟩ => exact (Nat.zero_add _).symm
    | ⟨1, _⟩ => exact (Nat.zero_add _).symm
    | ⟨2, _⟩ => exact (Nat.zero_add _).symm]
  refine congrArg (fun B => BitVec.ofNat 32 (sortedFrom B (col p)).val) ?_
  funext q q'
  exact (congrArg₂ (fun a b => FloatOps.cmpfTotal (F := Ideal) (φ := .f32) .gt (X a) (X b) == 1#1) (along_ix3 r (col p) q)
    (along_ix3 r (col p) q')).trans (before_eq X r q q')

theorem rank_sortedFrom (x : Fin 2048 → EReal) (hx : Function.Injective x) (p : Fin 2048) :
    atLeast x (x (sortedFrom (before x) p)) = p.val + 1 := by
  have hs : Function.Bijective (sortedFrom (before x)) := ⟨sortedFrom_injective _, sortedFrom_surjective _⟩
  have inv : ∀ i j : Fin 2048, i < j → x (sortedFrom (before x) j) < x (sortedFrom (before x) i) := fun i j hij => by
    have h := sortedFrom_noInversion (before x) (before x) (fun a b h => ?_) (fun a b h => h) (fun a b c h1 h2 => ?_) i j hij
    · rw [decide_eq_false_iff_not, not_lt] at h
      exact lt_of_le_of_ne h fun e => hij.ne' (hs.1 (hx e))
    · rw [decide_eq_true_eq] at h
      rw [decide_eq_false_iff_not]
      exact lt_asymm h
    · rw [decide_eq_false_iff_not, not_lt] at h1 h2 ⊢
      exact h1.trans h2
  unfold atLeast
  rw [← Fin.card_Iic p]
  refine (Finset.card_bij (fun q _ => sortedFrom (before x) q) (fun q hq => ?_) (fun a _ b _ h => hs.1 h) fun s hs' => ?_).symm
  · rw [Finset.mem_filter]
    rcases (Finset.mem_Iic.mp hq).lt_or_eq with h | h
    · exact ⟨Finset.mem_univ _, (inv q p h).le⟩
    · exact ⟨Finset.mem_univ _, h ▸ le_rfl⟩
  · obtain ⟨q, rfl⟩ := hs.2 s
    refine ⟨q, Finset.mem_Iic.mpr (not_lt.mp fun h => ?_), rfl⟩
    exact absurd (Finset.mem_filter.mp hs').2 (not_le.mpr (inv p q h))

theorem rank_refIdx (X : FVec Ideal S1x2048x2048 .f32) (r : Fin 2048) (hx : Function.Injective (rowOf X r)) (p : Fin 64) :
    ∃ h : (refIdx X (ix3 0 r p)).toNat < 2048, atLeast (rowOf X r) (rowOf X r ⟨(refIdx X (ix3 0 r p)).toNat, h⟩) = p.val + 1 := by
  have hv := (sortedFrom (before (rowOf X r)) (col p)).isLt
  have e : (refIdx X (ix3 0 r p)).toNat = (sortedFrom (before (rowOf X r)) (col p)).val := by
    rw [refIdx_apply, BitVec.toNat_ofNat]
    exact Nat.mod_eq_of_lt (by omega)
  refine ⟨e ▸ hv, ?_⟩
  rw [show (⟨(refIdx X (ix3 0 r p)).toNat, e ▸ hv⟩ : Fin 2048) = sortedFrom (before (rowOf X r)) (col p) from Fin.ext e]
  exact rank_sortedFrom _ hx _

/-! ## The mask -/

theorem foldl_ori {ι : Type} (f : ι → BitVec 1) (L : List ι) (a : BitVec 1) :
    L.foldl (fun r n => IntOp.ori r (f n)) a = 1#1 ↔ a = 1#1 ∨ ∃ n ∈ L, f n = 1#1 := by
  have ho : ∀ a b : BitVec 1, IntOp.ori a b = 1#1 ↔ a = 1#1 ∨ b = 1#1 := by decide
  induction L generalizing a with
  | nil => simp
  | cons n L ih =>
    rw [List.foldl_cons, List.exists_mem_cons_iff, ← or_assoc, ← ho]
    exact ih _

theorem drop_ix4 (r : Fin 2048) (p : Fin 64) (s : Fin 2048) :
    reducesTo_S1x2048x64x2048_S1x2048x2048_d2.drop (ix4 0 r p s) = ix3 0 r s := by
  funext a
  match a with
  | ⟨0, _⟩ => rfl
  | ⟨1, _⟩ => rfl
  | ⟨2, _⟩ => rfl

theorem hits_iff (J : IVec S1x2048x64 32) (r s : Fin 2048) :
    hits J (ix3 0 r s) = 1#1 ↔ ∃ p : Fin 64, (J (ix3 0 r p)).toNat = s.val := by
  unfold hits
  rw [Host.reduce_eq_foldl, foldl_ori]
  have cell : ∀ p : Fin 64, cmpi .eq
      (broadcastInDim S1x2048x64x2048 ![0, 1, 2, 3] bcast_S1x1x1x2048_S1x2048x64x2048_0_1_2_3
        (broadcastInDim S1x1x1x2048 ![3] bcast_S2048_S1x1x1x2048_3 (iotaInDim S2048 32 0)))
      (broadcastInDim S1x2048x64x2048 ![0, 1, 2, 3] bcast_S1x2048x64x1_S1x2048x64x2048_0_1_2_3
        (broadcastInDim S1x2048x64x1 ![0, 1, 2] bcast_S1x2048x64_S1x2048x64x1_0_1_2 J)) (ix4 0 r p s) = 1#1
      ↔ (J (ix3 0 r p)).toNat = s.val := fun p => by
    have e : ∀ a b : BitVec 32, IntOp.cmpi .eq a b = 1#1 ↔ a = b := fun a b => by
      show BitVec.ofBool (a == b) = 1#1 ↔ a = b
      exact bit_decide (a = b)
    have e1 : broadcastInDim S1x2048x64x2048 ![0, 1, 2, 3] bcast_S1x1x1x2048_S1x2048x64x2048_0_1_2_3
        (broadcastInDim S1x1x1x2048 ![3] bcast_S2048_S1x1x1x2048_3 (iotaInDim S2048 32 0)) (ix4 0 r p s) = BitVec.ofNat 32 s.val := by
      rw [broadcastInDim_apply _ _ _ (ix4 0 r p s) (ix4 0 0 0 s) (fun a => by
        match a with
        | ⟨0, _⟩ => rfl
        | ⟨1, _⟩ => rfl
        | ⟨2, _⟩ => rfl
        | ⟨3, _⟩ => rfl), broadcastInDim_apply _ _ _ (ix4 0 0 0 s) (ix1 s) (fun a => by
        match a with
        | ⟨0, _⟩ => rfl)]
      rfl
    have e2 : broadcastInDim S1x2048x64x2048 ![0, 1, 2, 3] bcast_S1x2048x64x1_S1x2048x64x2048_0_1_2_3
        (broadcastInDim S1x2048x64x1 ![0, 1, 2] bcast_S1x2048x64_S1x2048x64x1_0_1_2 J) (ix4 0 r p s) = J (ix3 0 r p) := by
      rw [broadcastInDim_apply _ _ _ (ix4 0 r p s) (ix4 0 r p 0) (fun a => by
        match a with
        | ⟨0, _⟩ => rfl
        | ⟨1, _⟩ => rfl
        | ⟨2, _⟩ => rfl
        | ⟨3, _⟩ => rfl), broadcastInDim_apply _ _ _ (ix4 0 r p 0) (ix3 0 r p) (fun a => by
        match a with
        | ⟨0, _⟩ => rfl
        | ⟨1, _⟩ => rfl
        | ⟨2, _⟩ => rfl)]
    refine (e _ _).trans ?_
    rw [e1, e2]
    have hs := s.isLt
    rw [← BitVec.toNat_inj, BitVec.toNat_ofNat, Nat.mod_eq_of_lt (by omega)]
    exact eq_comm
  constructor
  · rintro (h | ⟨i, hi, h⟩)
    · exact absurd h (by decide)
    · have hd := of_decide_eq_true (List.mem_filter.mp hi).2
      obtain ⟨a, b, c, rfl⟩ : ∃ (a : Fin 2048) (b : Fin 64) (c : Fin 2048), i = ix4 0 a b c := ⟨i 1, i 2, i 3, by
        funext q
        match q with
        | ⟨0, _⟩ => exact Subsingleton.elim (α := Fin 1) _ _
        | ⟨1, _⟩ => rfl
        | ⟨2, _⟩ => rfl
        | ⟨3, _⟩ => rfl⟩
      rw [drop_ix4] at hd
      have h0 : a = r := congrFun hd 1
      have h1 : c = s := congrFun hd 2
      subst h0 h1
      exact ⟨b, (cell b).mp h⟩
  · rintro ⟨p, h⟩
    exact .inr ⟨ix4 0 r p s, List.mem_filter.mpr ⟨List.mem_map.mpr ⟨S1x2048x64x2048.rowMajor (ix4 0 r p s), List.mem_finRange _,
      Equiv.symm_apply_apply _ _⟩, decide_eq_true (drop_ix4 r p s)⟩, (cell p).mpr h⟩

/-! ## The reference's stages -/

open Cert.ReferenceIdeal.Read

variable (x0 : (⟨S1x2048x2048, .f32⟩ : BufTy).Contents (Elt Ideal)) (x1 : (⟨S1x2048x1536, .f32⟩ : BufTy).Contents (Elt Ideal))
  (x2 : (⟨S1x2048x2048, .f32⟩ : BufTy).Contents (Elt Ideal)) (x3 : (⟨S1x2048, .i32⟩ : BufTy).Contents (Elt Ideal))
  (x4 : (⟨S1536x16x128, .f32⟩ : BufTy).Contents (Elt Ideal)) (x5 : (⟨S2048x128, .f32⟩ : BufTy).Contents (Elt Ideal))
  (x6 : (⟨S2048x16, .f32⟩ : BufTy).Contents (Elt Ideal)) (x7 x8 : (⟨S128, .f32⟩ : BufTy).Contents (Elt Ideal))

/-- The second result is the positions of the third. -/
theorem indices_eq : val_main_indices (F := Ideal) x0 x1 x2 x3 x4 x5 x6 x7 x8 = refIdx (val_main_v100 (F := Ideal) x0 x1 x2 x3 x4 x5 x6 x7 x8) := rfl

/-- The first result is the mask of the third. -/
theorem mask_eq : val_main_v108 (F := Ideal) x0 x1 x2 x3 x4 x5 x6 x7 x8 = refMask (val_main_v100 (F := Ideal) x0 x1 x2 x3 x4 x5 x6 x7 x8) := rfl

end Cert.Proof.Ref

end
-- ==== Proof.Base.lean ====
/-
  The launch of the row routine as its theorem sees it: the program's configuration, the resources its proof uses, and
  the thread that runs one tile.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import Idealize.ShloMosaic.Lib.Pointwise.Index
public import proofs.«01_k».proof.Proof.Gen.KernelIdeal
public import proofs.«01_k».proof.Proof.Gen.KernelIdeal.Skeleton

@[expose] public section

noncomputable section

namespace Cert.Proof.Topk

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' and the transfers' counters -/

abbrev UH : Type := URounds (GSem nD τ sig) ℕ
/-- The pipelines' rounds. -/
abbrev UP : Type := URounds (GSem nD τ sig) Unit
abbrev UU : Type := UH × (UP × Counters)

abbrev EH : Emb UH (MT nD τ sig (HIx 1) (Elt F) ℕ UU ℕ) := embL

/-- The pipelines' rounds sit in the second component. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-- The thread of the tile at grid coordinates `i`. -/
abbrev thr (d : Dev nD) (i : grid2.Coords) : Thread nD τ := V d ((i 0).castLE hcore2) ((i 1).castLE hsub2)

end Cert.Proof.Topk

end
-- ==== Proof.Loads.lean ====
/-
  What the tile's loads read and its stores leave, buffer by buffer: a register of a row of the batch, a register of
  the sixty-four kept, a cell of a table of scalars.
-/
module

public import proofs.«01_k».proof.Proof.Top
public import Idealize.ShloMosaic.Lib.Writes

@[expose] public section

set_option maxRecDepth 65536

noncomputable section

namespace Cert.KernelIdeal.Net

open Idealize.ShloMosaic Idealize.SL.Sem
open Cert.KernelIdeal Cert.KernelIdeal.Gen

variable {F : FTy → Type} [FloatOps F] {sp : Space}

theorem cast_row (l : Fin 16) : Shape.reshapeEquiv shapeCasts_S1x16_S16 (ix1 l) = (ix2 0 l : S1x16.Idx) := by
  revert l; decide +kernel
theorem cast_reg (l : Fin 16) : Shape.reshapeEquiv shapeCasts_S16_S1x16 (ix2 0 l) = (ix1 l : S16.Idx) := by
  revert l; decide +kernel

/-- A row of sixteen made of a register holds the register's lanes. -/
theorem row_apply {α : Type} (v : S16.Idx → α) (x : S1x16.Idx) : shapeCast S1x16 v shapeCasts_S16_S1x16 x = v (ix1 (x 1)) := by
  have hx : x = ix2 0 (x 1) := by
    funext a; match a with
    | ⟨0, _⟩ => exact Subsingleton.elim (α := Fin 1) _ _
    | ⟨1, _⟩ => rfl
  rw [hx]; exact congrArg v (cast_reg (x 1))

theorem reg_apply {e : EltTy} (x : Vec F S1x16 e) (l : S16.Idx) : shapeCast S16 x shapeCasts_S1x16_S16 l = x (ix2 0 (l 0)) := by
  have hl : l = ix1 (l 0) := (ix1_eta l).symm
  rw [hl]; exact congrArg x (cast_row (l 0))

/-- Row `r` of a batch. -/
def rowOf {e : EltTy} (R : Vec F S8x2048 e) (r : ℕ) : Fin 2048 → Elt F e := fun s => R (ix2 ⟨r % 8, Nat.mod_lt _ (by decide)⟩ s)

/-- The maxima of the chunks of a batch's rows. -/
def chunkMaxes (R : Vec F S8x2048 .f32) : Vec F S256 .f32 := fun q => chunkMax (rowOf R ((q 0).val / 32)) ((q 0).val % 32)

/-- A load of sixteen values of a row. -/
theorem reg_load (M : Memref sig .scVector sp S8x2048 .f32) (f : M.view.ty.Contents (Elt F)) (R : Vec F S8x2048 .f32)
    (h : M.view.read (Elt F) f = R) (off : Fin 2 → ℕ) (inb) (r c j : ℕ) (hr : r < 8) (ho : off = ![r, 64 * c + 16 * j]) :
    reg (M.view.readAt (Elt F) (Rect.unit (s := S8x2048) off S1x16.size inb).toLoadRect f) = chunkReg (rowOf R r) c j := by
  subst ho
  funext l
  have hb : 64 * c + 16 * j + 16 ≤ 2048 := inb 1
  have hl : (l 0).val < 16 := (l 0).isLt
  unfold reg
  rw [reg_apply, View.readAt_apply, h]
  unfold chunkReg rowOf
  congr 1
  funext a; match a with
  | ⟨0, _⟩ => exact Fin.ext (by simp [LoadRect.idx_apply, Rect.unit, Nat.mod_eq_of_lt hr])
  | ⟨1, _⟩ => exact Fin.ext (by simp [LoadRect.idx_apply, Rect.unit]; omega)

/-- A load of a register of the sixty-four. -/
theorem keep_load {e : EltTy} (M : Memref sig .scVector sp S64 e) (f : M.view.ty.Contents (Elt F)) (G : Vec F S64 e)
    (h : M.view.read (Elt F) f = G) (o : ℕ) (inb) (j : ℕ) (g : S16.Idx → Elt F e) (ho : o = 16 * j)
    (hg : ∀ l : Fin 16, ∀ hl : 16 * j + l.val < 64, G (ix1 ⟨16 * j + l.val, hl⟩) = g (ix1 l)) :
    M.view.readAt (Elt F) (Rect.unit (s := S64) ![o] S16.size inb).toLoadRect f = g := by
  subst ho
  funext l
  have hb : 16 * j + 16 ≤ 64 := inb 0
  have hl : (l 0).val < 16 := (l 0).isLt
  rw [View.readAt_apply, h, ← ix1_eta l]
  refine Eq.trans (congrArg G ?_) (hg (l 0) (by omega))
  funext a; match a with
  | ⟨0, _⟩ => exact Fin.ext (by simp [LoadRect.idx_apply, Rect.unit])

theorem keys_at (T : Regs F) (j : ℕ) (l : Fin 16) (hl : 16 * j + l.val < 64) :
    T.keys (ix1 ⟨16 * j + l.val, hl⟩) = (T.reg j).1 (ix1 l) := by
  have := l.isLt
  unfold Regs.keys
  rw [show ((ix1 ⟨16 * j + l.val, hl⟩ : S64.Idx) 0).val = 16 * j + l.val from rfl, show (16 * j + l.val) / 16 = j by omega]
  exact congrArg (T.reg j).1 (congrArg ix1 (Fin.ext (show (16 * j + l.val) % 16 = l.val by omega)))
theorem poss_at (T : Regs F) (j : ℕ) (l : Fin 16) (hl : 16 * j + l.val < 64) :
    T.poss (ix1 ⟨16 * j + l.val, hl⟩) = (T.reg j).2 (ix1 l) := by
  have := l.isLt
  unfold Regs.poss
  rw [show ((ix1 ⟨16 * j + l.val, hl⟩ : S64.Idx) 0).val = 16 * j + l.val from rfl, show (16 * j + l.val) / 16 = j by omega]
  exact congrArg (T.reg j).2 (congrArg ix1 (Fin.ext (show (16 * j + l.val) % 16 = l.val by omega)))

/-- Four stores of sixteen values fill the sixty-four. -/
theorem four_stores {e : EltTy} (M : Memref sig .scVector sp S64 e) (f : M.view.ty.Contents (Elt F)) (G : Vec F S64 e)
    (v0 v1 v2 v3 : Vec F S16 e)
    (h0 : ∀ l : Fin 16, ∀ hl : 16 * 0 + l.val < 64, G (ix1 ⟨16 * 0 + l.val, hl⟩) = v0 (ix1 l))
    (h1 : ∀ l : Fin 16, ∀ hl : 16 * 1 + l.val < 64, G (ix1 ⟨16 * 1 + l.val, hl⟩) = v1 (ix1 l))
    (h2 : ∀ l : Fin 16, ∀ hl : 16 * 2 + l.val < 64, G (ix1 ⟨16 * 2 + l.val, hl⟩) = v2 (ix1 l))
    (h3 : ∀ l : Fin 16, ∀ hl : 16 * 3 + l.val < 64, G (ix1 ⟨16 * 3 + l.val, hl⟩) = v3 (ix1 l)) :
    M.view.read (Elt F) (M.view.writes (Elt F) f [⟨Rect.unit (s := S64) ![48] S16.size inb_S64_S16_48, v3⟩,
      ⟨Rect.unit (s := S64) ![32] S16.size inb_S64_S16_32, v2⟩, ⟨Rect.unit (s := S64) ![16] S16.size inb_S64_S16_16, v1⟩,
      ⟨Rect.unit (s := S64) ![0] S16.size inb_S64_S16_0, v0⟩]) = G := by
  have piece : ∀ (o j : ℕ) (inb) (v : Vec F S16 e) (_ : o = 16 * j)
      (_ : ∀ l : Fin 16, ∀ hl : 16 * j + l.val < 64, G (ix1 ⟨16 * j + l.val, hl⟩) = v (ix1 l)),
      ∀ x : S16.Idx, v x = G ((Rect.unit (s := S64) ![o] S16.size inb).emb x) := by
    intro o j inb v ho hv x
    subst ho
    have hb : 16 * j + 16 ≤ 64 := inb 0
    have hx : (x 0).val < 16 := (x 0).isLt
    rw [← ix1_eta x]
    refine (hv (x 0) (by omega)).symm.trans (congrArg G ?_)
    funext a; match a with
    | ⟨0, _⟩ => exact Fin.ext (by simp [Rect.emb, Rect.unit])
  funext y
  refine View.read_writes_apply_of_pieces (v := M.view) (f := f) G _ ?_ y ?_
  · intro p hp
    simp only [List.mem_cons, List.not_mem_nil, or_false] at hp
    rcases hp with rfl | rfl | rfl | rfl
    · exact piece 48 3 inb_S64_S16_48 v3 rfl h3
    · exact piece 32 2 inb_S64_S16_32 v2 rfl h2
    · exact piece 16 1 inb_S64_S16_16 v1 rfl h1
    · exact piece 0 0 inb_S64_S16_0 v0 rfl h0
  · have hy : (y 0).val < 64 := (y 0).isLt
    have mem : ∀ (o : ℕ) (inb), o ≤ (y 0).val → (y 0).val < o + 16 → y ∈ (Rect.unit (s := S64) ![o] S16.size inb).set := by
      intro o inb h1 h2
      refine (Rect.unit (s := S64) ![o] S16.size inb).mem_set.mpr fun a => ?_
      match a with
      | ⟨0, _⟩ => exact ⟨(y 0).val - o, by simp [Rect.unit]; omega, by simp [Rect.unit]; omega⟩
    rcases Nat.lt_or_ge (y 0).val 16 with h | h
    · exact ⟨_, .tail _ (.tail _ (.tail _ (.head _))), mem 0 inb_S64_S16_0 (by omega) (by omega)⟩
    rcases Nat.lt_or_ge (y 0).val 32 with h' | h'
    · exact ⟨_, .tail _ (.tail _ (.head _)), mem 16 inb_S64_S16_16 (by omega) (by omega)⟩
    rcases Nat.lt_or_ge (y 0).val 48 with h'' | h''
    · exact ⟨_, .tail _ (.head _), mem 32 inb_S64_S16_32 (by omega) (by omega)⟩
    · exact ⟨_, .head _, mem 48 inb_S64_S16_48 (by omega) (by omega)⟩

theorem keys_stored (M : Memref sig .scVector sp S64 .f32) (f : M.view.ty.Contents (Elt F)) (T : Regs F) :
    M.view.read (Elt F) (M.view.writes (Elt F) f [⟨Rect.unit (s := S64) ![48] S16.size inb_S64_S16_48, T.r3.1⟩,
      ⟨Rect.unit (s := S64) ![32] S16.size inb_S64_S16_32, T.r2.1⟩, ⟨Rect.unit (s := S64) ![16] S16.size inb_S64_S16_16, T.r1.1⟩,
      ⟨Rect.unit (s := S64) ![0] S16.size inb_S64_S16_0, T.r0.1⟩]) = T.keys :=
  four_stores M f T.keys _ _ _ _ (keys_at T 0) (keys_at T 1) (keys_at T 2) (keys_at T 3)
theorem poss_stored (M : Memref sig .scVector sp S64 .i32) (f : M.view.ty.Contents (Elt F)) (T : Regs F) :
    M.view.read (Elt F) (M.view.writes (Elt F) f [⟨Rect.unit (s := S64) ![48] S16.size inb_S64_S16_48, T.r3.2⟩,
      ⟨Rect.unit (s := S64) ![32] S16.size inb_S64_S16_32, T.r2.2⟩, ⟨Rect.unit (s := S64) ![16] S16.size inb_S64_S16_16, T.r1.2⟩,
      ⟨Rect.unit (s := S64) ![0] S16.size inb_S64_S16_0, T.r0.2⟩]) = T.poss :=
  four_stores M f T.poss _ _ _ _ (poss_at T 0) (poss_at T 1) (poss_at T 2) (poss_at T 3)

/-- A read of one scalar of a table. -/
theorem cell_load {n : ℕ} (M : Memref sig .scVector sp ⟨1, ![n]⟩ .f32) (f : M.view.ty.Contents (Elt F)) (G : Vec F ⟨1, ![n]⟩ .f32)
    (h : M.view.read (Elt F) f = G) (off : Fin 1 → ℕ) (inb) (k : ℕ) (hk : k < n) (ho : off = ![k]) (x) :
    M.view.readAt (Elt F) (Rect.unit (s := ⟨1, ![n]⟩) off S1.size inb).toLoadRect f x = G (ix1 ⟨k, hk⟩) := by
  subst ho
  have hx : (x 0).val < 1 := (x 0).isLt
  rw [View.readAt_apply, h]
  refine congrArg G ?_
  funext a; match a with
  | ⟨0, _⟩ => exact Fin.ext (by simp [LoadRect.idx_apply, Rect.unit]; omega)

/-- The one scalar of a table of one, written. -/
theorem one_stored (M : Memref sig .scVector sp S1 .f32) (f : M.view.ty.Contents (Elt F)) (a : F .f32) :
    M.view.read (Elt F) (M.view.writes (Elt F) f [⟨Rect.unit (s := S1) ![0] S1.size inb_S1_S1_0, fun _ => a⟩]) = fun _ => a := by
  funext y
  refine View.read_writes_cons_hit_of_coords (v := M.view) (f := f) _ _ _ y y ?_
  intro b; match b with
  | ⟨0, _⟩ => simp [Rect.unit]

theorem lanes_apply (l : S16.Idx) : lanes l = BitVec.ofNat 32 (l 0).val := by
  unfold lanes iota; simp

theorem posn0_eq (j : ℕ) : posn0 lanes (BitVec.ofNat 32 (16 * j)) = chunkPos 0 j := by
  funext l
  show lanes l + BitVec.ofNat 32 (16 * j) = _
  rw [lanes_apply]; unfold chunkPos
  rw [← BitVec.ofNat_add]; congr 1; omega

theorem posn_eq (n j : ℕ) : posn lanes (Scalar.muli (Scf.iv 1#32 1#32 n) 64#32) (BitVec.ofNat 32 (16 * j)) = chunkPos (n + 1) j := by
  funext l
  show lanes l + Scalar.muli (Scf.iv 1#32 1#32 n) 64#32 + BitVec.ofNat 32 (16 * j) = _
  rw [lanes_apply]
  have : Scalar.muli (Scf.iv 1#32 1#32 n) 64#32 = BitVec.ofNat 32 (64 * (n + 1)) := by
    show (1#32 + BitVec.ofNat 32 n * 1#32) * 64#32 = _
    rw [show (1#32) = BitVec.ofNat 32 1 from rfl, show (64#32) = BitVec.ofNat 32 64 from rfl]
    rw [← BitVec.ofNat_mul, ← BitVec.ofNat_add, ← BitVec.ofNat_mul]; congr 1; omega
  rw [this]; unfold chunkPos
  rw [← BitVec.ofNat_add, ← BitVec.ofNat_add]; congr 1; omega

end Cert.KernelIdeal.Net

end
-- ==== Proof.Chunk.lean ====
/-
  The chunk's step as the tile runs it.
-/
module

public import proofs.«01_k».proof.Proof.Base
public import proofs.«01_k».proof.Proof.Loads

@[expose] public section

set_option maxRecDepth 65536
set_option maxHeartbeats 4000000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

/-- A buffer of the tile at contents `f`. -/
abbrev pts {sp : Space} {s : Shape} {e : EltTy} (M : Memref sig .scVector sp s e) (f : Buf (Elt F) (M.view.loc (thr d i))) : sProp 𝕄 :=
  M.view.loc (thr d i) ↦[M.view.set]{fullShare} f

/-- A buffer of the tile that reads `G`. -/
abbrev holds {sp : Space} {s : Shape} {e : EltTy} (M : Memref sig .scVector sp s e) (G : s.Idx → Elt F e) : sProp 𝕄 :=
  iprop(∃ f, ⌜M.view.read (Elt F) f = G⌝ ∗ pts d i M f)

theorem holds_intro {sp : Space} {s : Shape} {e : EltTy} (M : Memref sig .scVector sp s e) {f : Buf (Elt F) (M.view.loc (thr d i))} {G : s.Idx → Elt F e}
    (h : M.view.read (Elt F) f = G) : pts d i M f ⊢ holds d i M G := by
  unfold holds
  iintro H; iexists f; isplitr
  · ipureintro; exact h
  · iexact H

theorem chunk_run (R : Vec F S8x2048 .f32) (T : Regs F) (n11 : Fin k2_t11_loop.trips) (b : BitVec 32) (y0 y2 y4 y6 : Vec F S16 .f32) (y1 y3 y5 y7 : IVec S16 32)
    (w : F .f32) (n24 : Fin k2_t24_loop.trips) (u : Unit) :
    iprop(holds d i arg5 R ∗ holds d i arg8 T.keys ∗ holds d i arg9 T.poss ∗ holds d i arg10 (chunkMaxes R) ∗ holds d i arg11 (fun _ => laneMin T.r0.1))
      ⊢ wp frame (wpE (defs₀ (F := F)) 𝒱₀ (thr d i) none) Set.univ
          (k2_t24_body i arg2 harg2 arg3 harg3 arg4 harg4 arg5 harg5 arg6 harg6 arg7 harg7 arg8 harg8 arg9 harg9 arg10 harg10 arg11 harg11 r0 r1 r2
            lanes n11 b y0 y1 y2 y3 y4 y5 y6 y7 w n24 u) fun _ =>
        iprop(holds d i arg5 R ∗ holds d i arg8 (topStep (rowOf R n11.val) (n24.val + 1) T).keys ∗ holds d i arg9 (topStep (rowOf R n11.val) (n24.val + 1) T).poss
          ∗ holds d i arg10 (chunkMaxes R) ∗ holds d i arg11 (fun _ => laneMin (topStep (rowOf R n11.val) (n24.val + 1) T).r0.1)) := by
  have hn : n11.val < 8 := n11.isLt
  have hk : n24.val < 31 := n24.isLt
  rw [chunk_eq]
  iintro ⟨⟨%f5, %h5, H5⟩, ⟨%f8, %h8, H8⟩, ⟨%f9, %h9, H9⟩, ⟨%f10, %h10, H10⟩, ⟨%f11, %h11, H11⟩⟩
  have em : arg10.view.readAt (Elt F) (Rect.unit (s := S256) (k2_off16 n11 n24) S1.size (k2_off16_inb n11 n24)).toLoadRect f10
      (Shape.Idx.first (numel1_S1.symm ▸ Nat.one_pos)) = chunkMax (rowOf R n11.val) (n24.val + 1) := by
    refine (cell_load arg10 f10 _ h10 _ _ (32 * n11.val + n24.val + 1) (by omega) (k2_off16_eq _ _) _).trans ?_
    unfold chunkMaxes
    rw [show ((ix1 ⟨32 * n11.val + n24.val + 1, by omega⟩ : S256.Idx) 0).val = 32 * n11.val + n24.val + 1 from rfl,
      show (32 * n11.val + n24.val + 1) / 32 = n11.val by omega, show (32 * n11.val + n24.val + 1) % 32 = n24.val + 1 by omega]
  have ec : arg11.view.readAt (Elt F) (Rect.unit (s := S1) ![0] S1.size inb_S1_S1_0).toLoadRect f11
      (Shape.Idx.first (numel1_S1.symm ▸ Nat.one_pos)) = laneMin T.r0.1 :=
    cell_load arg11 f11 _ h11 _ _ 0 (by omega) rfl _
  sl_exec
  have eT : chunk_run.sl.T arg5 arg8 arg9 n11 n24 f5 f8 f9 = mergeTop T (sort64 (chunk (rowOf R n11.val) (n24.val + 1))) := by
    unfold chunk_run.sl.T
    rw [keep_load arg8 f8 _ h8 0 inb_S64_S16_0 0 T.r0.1 rfl (keys_at T 0), keep_load arg8 f8 _ h8 16 inb_S64_S16_16 1 T.r1.1 rfl (keys_at T 1),
      keep_load arg8 f8 _ h8 32 inb_S64_S16_32 2 T.r2.1 rfl (keys_at T 2), keep_load arg8 f8 _ h8 48 inb_S64_S16_48 3 T.r3.1 rfl (keys_at T 3),
      keep_load arg9 f9 _ h9 0 inb_S64_S16_0 0 T.r0.2 rfl (poss_at T 0), keep_load arg9 f9 _ h9 16 inb_S64_S16_16 1 T.r1.2 rfl (poss_at T 1),
      keep_load arg9 f9 _ h9 32 inb_S64_S16_32 2 T.r2.2 rfl (poss_at T 2), keep_load arg9 f9 _ h9 48 inb_S64_S16_48 3 T.r3.2 rfl (poss_at T 3)]
    have hx : ∀ (j : ℕ) (hj : j < 4) inb, reg (arg5.view.readAt (Elt F) (Rect.unit (s := S8x2048) (k2_off17 n11 n24 (BitVec.ofNat 32 (16 * j))) S1x16.size inb).toLoadRect f5)
        = chunkReg (rowOf R n11.val) (n24.val + 1) j := fun j hj inb =>
      reg_load arg5 f5 R h5 _ inb n11.val (n24.val + 1) j hn ((k2_off17_eq n11 n24 ⟨j, hj⟩).trans (by
        rw [show 64 * n24.val + 16 * (⟨j, hj⟩ : Fin 4).val + 64 = 64 * (n24.val + 1) + 16 * j by show 64 * n24.val + 16 * j + 64 = _; omega]))
    unfold chunk
    rw [← posn_eq, ← posn_eq, ← posn_eq, ← posn_eq, ← hx 0 (by omega) (k2_off17_inb n11 n24 0), ← hx 1 (by omega) (k2_off17_inb n11 n24 1),
      ← hx 2 (by omega) (k2_off17_inb n11 n24 2), ← hx 3 (by omega) (k2_off17_inb n11 n24 3)]
  have eP : (Scalar.cmpi CmpIPredicate.ne (Scalar.extui (Scalar.cmpf CmpFPredicate.ogt (chunk_run.sl.r arg10 n11 n24 f10)
      (chunk_run.sl.r_1 arg11 f11)) : BitVec 32) 0#32 = 1#1) = Passes (chunkMax (rowOf R n11.val) (n24.val + 1)) (laneMin T.r0.1) := by
    unfold chunk_run.sl.r chunk_run.sl.r_1
    rw [em, ec]
  rw [eT]
  simp only [eP]
  sl_step
  unfold topStep
  by_cases hp : Passes (chunkMax (rowOf R n11.val) (n24.val + 1)) (laneMin T.r0.1)
  · rw [dif_pos hp, dif_pos hp, dif_pos hp, if_pos hp]
    isplitl [H5]; · iapply (holds_intro d i arg5 h5); iexact H5
    isplitl [H8]; · iapply (holds_intro d i arg8 (keys_stored arg8 f8 _)); iexact H8
    isplitl [H9]; · iapply (holds_intro d i arg9 (poss_stored arg9 f9 _)); iexact H9
    isplitl [H10]; · iapply (holds_intro d i arg10 h10); iexact H10
    iapply (holds_intro d i arg11 (one_stored arg11 f11 _)); iexact H11
  · rw [dif_neg hp, dif_neg hp, dif_neg hp, if_neg hp]
    isplitl [H5]; · iapply (holds_intro d i arg5 h5); iexact H5
    isplitl [H8]; · iapply (holds_intro d i arg8 h8); iexact H8
    isplitl [H9]; · iapply (holds_intro d i arg9 h9); iexact H9
    isplitl [H10]; · iapply (holds_intro d i arg10 h10); iexact H10
    iapply (holds_intro d i arg11 h11); iexact H11

end Cert.Proof.Topk

end
-- ==== Proof.RowRun.lean ====
/-
  One row as the tile runs it: its sixty-four values found, their positions written out and the mask set at them.
-/
module

public import proofs.«01_k».proof.Proof.Chunk
public import proofs.«01_k».proof.Proof.Lanes

@[expose] public section

set_option maxRecDepth 65536
set_option maxHeartbeats 4000000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

/-- A buffer of the tile at contents not told. -/
abbrev some_ {sp : Space} {s : Shape} {e : EltTy} (M : Memref sig .scVector sp s e) : sProp 𝕄 := iprop(∃ f, pts (F := F) d i M f)

/-- The batch's positions with the first `k` rows done, the mask's rows with those rows set. -/
def idxTo (R : Vec F S8x2048 .f32) (I : Vec F S8x64 .i32) (k : ℕ) : Vec F S8x64 .i32 :=
  fun y => if (y 0).val < k then idxRow (rowOf R (y 0).val) (y 1) else I y
def maskTo (R : Vec F S8x2048 .f32) (k : ℕ) : Vec F S8x2048 .f32 :=
  fun y => if (y 0).val < k then maskRow (rowOf R (y 0).val) (y 1) else offVal

/-- A register stored into a row, read back. -/
theorem reg_cons {sp : Space} {W : ℕ} {e : EltTy} (M : Memref sig .scVector sp ⟨2, ![8, W]⟩ e) (f : M.view.ty.Contents (Elt F)) (L)
    (off : Fin 2 → ℕ) (inb) (r o : ℕ) (ho : off = ![r, o]) (v : Vec F S16 e) (y : (⟨2, ![8, W]⟩ : Shape).Idx) :
    M.view.read (Elt F) (M.view.writes (Elt F) f (⟨Rect.unit (s := ⟨2, ![8, W]⟩) off S1x16.size inb, shapeCast S1x16 v shapeCasts_S16_S1x16⟩ :: L)) y
      = if (y 0).val = r ∧ o ≤ (y 1).val ∧ (y 1).val < o + 16 then v (lane ((y 1).val - o)) else M.view.read (Elt F) (M.view.writes (Elt F) f L) y := by
  subst ho
  split
  · rename_i h
    obtain ⟨h0, h1, h2⟩ := h
    refine (View.read_writes_cons_hit_of_coords (v := M.view) (f := f) _ _ _ (ix2 0 ⟨(y 1).val - o, by omega⟩ : S1x16.Idx) y ?_).trans ?_
    · intro b; match b with
      | ⟨0, _⟩ => simp [Rect.unit]; exact h0
      | ⟨1, _⟩ => simp [Rect.unit]; show (y 1).val = _; omega
    · rw [row_apply]
      exact congrArg v (congrArg ix1 (Fin.ext (show (y 1).val - o = ((y 1).val - o) % 16 by omega)))
  · rename_i h
    by_cases h0 : (y 0).val = r
    · exact View.read_writes_cons_miss_of_axis (v := M.view) (f := f) _ _ y 1 o 16 rfl rfl rfl (by by_contra hc; exact h ⟨h0, by omega, by omega⟩)
    · exact View.read_writes_cons_miss_of_axis (v := M.view) (f := f) _ _ y 0 r 1 rfl rfl rfl (by omega)

theorem set_access_whole' {sp : Space} {s : Shape} {e : EltTy} (M : Memref sig .scVector sp s e) : (M.access (.whole s)).set = M.view.set := by
  rw [View.set_slice, Rect.set_whole]; rfl

/-- An indexed store as the buffer reads it. -/
theorem store_at {α : Type} {Q : α → sProp 𝕄} {s : Shape} {e : EltTy} (M : Memref sig .scVector .vmem s e) (G : Vec F s e) (f : Buf (Elt F) (M.view.loc (thr d i)))
    (hf : M.view.read (Elt F) f = G) {idxs : Fin s.rank → IVec S16 32} {v : Vec F S16 e}
    {h : ∀ a x, (idxs a x).toNat < s.size a} {hs : (M.access (.whole s)).Stores Finset.univ}
    {k : PUnit → Prog (TpuEff nD τ sig (Elt F) Λ₀ (thr d i).2) α} :
    pts d i M f ⊢ iprop((holds d i M (storeIdx G idxs v (fun _ => 1#1) false h) -∗ wp frame (wpE (defs₀ (F := F)) 𝒱₀ (thr d i) none) Set.univ (k ⟨⟩) Q)
      -∗ wp frame (wpE (defs₀ (F := F)) 𝒱₀ (thr d i) none) Set.univ (SparseCore.vectorStoreIdx M idxs v (fun _ => 1#1) false h hs >>= k) Q) := by
  have e1 : pts d i M f ⊢ iprop((M.access (.whole s)).loc (thr d i) ↦[(M.access (.whole s)).set]{fullShare} f) := by
    rw [set_access_whole']
  iintro H Hk
  ihave H' := e1 $$ H
  iapply (SparseCore.wp_vectorStoreIdx 𝒱₀ (thr d i) none Set.univ (base := M)) $$ H'
  iintro H
  iapply Hk
  rw [set_access_whole']
  iapply (holds_intro d i M (f := (M.access (.whole s)).write (Elt F) f (storeIdx ((M.access (.whole s)).read (Elt F) f) idxs v (fun _ => 1#1) false h) Finset.univ) ?_)
  · have er : (M.access (.whole s)).read (Elt F) f = G := by
      rw [← hf]; funext x
      show M.view.read (Elt F) f ((Rect.whole s).emb x) = M.view.read (Elt F) f x
      rw [Rect.emb_whole_apply]
    rw [er]
    funext x
    have := View.read_slice_write_emb (Val := Elt F) (v := M.view) (Rect.whole s) f (storeIdx G idxs v (fun _ => 1#1) false h) (M := Finset.univ) (x := x) (Finset.mem_univ x)
    rw [Rect.emb_whole_apply] at this
    exact this
  · iexact H

/-- The row's positions, stored register by register. -/
theorem idx_stored {sp : Space} (M : Memref sig .scVector sp S8x64 .i32) (f : M.view.ty.Contents (Elt F)) (R : Vec F S8x2048 .f32) (I : Vec F S8x64 .i32)
    (n11 : Fin k2_t11_loop.trips) (h : M.view.read (Elt F) f = idxTo R I n11.val) :
    M.view.read (Elt F) (M.view.writes (Elt F) f
      [⟨Rect.unit (s := S8x64) (k2_off21 n11) S1x16.size (k2_off21_inb n11), shapeCast S1x16 (rev ((rowTop (rowOf R n11.val)).reg 0).2 : IVec S16 32) shapeCasts_S16_S1x16⟩,
        ⟨Rect.unit (s := S8x64) (k2_off20 n11) S1x16.size (k2_off20_inb n11), shapeCast S1x16 (rev ((rowTop (rowOf R n11.val)).reg 1).2 : IVec S16 32) shapeCasts_S16_S1x16⟩,
        ⟨Rect.unit (s := S8x64) (k2_off19 n11) S1x16.size (k2_off19_inb n11), shapeCast S1x16 (rev ((rowTop (rowOf R n11.val)).reg 2).2 : IVec S16 32) shapeCasts_S16_S1x16⟩,
        ⟨Rect.unit (s := S8x64) (k2_off18 n11) S1x16.size (k2_off18_inb n11), shapeCast S1x16 (rev ((rowTop (rowOf R n11.val)).reg 3).2 : IVec S16 32) shapeCasts_S16_S1x16⟩])
      = idxTo R I (n11.val + 1) := by
  funext y
  have hy : (y 1).val < 64 := (y 1).isLt
  have key : ∀ q, q < 4 → 16 * q ≤ (y 1).val → (y 1).val < 16 * q + 16 → (y 0).val = n11.val →
      (rev ((rowTop (rowOf R n11.val)).reg (3 - q)).2 : IVec S16 32) (lane ((y 1).val - 16 * q)) = idxTo R I (n11.val + 1) y := by
    intro q hq h1 h2 h0
    unfold idxTo
    rw [if_pos (by omega), h0]
    unfold idxRow
    rw [show (y 1).val / 16 = q by omega]
    exact congrArg _ (congrArg ix1 (Fin.ext (show ((y 1).val - 16 * q) % 16 = (y 1).val % 16 by omega)))
  rw [reg_cons M f _ _ _ n11.val 48 (k2_off21_eq n11), reg_cons M f _ _ _ n11.val 32 (k2_off20_eq n11), reg_cons M f _ _ _ n11.val 16 (k2_off19_eq n11),
    reg_cons M f _ _ _ n11.val 0 (k2_off18_eq n11)]
  split
  · rename_i c; exact key 3 (by omega) c.2.1 c.2.2 c.1
  split
  · rename_i c; exact key 2 (by omega) c.2.1 c.2.2 c.1
  split
  · rename_i c; exact key 1 (by omega) c.2.1 c.2.2 c.1
  split
  · rename_i c; exact key 0 (by omega) c.2.1 c.2.2 c.1
  · rename_i c3 c2 c1 c0
    show M.view.read (Elt F) f y = _
    rw [h]
    unfold idxTo
    have hne : (y 0).val ≠ n11.val := fun e => by
      rcases Nat.lt_or_ge (y 1).val 16 with a | a
      · exact c0 ⟨e, by omega, by omega⟩
      rcases Nat.lt_or_ge (y 1).val 32 with b | b
      · exact c1 ⟨e, by omega, by omega⟩
      rcases Nat.lt_or_ge (y 1).val 48 with c | c
      · exact c2 ⟨e, by omega, by omega⟩
      · exact c3 ⟨e, by omega, by omega⟩
    by_cases hlt : (y 0).val < n11.val
    · rw [if_pos hlt, if_pos (by omega)]
    · rw [if_neg hlt, if_neg (by omega)]

theorem onVal_eq (l : S16.Idx) : (k2_pay383 : FVec F S16 .f32) l = onVal := rfl
theorem offVal_eq (l : S16.Idx) : (k2_pay382 : FVec F S16 .f32) l = offVal := rfl

theorem iv_row (n : ℕ) (hn : n < 8) : (Scf.iv 0#32 1#32 n : BitVec 32).toNat = n := by
  unfold Scf.iv
  interval_cases n <;> rfl

/-- The row's number and the positions name cells of the mask. -/
theorem chk_ok (n : ℕ) (hn : n < 8) (g : IVec S16 32) (hg : ∀ l, (g l).toNat < 2048) :
    ∀ a x, ((![(broadcast S16 (Scf.iv 0#32 1#32 n) : IVec S16 32), g] : Fin 2 → IVec S16 32) a x).toNat < S8x2048.size a := by
  intro a x
  match a with
  | ⟨0, _⟩ => show (Scf.iv 0#32 1#32 n : BitVec 32).toNat < 8; rw [iv_row n hn]; exact hn
  | ⟨1, _⟩ => exact hg x

/-- What cells of the mask a row's number and a register of positions name. -/
theorem names_iff (n : ℕ) (hn : n < 8) (g : IVec S16 32) (y : S8x2048.Idx) :
    (∃ l : S16.Idx, ∀ a, (y a).val = ((![(broadcast S16 (Scf.iv 0#32 1#32 n) : IVec S16 32), g] : Fin 2 → IVec S16 32) a l).toNat)
      ↔ (y 0).val = n ∧ ∃ l : S16.Idx, (g l).toNat = (y 1).val := by
  constructor
  · rintro ⟨l, hl⟩
    exact ⟨(hl 0).trans (iv_row n hn), l, (hl 1).symm⟩
  · rintro ⟨e, l, hl⟩
    refine ⟨l, fun a => ?_⟩
    match a with
    | ⟨0, _⟩ => exact e.trans (iv_row n hn).symm
    | ⟨1, _⟩ => exact hl.symm

/-- The mask with the row's sixty-four positions set. -/
theorem mask_set (R : Vec F S8x2048 .f32) (n : ℕ) (hn : n < 8) (h0 h1 h2 h3) :
    storeIdx (storeIdx (storeIdx (storeIdx (maskTo R n)
      ![(broadcast S16 (Scf.iv 0#32 1#32 n) : IVec S16 32), ((rowTop (rowOf R n)).reg 0).2] (k2_pay383 (F := F)) (fun _ => 1#1) false h0)
      ![(broadcast S16 (Scf.iv 0#32 1#32 n) : IVec S16 32), ((rowTop (rowOf R n)).reg 1).2] (k2_pay383 (F := F)) (fun _ => 1#1) false h1)
      ![(broadcast S16 (Scf.iv 0#32 1#32 n) : IVec S16 32), ((rowTop (rowOf R n)).reg 2).2] (k2_pay383 (F := F)) (fun _ => 1#1) false h2)
      ![(broadcast S16 (Scf.iv 0#32 1#32 n) : IVec S16 32), ((rowTop (rowOf R n)).reg 3).2] (k2_pay383 (F := F)) (fun _ => 1#1) false h3
      = maskTo R (n + 1) := by
  classical
  rw [storeIdx_const _ _ _ onVal onVal_eq, storeIdx_const _ _ _ onVal onVal_eq, storeIdx_const _ _ _ onVal onVal_eq, storeIdx_const _ _ _ onVal onVal_eq]
  funext y
  simp only [names_iff _ hn]
  unfold maskTo
  by_cases e : (y 0).val = n
  · simp only [e, true_and]
    rw [if_pos (show n < n + 1 by omega), if_neg (show ¬ n < n by omega)]
    unfold maskRow
    by_cases hk : Kept (rowTop (rowOf R n)) (y 1).val
    · rw [if_pos hk]
      obtain ⟨j, hj, l, hl⟩ := hk
      match j, hj with
      | 0, _ => have hh : ∃ l : S16.Idx, (((rowTop (rowOf R n)).reg 0).2 l).toNat = (y 1).val := ⟨l, hl⟩
                simp only [if_pos hh, ite_self]
      | 1, _ => have hh : ∃ l : S16.Idx, (((rowTop (rowOf R n)).reg 1).2 l).toNat = (y 1).val := ⟨l, hl⟩
                simp only [if_pos hh, ite_self]
      | 2, _ => have hh : ∃ l : S16.Idx, (((rowTop (rowOf R n)).reg 2).2 l).toNat = (y 1).val := ⟨l, hl⟩
                simp only [if_pos hh, ite_self]
      | 3, _ => have hh : ∃ l : S16.Idx, (((rowTop (rowOf R n)).reg 3).2 l).toNat = (y 1).val := ⟨l, hl⟩
                simp only [if_pos hh]
    · rw [if_neg hk, if_neg fun ⟨l, hl⟩ => hk ⟨3, by omega, l, hl⟩, if_neg fun ⟨l, hl⟩ => hk ⟨2, by omega, l, hl⟩,
        if_neg fun ⟨l, hl⟩ => hk ⟨1, by omega, l, hl⟩, if_neg fun ⟨l, hl⟩ => hk ⟨0, by omega, l, hl⟩]
  · simp only [e, false_and, if_false]
    by_cases hlt : (y 0).val < n
    · rw [if_pos hlt, if_pos (by omega)]
    · rw [if_neg hlt, if_neg (by omega)]

theorem row_run (R : Vec F S8x2048 .f32) (I : Vec F S8x64 .i32) (n11 : Fin k2_t11_loop.trips) (u : Unit) :
    iprop(holds d i arg5 R ∗ holds d i arg6 (idxTo R I n11.val) ∗ holds d i arg7 (maskTo R n11.val) ∗ some_ (F := F) d i arg8 ∗ some_ (F := F) d i arg9
        ∗ holds d i arg10 (chunkMaxes R) ∗ some_ (F := F) d i arg11)
      ⊢ wp frame (wpE (defs₀ (F := F)) 𝒱₀ (thr d i) none) Set.univ
          (k2_t11_body i arg2 harg2 arg3 harg3 arg4 harg4 arg5 harg5 arg6 harg6 arg7 harg7 arg8 harg8 arg9 harg9 arg10 harg10 arg11 harg11 r0 r1 r2
            lanes (k2_pay383 (F := F)) n11 u) fun _ =>
        iprop(holds d i arg5 R ∗ holds d i arg6 (idxTo R I (n11.val + 1)) ∗ holds d i arg7 (maskTo R (n11.val + 1)) ∗ some_ (F := F) d i arg8 ∗ some_ (F := F) d i arg9
          ∗ holds d i arg10 (chunkMaxes R) ∗ some_ (F := F) d i arg11) := by
  have hn : n11.val < 8 := n11.isLt
  rw [row_eq]
  unfold keepFirst keepLast
  iintro ⟨⟨%f5, %h5, H5⟩, ⟨%f6, %h6, H6⟩, ⟨%f7, %h7, H7⟩, ⟨%f8, H8⟩, ⟨%f9, H9⟩, ⟨%f10, %h10, H10⟩, ⟨%f11, H11⟩⟩
  sl_exec
  have hx : ∀ (j : ℕ) (off : Fin 2 → ℕ) (_ : off = ![n11.val, 64 * 0 + 16 * j]) inb, reg (arg5.view.readAt (Elt F) (Rect.unit (s := S8x2048) off S1x16.size inb).toLoadRect f5)
      = chunkReg (rowOf R n11.val) 0 j := fun j off ho inb => reg_load arg5 f5 R h5 off inb n11.val 0 j hn ho
  have eT : row_run.sl.T arg5 n11 f5 = topN (rowOf R n11.val) 0 := by
    unfold row_run.sl.T topN chunk
    rw [← posn0_eq, ← posn0_eq, ← posn0_eq, ← posn0_eq, ← hx 0 _ (k2_off12_eq n11) (k2_off12_inb n11), ← hx 1 _ (k2_off13_eq n11) (k2_off13_inb n11),
      ← hx 2 _ (k2_off14_eq n11) (k2_off14_inb n11), ← hx 3 _ (k2_off15_eq n11) (k2_off15_inb n11)]
  unfold row_run.sl.H8_4 row_run.sl.H9_4 row_run.sl.H11_1
  rw [eT]
  sl_for (fun k (_ : Unit) => iprop(holds d i arg5 R ∗ holds d i arg8 (topN (rowOf R n11.val) k).keys ∗ holds d i arg9 (topN (rowOf R n11.val) k).poss
      ∗ holds d i arg10 (chunkMaxes R) ∗ holds d i arg11 (fun _ => laneMin (topN (rowOf R n11.val) k).r0.1))) $$ [H5 H8 H9 H10 H11]
  case region =>
    intro k u
    unfold row_run.sl.prog.body_1
    exact chunk_run (F := F) d i arg2 harg2 arg3 harg3 arg4 harg4 arg5 harg5 arg6 harg6 arg7 harg7 arg8 harg8 arg9 harg9 arg10 harg10 arg11 harg11 r0 r1 r2 R
      (topN (rowOf R n11.val) k.val) n11 _ _ _ _ _ _ _ _ _ _ k u
  · isplitl [H5]; · iapply (holds_intro d i arg5 h5); iexact H5
    isplitl [H8]; · iapply (holds_intro d i arg8 (keys_stored arg8 _ _)); iexact H8
    isplitl [H9]; · iapply (holds_intro d i arg9 (poss_stored arg9 _ _)); iexact H9
    isplitl [H10]; · iapply (holds_intro d i arg10 h10); iexact H10
    iapply (holds_intro d i arg11 (one_stored arg11 _ _)); iexact H11
  iintro %_ ⟨⟨%g5, %e5, H5⟩, ⟨%g8, %e8, H8⟩, ⟨%g9, %e9, H9⟩, ⟨%g10, %e10, H10⟩, ⟨%g11, %e11, H11⟩⟩
  have j0 : arg9.view.readAt (Elt F) (Rect.unit (s := S64) ![0] S16.size inb_S64_S16_0).toLoadRect g9 = ((rowTop (rowOf R n11.val)).reg 0).2 :=
    keep_load arg9 g9 _ e9 0 inb_S64_S16_0 0 _ rfl (poss_at _ 0)
  have j1 : arg9.view.readAt (Elt F) (Rect.unit (s := S64) ![16] S16.size inb_S64_S16_16).toLoadRect g9 = ((rowTop (rowOf R n11.val)).reg 1).2 :=
    keep_load arg9 g9 _ e9 16 inb_S64_S16_16 1 _ rfl (poss_at _ 1)
  have j2 : arg9.view.readAt (Elt F) (Rect.unit (s := S64) ![32] S16.size inb_S64_S16_32).toLoadRect g9 = ((rowTop (rowOf R n11.val)).reg 2).2 :=
    keep_load arg9 g9 _ e9 32 inb_S64_S16_32 2 _ rfl (poss_at _ 2)
  have j3 : arg9.view.readAt (Elt F) (Rect.unit (s := S64) ![48] S16.size inb_S64_S16_48).toLoadRect g9 = ((rowTop (rowOf R n11.val)).reg 3).2 :=
    keep_load arg9 g9 _ e9 48 inb_S64_S16_48 3 _ rfl (poss_at _ 3)
  have w1 : k2_chk1 (broadcast S16 (Scf.iv 0#32 1#32 n11.val) : IVec S16 32) ((rowTop (rowOf R n11.val)).reg 0).2 := chk_ok _ hn _ (rowTop_lt _ 0)
  have w2 : k2_chk2 (broadcast S16 (Scf.iv 0#32 1#32 n11.val) : IVec S16 32) ((rowTop (rowOf R n11.val)).reg 1).2 := chk_ok _ hn _ (rowTop_lt _ 1)
  have w3 : k2_chk3 (broadcast S16 (Scf.iv 0#32 1#32 n11.val) : IVec S16 32) ((rowTop (rowOf R n11.val)).reg 2).2 := chk_ok _ hn _ (rowTop_lt _ 2)
  have w4 : k2_chk4 (broadcast S16 (Scf.iv 0#32 1#32 n11.val) : IVec S16 32) ((rowTop (rowOf R n11.val)).reg 3).2 := chk_ok _ hn _ (rowTop_lt _ 3)
  sl_exec
  iapply (store_at d i arg7 _ f7 h7) $$ H7; iintro ⟨%f71, %h71, H7⟩
  iapply (store_at d i arg7 _ f71 h71) $$ H7; iintro ⟨%f72, %h72, H7⟩
  iapply (store_at d i arg7 _ f72 h72) $$ H7; iintro ⟨%f73, %h73, H7⟩
  iapply (store_at d i arg7 _ f73 h73) $$ H7; iintro ⟨%f74, %h74, H7⟩
  sl_step
  isplitl [H5]; · iapply (holds_intro d i arg5 e5); iexact H5
  isplitl [H6]; · iapply (holds_intro d i arg6 (idx_stored arg6 f6 R I n11 h6)); iexact H6
  isplitl [H7]; · iapply (holds_intro d i arg7 (h74.trans (mask_set R n11.val hn _ _ _ _))); iexact H7
  isplitl [H8]; · iexists g8; iexact H8
  isplitl [H9]; · iexists g9; iexact H9
  isplitl [H10]; · iapply (holds_intro d i arg10 e10); iexact H10
  iexists g11; iexact H11

end Cert.Proof.Topk

end
-- ==== Proof.Around.lean ====
/-
  The loops around the rows: the mask cleared, the maxima of a batch's chunks, the mask restored after a batch went out.
-/
module

public import proofs.«01_k».proof.Proof.RowRun

@[expose] public section

set_option maxRecDepth 65536
set_option maxHeartbeats 400000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

/-! ## The mask cleared -/

/-- The mask cleared up to register `k` of row `r`. -/
def cleared (G : Vec F S8x2048 .f32) (r k : ℕ) : Vec F S8x2048 .f32 :=
  fun y => if (y 0).val < r ∨ ((y 0).val = r ∧ (y 1).val < 16 * k) then offVal else G y

theorem cleared_row (G : Vec F S8x2048 .f32) (r : ℕ) : cleared G r 128 = cleared G (r + 1) 0 := by
  funext y
  have hy : (y 1).val < 2048 := (y 1).isLt
  unfold cleared
  exact if_congr (by omega) rfl rfl

theorem cleared_zero (G : Vec F S8x2048 .f32) : cleared G 0 0 = G := by
  funext y
  exact if_neg (by omega)

theorem cleared_all (G : Vec F S8x2048 .f32) : cleared G 8 0 = fun _ => offVal := by
  funext y
  have hy : (y 0).val < 8 := (y 0).isLt
  exact if_pos (.inl hy)

theorem clear_stored (M : Memref sig .scVector .vmem S8x2048 .f32) (f : M.view.ty.Contents (Elt F)) (G : Vec F S8x2048 .f32) (off : Fin 2 → ℕ) (inb) (r k : ℕ)
    (ho : off = ![r, 16 * k]) (e : M.view.read (Elt F) f = cleared G r k) :
    M.view.read (Elt F) (M.view.writes (Elt F) f [⟨Rect.unit (s := S8x2048) off S1x16.size inb, shapeCast S1x16 (k2_pay382 (F := F)) shapeCasts_S16_S1x16⟩])
      = cleared G r (k + 1) := by
  funext y
  refine (reg_cons M f [] off inb r (16 * k) ho _ y).trans ?_
  split
  · rename_i c
    unfold cleared
    rw [if_pos (.inr ⟨c.1, by omega⟩)]; rfl
  · rename_i c
    show M.view.read (Elt F) f y = _
    rw [e]
    unfold cleared
    refine if_congr ⟨fun h => h.imp_right fun h => ⟨h.1, by omega⟩, fun h => h.imp_right fun h => ⟨h.1, ?_⟩⟩ rfl rfl
    by_contra hc
    exact c ⟨h.1, by omega, by omega⟩

theorem clear_run (G : Vec F S8x2048 .f32) (off : Fin 2 → ℕ) (inb) (r k : ℕ) (ho : off = ![r, 16 * k]) (h1 h2 h3) :
    holds d i arg7 (cleared G r k)
      ⊢ wp frame (wpE (defs₀ (F := F)) 𝒱₀ (thr d i) none) Set.univ (do
          let _ : Vec F S1x16 .f32 ← Prog.lift (.load arg7 (Rect.unit (s := S8x2048) off S1x16.size inb).toLoadRect h1)
          Prog.lift (.store arg7 (Rect.unit (s := S8x2048) off S1x16.size inb) (shapeCast S1x16 (k2_pay382 (F := F)) shapeCasts_S16_S1x16) Finset.univ h2 h3)
          pure ⟨⟩) fun (_ : Unit) => holds d i arg7 (cleared G r (k + 1)) := by
  iintro ⟨%f7, %e7, H7⟩
  sl_exec
  sl_step
  iapply (holds_intro d i arg7 (clear_stored arg7 f7 G off inb r k ho e7)); iexact H7

/-! ## The maxima of the chunks -/

theorem off10_eq : ∀ (k : Fin k2_t10_loop.trips) (r : Fin 4), k2_off10 k (BitVec.ofNat 32 (16 * r.val)) = ![k.val / 32, 64 * (k.val % 32) + 16 * r.val] := by
  decide +kernel

/-- The table of maxima with its first `k` entries filled. -/
def maxesTo (R : Vec F S8x2048 .f32) (C : Vec F S256 .f32) (k : ℕ) : Vec F S256 .f32 := fun q => if (q 0).val < k then chunkMaxes R q else C q

theorem cell_stored {n : ℕ} (M : Memref sig .scVector .smem ⟨1, ![n]⟩ .f32) (f : M.view.ty.Contents (Elt F)) (off : Fin 1 → ℕ) (inb) (k : ℕ) (ho : off = ![k])
    (a : F .f32) (y : (⟨1, ![n]⟩ : Shape).Idx) :
    M.view.read (Elt F) (M.view.writes (Elt F) f [⟨Rect.unit (s := ⟨1, ![n]⟩) off S1.size inb, fun _ => a⟩]) y
      = if (y 0).val = k then a else M.view.read (Elt F) f y := by
  subst ho
  split
  · rename_i h
    exact View.read_writes_cons_hit_of_coords (v := M.view) (f := f) _ _ _ (ix1 0 : S1.Idx) y (fun b => by
      match b with
      | ⟨0, _⟩ => simp [Rect.unit]; exact h)
  · rename_i h
    exact View.read_writes_cons_miss_of_axis (v := M.view) (f := f) _ _ y 0 k 1 rfl rfl rfl (by omega)

theorem maxes_stored (M5 : Memref sig .scVector .vmem S8x2048 .f32) (M : Memref sig .scVector .smem S256 .f32) (f5 : M5.view.ty.Contents (Elt F)) (f : M.view.ty.Contents (Elt F))
    (R : Vec F S8x2048 .f32) (C : Vec F S256 .f32) (n10 : Fin k2_t10_loop.trips) (h5 : M5.view.read (Elt F) f5 = R) (h : M.view.read (Elt F) f = maxesTo R C n10.val) :
    M.view.read (Elt F) (M.view.writes (Elt F) f [⟨Rect.unit (s := S256) (k2_off11 n10) S1.size (k2_off11_inb n10), fun _ =>
      k2_pay1 (k2_pay3 (M5.view.readAt (Elt F) (Rect.unit (s := S8x2048) (k2_off10 n10 0#32) S1x16.size (k2_off10_inb n10 0)).toLoadRect f5))
        (k2_pay4 (M5.view.readAt (Elt F) (Rect.unit (s := S8x2048) (k2_off10 n10 16#32) S1x16.size (k2_off10_inb n10 1)).toLoadRect f5))
        (M5.view.readAt (Elt F) (Rect.unit (s := S8x2048) (k2_off10 n10 32#32) S1x16.size (k2_off10_inb n10 2)).toLoadRect f5)
        (M5.view.readAt (Elt F) (Rect.unit (s := S8x2048) (k2_off10 n10 48#32) S1x16.size (k2_off10_inb n10 3)).toLoadRect f5)⟩])
      = maxesTo R C (n10.val + 1) := by
  have hn : n10.val < 256 := n10.isLt
  funext y
  have hx : ∀ (j : Fin 4), reg (M5.view.readAt (Elt F) (Rect.unit (s := S8x2048) (k2_off10 n10 (BitVec.ofNat 32 (16 * j.val))) S1x16.size (k2_off10_inb n10 j)).toLoadRect f5)
      = chunkReg (rowOf R (n10.val / 32)) (n10.val % 32) j.val := fun j => reg_load M5 f5 R h5 _ _ _ _ _ (by omega) (off10_eq n10 j)
  refine (cell_stored M f _ (k2_off11_inb n10) n10.val (k2_off11_eq n10) _ y).trans ?_
  unfold maxesTo
  split
  · rename_i c
    rw [if_pos (by omega)]
    unfold chunkMaxes chunkMax
    have e0 : _ = chunkReg (rowOf R (n10.val / 32)) (n10.val % 32) 0 := hx 0
    have e1 : _ = chunkReg (rowOf R (n10.val / 32)) (n10.val % 32) 1 := hx 1
    have e2 : _ = chunkReg (rowOf R (n10.val / 32)) (n10.val % 32) 2 := hx 2
    have e3 : _ = chunkReg (rowOf R (n10.val / 32)) (n10.val % 32) 3 := hx 3
    rw [c, ← e0, ← e1, ← e2, ← e3]
    rfl
  · rename_i c
    rw [h]
    unfold maxesTo
    exact if_congr (by omega) rfl rfl

theorem maxes_run (R : Vec F S8x2048 .f32) (C : Vec F S256 .f32) (n10 : Fin k2_t10_loop.trips) (u : Unit) :
    iprop(holds d i arg5 R ∗ holds d i arg10 (maxesTo R C n10.val))
      ⊢ wp frame (wpE (defs₀ (F := F)) 𝒱₀ (thr d i) none) Set.univ
          (k2_t10_body i arg2 harg2 arg3 harg3 arg4 harg4 arg5 harg5 arg6 harg6 arg7 harg7 arg8 harg8 arg9 harg9 arg10 harg10 arg11 harg11 r0 r1 r2 n10 u) fun _ =>
        iprop(holds d i arg5 R ∗ holds d i arg10 (maxesTo R C (n10.val + 1))) := by
  have hn : n10.val < 256 := n10.isLt
  unfold k2_t10_body
  rw [k2_part1_eq_skeleton]
  unfold k2_part1_skel
  dsimp only
  iintro ⟨⟨%f5, %h5, H5⟩, ⟨%f10, %h10, H10⟩⟩
  sl_exec
  sl_step
  isplitl [H5]; · iapply (holds_intro d i arg5 h5); iexact H5
  iapply (holds_intro d i arg10 (maxes_stored arg5 arg10 f5 f10 R C n10 h5 h10)); iexact H10

/-! ## The mask restored -/

/-- The mask with the first `k` rows of a batch cleared again. -/
def restTo (R : Vec F S8x2048 .f32) (k : ℕ) : Vec F S8x2048 .f32 :=
  fun y => if (y 0).val < k then offVal else maskRow (rowOf R (y 0).val) (y 1)

theorem restTo_zero (R : Vec F S8x2048 .f32) : restTo R 0 = maskTo R 8 := by
  funext y
  have hy : (y 0).val < 8 := (y 0).isLt
  unfold restTo maskTo
  rw [if_neg (by omega), if_pos hy]

theorem restTo_all (R : Vec F S8x2048 .f32) : restTo R 8 = fun _ => offVal := by
  funext y
  have hy : (y 0).val < 8 := (y 0).isLt
  exact if_pos hy

/-- Register `q` of a row's positions, as they lie in the batch's. -/
def outReg (x : Fin 2048 → F .f32) (q : ℕ) : IVec S16 32 := rev ((rowTop x).reg (3 - q)).2

theorem outReg_apply (x : Fin 2048 → F .f32) (q : ℕ) (l : Fin 16) : outReg x q (ix1 l) = ((rowTop x).reg (3 - q)).2 (ix1 l.rev) := rev_apply _ _

theorem outReg_lt (x : Fin 2048 → F .f32) (q : ℕ) (l : S16.Idx) : (outReg x q l).toNat < 2048 := by
  obtain ⟨l, rfl⟩ : ∃ k : Fin 16, l = ix1 k := ⟨l 0, (ix1_eta l).symm⟩
  rw [outReg_apply]; exact rowTop_lt _ _ _

theorem out_load {sp : Space} (M : Memref sig .scVector sp S8x64 .i32) (f : M.view.ty.Contents (Elt F)) (R : Vec F S8x2048 .f32) (I : Vec F S8x64 .i32)
    (h : M.view.read (Elt F) f = idxTo R I 8) (off : Fin 2 → ℕ) (inb) (r q : ℕ) (hr : r < 8) (ho : off = ![r, 16 * q]) :
    (shapeCast S16 (M.view.readAt (Elt F) (Rect.unit (s := S8x64) off S1x16.size inb).toLoadRect f) shapeCasts_S1x16_S16 : IVec S16 32)
      = outReg (rowOf R r) q := by
  subst ho
  funext l
  have hb : 16 * q + 16 ≤ 64 := inb 1
  have hl : (l 0).val < 16 := (l 0).isLt
  refine (reg_apply (F := F) (e := .i32) _ l).trans ?_
  rw [View.readAt_apply, h]
  have e0 : (((Rect.unit (s := S8x64) ![r, 16 * q] S1x16.size inb).toLoadRect.idx (ix2 0 (l 0) : S1x16.Idx)) 0).val = r := by
    simp [LoadRect.idx_apply, Rect.unit]
  have e1 : (((Rect.unit (s := S8x64) ![r, 16 * q] S1x16.size inb).toLoadRect.idx (ix2 0 (l 0) : S1x16.Idx)) 1).val = 16 * q + (l 0).val := by
    simp [LoadRect.idx_apply, Rect.unit]
  unfold idxTo
  rw [e0, if_pos hr]
  unfold idxRow outReg
  rw [e1, show (16 * q + (l 0).val) / 16 = q by omega]
  exact congrArg _ ((congrArg ix1 (Fin.ext (show (16 * q + (l 0).val) % 16 = (l 0).val by omega))).trans (ix1_eta l))

theorem rest_set (R : Vec F S8x2048 .f32) (n : ℕ) (hn : n < 8) (g0 g1 g2 g3 : IVec S16 32) (e0 : g0 = outReg (rowOf R n) 0) (e1 : g1 = outReg (rowOf R n) 1)
    (e2 : g2 = outReg (rowOf R n) 2) (e3 : g3 = outReg (rowOf R n) 3) (h0 h1 h2 h3) :
    storeIdx (storeIdx (storeIdx (storeIdx (restTo R n)
      ![(broadcast S16 (Scf.iv 0#32 1#32 n) : IVec S16 32), g0] (k2_pay382 (F := F)) (fun _ => 1#1) false h0)
      ![(broadcast S16 (Scf.iv 0#32 1#32 n) : IVec S16 32), g1] (k2_pay382 (F := F)) (fun _ => 1#1) false h1)
      ![(broadcast S16 (Scf.iv 0#32 1#32 n) : IVec S16 32), g2] (k2_pay382 (F := F)) (fun _ => 1#1) false h2)
      ![(broadcast S16 (Scf.iv 0#32 1#32 n) : IVec S16 32), g3] (k2_pay382 (F := F)) (fun _ => 1#1) false h3
      = restTo R (n + 1) := by
  subst e0 e1 e2 e3
  classical
  rw [storeIdx_const _ _ _ offVal offVal_eq, storeIdx_const _ _ _ offVal offVal_eq, storeIdx_const _ _ _ offVal offVal_eq, storeIdx_const _ _ _ offVal offVal_eq]
  funext y
  simp only [names_iff _ hn]
  unfold restTo
  by_cases e : (y 0).val = n
  · simp only [e, true_and]
    rw [if_pos (show n < n + 1 by omega), if_neg (show ¬ n < n by omega)]
    unfold maskRow
    by_cases hk : Kept (rowTop (rowOf R n)) (y 1).val
    · obtain ⟨j, hj, l, hl⟩ := hk
      obtain ⟨l, rfl⟩ : ∃ k : Fin 16, l = ix1 k := ⟨l 0, (ix1_eta l).symm⟩
      have hl' : (outReg (rowOf R n) (3 - j) (ix1 l.rev)).toNat = (y 1).val := by
        rw [outReg_apply, Fin.rev_rev, show 3 - (3 - j) = j by omega]; exact hl
      match j, hj with
      | 3, _ => have hh : ∃ l : S16.Idx, (outReg (rowOf R n) 0 l).toNat = (y 1).val := ⟨_, hl'⟩
                simp only [if_pos hh, ite_self]
      | 2, _ => have hh : ∃ l : S16.Idx, (outReg (rowOf R n) 1 l).toNat = (y 1).val := ⟨_, hl'⟩
                simp only [if_pos hh, ite_self]
      | 1, _ => have hh : ∃ l : S16.Idx, (outReg (rowOf R n) 2 l).toNat = (y 1).val := ⟨_, hl'⟩
                simp only [if_pos hh, ite_self]
      | 0, _ => have hh : ∃ l : S16.Idx, (outReg (rowOf R n) 3 l).toNat = (y 1).val := ⟨_, hl'⟩
                simp only [if_pos hh]
    · simp only [if_neg hk, ite_self]
  · rw [if_neg fun h => e h.1, if_neg fun h => e h.1, if_neg fun h => e h.1, if_neg fun h => e h.1]
    by_cases hlt : (y 0).val < n
    · rw [if_pos hlt, if_pos (by omega)]
    · rw [if_neg hlt, if_neg (by omega)]

theorem rest_run (R : Vec F S8x2048 .f32) (I : Vec F S8x64 .i32) (n41 : Fin k2_t41_loop.trips) (u : Unit) :
    iprop(holds d i arg6 (idxTo R I 8) ∗ holds d i arg7 (restTo R n41.val))
      ⊢ wp frame (wpE (defs₀ (F := F)) 𝒱₀ (thr d i) none) Set.univ
          (k2_t41_body i arg2 harg2 arg3 harg3 arg4 harg4 arg5 harg5 arg6 harg6 arg7 harg7 arg8 harg8 arg9 harg9 arg10 harg10 arg11 harg11 r0 r1 r2
            (k2_pay382 (F := F)) n41 u) fun _ =>
        iprop(holds d i arg6 (idxTo R I 8) ∗ holds d i arg7 (restTo R (n41.val + 1))) := by
  have hn : n41.val < 8 := n41.isLt
  unfold k2_t41_body
  iintro ⟨⟨%f6, %h6, H6⟩, ⟨%f7, %h7, H7⟩⟩
  have j0 : (shapeCast S16 (arg6.view.readAt (Elt F) (Rect.unit (s := S8x64) (k2_off23 n41) S1x16.size (k2_off23_inb n41)).toLoadRect f6) shapeCasts_S1x16_S16 : IVec S16 32)
      = outReg (rowOf R n41.val) 0 := out_load arg6 f6 R I h6 _ _ _ 0 hn (k2_off23_eq n41)
  have j1 : (shapeCast S16 (arg6.view.readAt (Elt F) (Rect.unit (s := S8x64) (k2_off24 n41) S1x16.size (k2_off24_inb n41)).toLoadRect f6) shapeCasts_S1x16_S16 : IVec S16 32)
      = outReg (rowOf R n41.val) 1 := out_load arg6 f6 R I h6 _ _ _ 1 hn (k2_off24_eq n41)
  have j2 : (shapeCast S16 (arg6.view.readAt (Elt F) (Rect.unit (s := S8x64) (k2_off25 n41) S1x16.size (k2_off25_inb n41)).toLoadRect f6) shapeCasts_S1x16_S16 : IVec S16 32)
      = outReg (rowOf R n41.val) 2 := out_load arg6 f6 R I h6 _ _ _ 2 hn (k2_off25_eq n41)
  have j3 : (shapeCast S16 (arg6.view.readAt (Elt F) (Rect.unit (s := S8x64) (k2_off26 n41) S1x16.size (k2_off26_inb n41)).toLoadRect f6) shapeCasts_S1x16_S16 : IVec S16 32)
      = outReg (rowOf R n41.val) 3 := out_load arg6 f6 R I h6 _ _ _ 3 hn (k2_off26_eq n41)
  have w5 : k2_chk5 (broadcast S16 (Scf.iv 0#32 1#32 n41.val) : IVec S16 32)
      (shapeCast S16 (arg6.view.readAt (Elt F) (Rect.unit (s := S8x64) (k2_off23 n41) S1x16.size (k2_off23_inb n41)).toLoadRect f6) shapeCasts_S1x16_S16 : IVec S16 32) :=
    chk_ok _ hn _ (by rw [j0]; exact outReg_lt _ 0)
  have w6 : k2_chk6 (broadcast S16 (Scf.iv 0#32 1#32 n41.val) : IVec S16 32)
      (shapeCast S16 (arg6.view.readAt (Elt F) (Rect.unit (s := S8x64) (k2_off24 n41) S1x16.size (k2_off24_inb n41)).toLoadRect f6) shapeCasts_S1x16_S16 : IVec S16 32) :=
    chk_ok _ hn _ (by rw [j1]; exact outReg_lt _ 1)
  have w7 : k2_chk7 (broadcast S16 (Scf.iv 0#32 1#32 n41.val) : IVec S16 32)
      (shapeCast S16 (arg6.view.readAt (Elt F) (Rect.unit (s := S8x64) (k2_off25 n41) S1x16.size (k2_off25_inb n41)).toLoadRect f6) shapeCasts_S1x16_S16 : IVec S16 32) :=
    chk_ok _ hn _ (by rw [j2]; exact outReg_lt _ 2)
  have w8 : k2_chk8 (broadcast S16 (Scf.iv 0#32 1#32 n41.val) : IVec S16 32)
      (shapeCast S16 (arg6.view.readAt (Elt F) (Rect.unit (s := S8x64) (k2_off26 n41) S1x16.size (k2_off26_inb n41)).toLoadRect f6) shapeCasts_S1x16_S16 : IVec S16 32) :=
    chk_ok _ hn _ (by rw [j3]; exact outReg_lt _ 3)
  sl_exec
  unfold rest_run.sl.v22 rest_run.sl.v20 rest_run.sl.arg13
  iapply (store_at d i arg7 _ f7 h7) $$ H7; iintro ⟨%f70, %h70, H7⟩
  sl_exec
  unfold rest_run.sl.v24
  iapply (store_at d i arg7 _ f70 h70) $$ H7; iintro ⟨%f71, %h71, H7⟩
  sl_exec
  unfold rest_run.sl.v26
  iapply (store_at d i arg7 _ f71 h71) $$ H7; iintro ⟨%f72, %h72, H7⟩
  sl_exec
  unfold rest_run.sl.v28
  iapply (store_at d i arg7 _ f72 h72) $$ H7; iintro ⟨%f73, %h73, H7⟩
  sl_step
  isplitl [H6]; · iapply (holds_intro d i arg6 h6); iexact H6
  iapply (holds_intro d i arg7 (h73.trans (rest_set R n41.val hn _ _ _ _ j0 j1 j2 j3 _ _ _ _))); iexact H7

end Cert.Proof.Topk

end
-- ==== Proof.Batch.lean ====
/-
  One batch of eight rows: the scores brought in, every row's top taken, the positions and the mask sent out.
-/
module

public import proofs.«01_k».proof.Proof.Around

@[expose] public section

set_option maxRecDepth 65536
set_option maxHeartbeats 400000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

theorem maxesTo_zero (R : Vec F S8x2048 .f32) (C : Vec F S256 .f32) : maxesTo R C 0 = C := by
  funext q; exact if_neg (by omega)
theorem maxesTo_all (R : Vec F S8x2048 .f32) (C : Vec F S256 .f32) : maxesTo R C 256 = chunkMaxes R := by
  funext q
  have hq : (q 0).val < 256 := (q 0).isLt
  exact if_pos hq
theorem idxTo_zero (R : Vec F S8x2048 .f32) (I : Vec F S8x64 .i32) : idxTo R I 0 = I := by
  funext q; exact if_neg (by omega)
theorem maskTo_zero (R : Vec F S8x2048 .f32) : maskTo R 0 = fun _ => offVal := by
  funext q; exact if_neg (by omega)

/-- The positions of a batch's rows. -/
def batchIdx (R : Vec F S8x2048 .f32) : Vec F S8x64 .i32 := fun y => idxRow (rowOf R (y 0).val) (y 1)
theorem idxTo_all (R : Vec F S8x2048 .f32) (I : Vec F S8x64 .i32) : idxTo R I 8 = batchIdx R := by
  funext y
  have hy : (y 0).val < 8 := (y 0).isLt
  exact if_pos hy
/-- The mask of a batch's rows. -/
def batchMask (R : Vec F S8x2048 .f32) : Vec F S8x2048 .f32 := fun y => maskRow (rowOf R (y 0).val) (y 1)
theorem maskTo_all (R : Vec F S8x2048 .f32) : maskTo R 8 = batchMask R := by
  funext y
  have hy : (y 0).val < 8 := (y 0).isLt
  exact if_pos hy

/-- The batch's rows of the scores, of the positions and of the mask. -/
abbrev rowsIn (t : Fin k2_t9_loop.trips) : Memref sig .scVector .hbm S8x2048 .f32 :=
  arg2.slice (Rect.unit (s := S2048x2048) (k2_off9 i t) S8x2048.size (k2_off9_inb i t)) (fun _ => rfl)
abbrev rowsIdx (t : Fin k2_t9_loop.trips) : Memref sig .scVector .hbm S8x64 .i32 :=
  arg3.slice (Rect.unit (s := S2048x64) (k2_off22 i t) S8x64.size (k2_off22_inb i t)) (fun _ => rfl)
abbrev rowsMask (t : Fin k2_t9_loop.trips) : Memref sig .scVector .hbm S8x2048 .f32 :=
  arg4.slice (Rect.unit (s := S2048x2048) (k2_off9 i t) S8x2048.size (k2_off9_inb i t)) (fun _ => rfl)

/-- What a tile keeps from batch to batch: its buffers, the mask's cleared, and its semaphores at rest. -/
def between : sProp 𝕄 :=
  iprop(some_ (F := F) d i arg5 ∗ some_ (F := F) d i arg6 ∗ holds d i arg7 (fun _ => offVal) ∗ some_ (F := F) d i arg8 ∗ some_ (F := F) d i arg9
    ∗ some_ (F := F) d i arg10 ∗ some_ (F := F) d i arg11
    ∗ semVal (thr d i, SemLoc.dma r0.sem) 0 ∗ semVal (thr d i, SemLoc.dma r1.sem) 0 ∗ semVal (thr d i, SemLoc.dma r2.sem) 0)

/-- What a tile still owes, its waits beyond `W` all at no call's index. -/
def owing (O : CellTallies nD τ sig (HIx 1)) (W : Waits sig (HIx 1)) : sProp 𝕄 :=
  iprop(∃ W', ⌜∀ p ∈ W', p ∈ W ∨ p.2 = none⌝ ∗ owes (thr d i) O W')

/-- A buffer filled whole reads what it was filled with. -/
theorem landed {sp : Space} {s : Shape} {e : EltTy} (M : Memref sig .scVector sp s e) {f : Buf (Elt F) (M.view.loc (thr d i))} {v G : s.Idx → Elt F e} (h : v = G) :
    pts d i M (M.view.writes (Elt F) f [⟨Rect.whole s, v⟩]) ⊢ holds d i M G :=
  holds_intro d i M ((View.read_writes_whole _ _ _).trans h)

theorem batch_run (R : Vec F S8x2048 .f32) (t : Fin k2_t9_loop.trips) (u : Unit) (O : CellTallies nD τ sig (HIx 1)) (W : Waits sig (HIx 1)) :
    iprop(Transfers.MayWaits (thr d i) (none : HIx 1) O ∗ between d i arg5 arg6 arg7 arg8 arg9 arg10 arg11 r0 r1 r2 ∗ owing d i O W
        ∗ holds d i (rowsIn i arg2 t) R ∗ some_ (F := F) d i (rowsIdx i arg3 t) ∗ some_ (F := F) d i (rowsMask i arg4 t))
      ⊢ wp frame (wpE (defs₀ (F := F)) 𝒱₀ (thr d i) none) Set.univ
          (k2_t9_body i arg2 harg2 arg3 harg3 arg4 harg4 arg5 harg5 arg6 harg6 arg7 harg7 arg8 harg8 arg9 harg9 arg10 harg10 arg11 harg11 r0 r1 r2
            lanes (k2_pay382 (F := F)) (k2_pay383 (F := F)) t u) fun _ =>
        iprop(between d i arg5 arg6 arg7 arg8 arg9 arg10 arg11 r0 r1 r2 ∗ owing d i O W
          ∗ holds d i (rowsIn i arg2 t) R ∗ holds d i (rowsIdx i arg3 t) (batchIdx R) ∗ holds d i (rowsMask i arg4 t) (batchMask R)) := by
  unfold k2_t9_body between owing
  iintro ⟨#Hmw, ⟨⟨%f5, H5⟩, ⟨%f6, H6⟩, ⟨%f7, %h7, H7⟩, ⟨%f8, H8⟩, ⟨%f9, H9⟩, ⟨%f10, H10⟩, ⟨%f11, H11⟩, Hs0, Hs1, Hs2⟩, ⟨%W', %hW', HO⟩,
    ⟨%f2, %h2, H2⟩, ⟨%f3, H3⟩, ⟨%f4, H4⟩⟩
  sl_exec (disch := exact View.amount_pos _ _ (show 0 < S8x2048.numel by decide))
  sl_for (fun k (_ : Unit) => iprop(holds d i arg5 R ∗ holds d i arg10 (maxesTo R (arg10.view.read (Elt F) f10) k))) $$ [H5 H10]
  case region =>
    intro k u
    exact maxes_run d i arg2 harg2 arg3 harg3 arg4 harg4 arg5 harg5 arg6 harg6 arg7 harg7 arg8 harg8 arg9 harg9 arg10 harg10 arg11 harg11 r0 r1 r2 R _ k u
  · isplitl [H5]
    · iapply (landed d i arg5 (G := R) ?_) $$ H5
      exact h2
    · iapply (holds_intro d i arg10 (maxesTo_zero R _).symm) $$ H10
  iintro %_ ⟨H5, H10⟩
  rw [show Scf.trips k2_t10_loop.lb k2_t10_loop.ub k2_t10_loop.st = 256 from rfl, maxesTo_all]
  unfold batch_run.sl.prog.cont_1
  sl_exec
  sl_for (fun k (_ : Unit) => iprop(holds d i arg5 R ∗ holds d i arg6 (idxTo R (arg6.view.read (Elt F) f6) k) ∗ holds d i arg7 (maskTo R k) ∗ some_ (F := F) d i arg8
    ∗ some_ (F := F) d i arg9 ∗ holds d i arg10 (chunkMaxes R) ∗ some_ (F := F) d i arg11)) $$ [H5 H6 H7 H8 H9 H10 H11]
  case region =>
    intro k u
    exact row_run d i arg2 harg2 arg3 harg3 arg4 harg4 arg5 harg5 arg6 harg6 arg7 harg7 arg8 harg8 arg9 harg9 arg10 harg10 arg11 harg11 r0 r1 r2 R _ k u
  · isplitl [H5]; · iexact H5
    isplitl [H6]; · iapply (holds_intro d i arg6 (idxTo_zero R _).symm) $$ H6
    isplitl [H7]; · iapply (holds_intro d i arg7 (h7.trans (maskTo_zero R).symm)) $$ H7
    isplitl [H8]; · iexists _; iexact H8
    isplitl [H9]; · iexists _; iexact H9
    isplitl [H10]; · iexact H10
    iexists _; iexact H11
  rw [show Scf.trips k2_t11_loop.lb k2_t11_loop.ub k2_t11_loop.st = 8 from rfl, idxTo_all, maskTo_all]
  iintro %_ ⟨H5, ⟨%g6, %h6, H6⟩, ⟨%g7, %h7, H7⟩, ⟨%g8, H8⟩, ⟨%g9, H9⟩, ⟨%g10, %h10, H10⟩, ⟨%g11, H11⟩⟩
  sl_exec (disch := exact View.amount_pos _ _ (show 0 < S8x2048.numel by decide))
  sl_for (fun k (_ : Unit) => iprop(holds d i arg6 (batchIdx R) ∗ holds d i arg7 (restTo R k))) $$ [H6 H7]
  case region =>
    intro k u
    rw [← idxTo_all R (fun _ => 0#32)]
    exact rest_run d i arg2 harg2 arg3 harg3 arg4 harg4 arg5 harg5 arg6 harg6 arg7 harg7 arg8 harg8 arg9 harg9 arg10 harg10 arg11 harg11 r0 r1 r2 R _ k u
  · isplitl [H6]; · iapply (holds_intro d i arg6 h6) $$ H6
    iapply (holds_intro d i arg7 (h7.trans ((maskTo_all R).symm.trans (restTo_zero R).symm))) $$ H7
  rw [show Scf.trips k2_t41_loop.lb k2_t41_loop.ub k2_t41_loop.st = 8 from rfl, restTo_all]
  iintro %_ ⟨⟨%k6, -, H6⟩, H7⟩
  icases H5 with ⟨%k5, -, H5⟩
  sl_exec
  sl_step
  isplitl [H5 H6 H7 H8 H9 H10 H11 Hs0 Hs1 Hs2]
  · isplitl [H5]; · iexists _; iexact H5
    isplitl [H6]; · iexists _; iexact H6
    isplitl [H7]; · iexact H7
    isplitl [H8]; · iexists _; iexact H8
    isplitl [H9]; · iexists _; iexact H9
    isplitl [H10]; · iexists _; iexact H10
    isplitl [H11]; · iexists _; iexact H11
    isplitl [Hs0]; · iexact Hs0
    isplitl [Hs1]; · iexact Hs1
    iexact Hs2
  isplitl [HO]
  · iexists (insert (SemLoc.dma r2.sem, (default : HIx 1)) (insert (SemLoc.dma r1.sem, (default : HIx 1)) (insert (SemLoc.dma r0.sem, (default : HIx 1)) W'))); isplitr
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      exact hW' p hp
    · iexact HO
  isplitl [H2]; · iapply (holds_intro d i (rowsIn i arg2 t) h2) $$ H2
  isplitl [H3]; ·
    iapply (landed d i (rowsIdx i arg3 t) (G := batchIdx R) ?_) $$ H3
    exact h6
  iapply (landed d i (rowsMask i arg4 t) (G := batchMask R) ?_) $$ H4
  exact h7

end Cert.Proof.Topk

end
-- ==== Proof.Tile.lean ====
/-
  One tile: the mask cleared, then its eight batches of eight rows.
-/
module

public import proofs.«01_k».proof.Proof.Batch

@[expose] public section

set_option maxRecDepth 65536
set_option maxHeartbeats 400000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid2.Coords) (arg2 : Memref sig .scVector .hbm S2048x2048 .f32) (harg2 : arg2.IsWhole) (arg3 : Memref sig .scVector .hbm S2048x64 .i32) (harg3 : arg3.IsWhole)
  (arg4 : Memref sig .scVector .hbm S2048x2048 .f32) (harg4 : arg4.IsWhole) (arg5 : Memref sig .scVector .vmem S8x2048 .f32) (harg5 : arg5.IsWhole)
  (arg6 : Memref sig .scVector .vmem S8x64 .i32) (harg6 : arg6.IsWhole) (arg7 : Memref sig .scVector .vmem S8x2048 .f32) (harg7 : arg7.IsWhole)
  (arg8 : Memref sig .scVector .vmem S64 .f32) (harg8 : arg8.IsWhole) (arg9 : Memref sig .scVector .vmem S64 .i32) (harg9 : arg9.IsWhole)
  (arg10 : Memref sig .scVector .smem S256 .f32) (harg10 : arg10.IsWhole) (arg11 : Memref sig .scVector .smem S1 .f32) (harg11 : arg11.IsWhole)
  (r0 r1 r2 : DmaSems sig S_)

/-- What a tile starts from: its buffers at whatever they hold, its semaphores at rest. -/
def atStart : sProp 𝕄 :=
  iprop(some_ (F := F) d i arg5 ∗ some_ (F := F) d i arg6 ∗ some_ (F := F) d i arg7 ∗ some_ (F := F) d i arg8 ∗ some_ (F := F) d i arg9
    ∗ some_ (F := F) d i arg10 ∗ some_ (F := F) d i arg11
    ∗ semVal (thr d i, SemLoc.dma r0.sem) 0 ∗ semVal (thr d i, SemLoc.dma r1.sem) 0 ∗ semVal (thr d i, SemLoc.dma r2.sem) 0)

/-- A batch's rows before it ran and after. -/
def batchPre (R : Fin k2_t9_loop.trips → Vec F S8x2048 .f32) (t : Fin k2_t9_loop.trips) : sProp 𝕄 :=
  iprop(holds d i (rowsIn i arg2 t) (R t) ∗ some_ (F := F) d i (rowsIdx i arg3 t) ∗ some_ (F := F) d i (rowsMask i arg4 t))
def batchPost (R : Fin k2_t9_loop.trips → Vec F S8x2048 .f32) (t : Fin k2_t9_loop.trips) : sProp 𝕄 :=
  iprop(holds d i (rowsIn i arg2 t) (R t) ∗ holds d i (rowsIdx i arg3 t) (batchIdx (R t)) ∗ holds d i (rowsMask i arg4 t) (batchMask (R t)))

/-- The batches when the first `k` have run. -/
def batches (R : Fin k2_t9_loop.trips → Vec F S8x2048 .f32) (k : ℕ) : sProp 𝕄 :=
  bigSep Finset.univ fun t : Fin k2_t9_loop.trips => if t.val < k then batchPost d i arg2 arg3 arg4 R t else batchPre d i arg2 arg3 arg4 R t

theorem batches_zero (R : Fin k2_t9_loop.trips → Vec F S8x2048 .f32) : batches d i arg2 arg3 arg4 R 0 = bigSep Finset.univ (batchPre d i arg2 arg3 arg4 R) :=
  bigSep_congr fun t _ => if_neg (by omega)
theorem batches_all (R : Fin k2_t9_loop.trips → Vec F S8x2048 .f32) :
    batches d i arg2 arg3 arg4 R k2_t9_loop.trips = bigSep Finset.univ (batchPost d i arg2 arg3 arg4 R) :=
  bigSep_congr fun t _ => if_pos t.isLt

/-- The batches without batch `t`. -/
def others (R : Fin k2_t9_loop.trips → Vec F S8x2048 .f32) (t : Fin k2_t9_loop.trips) : sProp 𝕄 :=
  bigSep (Finset.univ.erase t) fun j : Fin k2_t9_loop.trips => if j.val < t.val then batchPost d i arg2 arg3 arg4 R j else batchPre d i arg2 arg3 arg4 R j

theorem batches_at (R : Fin k2_t9_loop.trips → Vec F S8x2048 .f32) (t : Fin k2_t9_loop.trips) :
    batches d i arg2 arg3 arg4 R t.val = iprop(batchPre d i arg2 arg3 arg4 R t ∗ others d i arg2 arg3 arg4 R t) := by
  unfold batches
  rw [SparseCore.bigSep_erase' (Finset.mem_univ t), if_neg (by omega)]
  rfl
theorem batches_next (R : Fin k2_t9_loop.trips → Vec F S8x2048 .f32) (t : Fin k2_t9_loop.trips) :
    batches d i arg2 arg3 arg4 R (t.val + 1) = iprop(batchPost d i arg2 arg3 arg4 R t ∗ others d i arg2 arg3 arg4 R t) := by
  unfold batches others
  rw [SparseCore.bigSep_erase' (Finset.mem_univ t), if_pos (by omega)]
  congr 1
  refine bigSep_congr fun j hj => if_congr ?_ rfl rfl
  have : j.val ≠ t.val := fun e => Finset.ne_of_mem_erase hj (Fin.ext e)
  omega

theorem tile_step (R : Fin k2_t9_loop.trips → Vec F S8x2048 .f32) (t : Fin k2_t9_loop.trips) (u : Unit) (O : CellTallies nD τ sig (HIx 1)) (W : Waits sig (HIx 1)) :
    iprop(Transfers.MayWaits (thr d i) (none : HIx 1) O ∗ between d i arg5 arg6 arg7 arg8 arg9 arg10 arg11 r0 r1 r2 ∗ owing d i O W ∗ batches d i arg2 arg3 arg4 R t.val)
      ⊢ wp frame (wpE (defs₀ (F := F)) 𝒱₀ (thr d i) none) Set.univ
          (k2_t9_body i arg2 harg2 arg3 harg3 arg4 harg4 arg5 harg5 arg6 harg6 arg7 harg7 arg8 harg8 arg9 harg9 arg10 harg10 arg11 harg11 r0 r1 r2
            lanes (k2_pay382 (F := F)) (k2_pay383 (F := F)) t u) fun _ =>
        iprop(Transfers.MayWaits (thr d i) (none : HIx 1) O ∗ between d i arg5 arg6 arg7 arg8 arg9 arg10 arg11 r0 r1 r2 ∗ owing d i O W
          ∗ batches d i arg2 arg3 arg4 R (t.val + 1)) := by
  rw [batches_at, batches_next]
  unfold batchPre batchPost
  iintro ⟨#Hmw, Hb, HO, ⟨H2, H3, H4⟩, Hr⟩
  iapply wp_wand $$ [Hb HO H2 H3 H4]
  · iapply (batch_run d i arg2 harg2 arg3 harg3 arg4 harg4 arg5 harg5 arg6 harg6 arg7 harg7 arg8 harg8 arg9 harg9 arg10 harg10 arg11 harg11 r0 r1 r2 (R t) t u O W)
    isplitl []; · iexact Hmw
    isplitl [Hb]; · iexact Hb
    isplitl [HO]; · iexact HO
    isplitl [H2]; · iexact H2
    isplitl [H3]; · iexact H3
    iexact H4
  iintro %_ ⟨Hb, HO, H2, H3, H4⟩
  isplitl []; · iexact Hmw
  isplitl [Hb]; · iexact Hb
  isplitl [HO]; · iexact HO
  isplitl [H2 H3 H4]
  · isplitl [H2]; · iexact H2
    isplitl [H3]; · iexact H3
    iexact H4
  iexact Hr

theorem tile_run (R : Fin k2_t9_loop.trips → Vec F S8x2048 .f32) (O : CellTallies nD τ sig (HIx 1)) (W : Waits sig (HIx 1)) :
    iprop(Transfers.MayWaits (thr d i) (none : HIx 1) O ∗ atStart d i arg5 arg6 arg7 arg8 arg9 arg10 arg11 r0 r1 r2 ∗ owing d i O W
        ∗ bigSep Finset.univ (batchPre d i arg2 arg3 arg4 R))
      ⊢ wp frame (wpE (defs₀ (F := F)) 𝒱₀ (thr d i) none) Set.univ
          (cc2__sc_topk_body i arg2 harg2 arg3 harg3 arg4 harg4 arg5 harg5 arg6 harg6 arg7 harg7 arg8 harg8 arg9 harg9 arg10 harg10 arg11 harg11 r0 r1 r2) fun _ =>
        iprop(between d i arg5 arg6 arg7 arg8 arg9 arg10 arg11 r0 r1 r2 ∗ owing d i O W ∗ bigSep Finset.univ (batchPost d i arg2 arg3 arg4 R)) := by
  rw [cc2__sc_topk_body_eq_skeleton]
  unfold cc2__sc_topk_body_skel
  rw [k2_part18_eq_skeleton]
  unfold k2_part18_skel
  simp only [bind_assoc, pure_bind]
  rw [← batches_zero, ← batches_all]
  unfold atStart
  iintro ⟨#Hmw, ⟨H5, H6, ⟨%f7, H7⟩, H8, H9, H10, H11, Hs0, Hs1, Hs2⟩, HO, HB⟩
  sl_for (fun k (_ : Unit) => holds d i arg7 (cleared (arg7.view.read (Elt F) f7) 0 k)) $$ [H7]
  case region =>
    intro k u
    exact clear_run d i arg7 _ (k2_off1 k) (k2_off1_inb k) 0 k (k2_off1_eq k) _ _ _
  · iapply (holds_intro d i arg7 (cleared_zero _).symm) $$ H7
  rw [show Scf.trips k2_t1_loop.lb k2_t1_loop.ub k2_t1_loop.st = 128 from rfl, cleared_row]
  iintro %_ H7
  sl_for (fun k (_ : Unit) => holds d i arg7 (cleared (arg7.view.read (Elt F) f7) 1 k)) $$ [H7]
  case region =>
    intro k u
    exact clear_run d i arg7 _ (k2_off2 k) (k2_off2_inb k) 1 k (k2_off2_eq k) _ _ _
  · iexact H7
  rw [show Scf.trips k2_t2_loop.lb k2_t2_loop.ub k2_t2_loop.st = 128 from rfl, cleared_row]
  iintro %_ H7
  sl_for (fun k (_ : Unit) => holds d i arg7 (cleared (arg7.view.read (Elt F) f7) 2 k)) $$ [H7]
  case region =>
    intro k u
    exact clear_run d i arg7 _ (k2_off3 k) (k2_off3_inb k) 2 k (k2_off3_eq k) _ _ _
  · iexact H7
  rw [show Scf.trips k2_t3_loop.lb k2_t3_loop.ub k2_t3_loop.st = 128 from rfl, cleared_row]
  iintro %_ H7
  sl_for (fun k (_ : Unit) => holds d i arg7 (cleared (arg7.view.read (Elt F) f7) 3 k)) $$ [H7]
  case region =>
    intro k u
    exact clear_run d i arg7 _ (k2_off4 k) (k2_off4_inb k) 3 k (k2_off4_eq k) _ _ _
  · iexact H7
  rw [show Scf.trips k2_t4_loop.lb k2_t4_loop.ub k2_t4_loop.st = 128 from rfl, cleared_row]
  iintro %_ H7
  sl_for (fun k (_ : Unit) => holds d i arg7 (cleared (arg7.view.read (Elt F) f7) 4 k)) $$ [H7]
  case region =>
    intro k u
    exact clear_run d i arg7 _ (k2_off5 k) (k2_off5_inb k) 4 k (k2_off5_eq k) _ _ _
  · iexact H7
  rw [show Scf.trips k2_t5_loop.lb k2_t5_loop.ub k2_t5_loop.st = 128 from rfl, cleared_row]
  iintro %_ H7
  sl_for (fun k (_ : Unit) => holds d i arg7 (cleared (arg7.view.read (Elt F) f7) 5 k)) $$ [H7]
  case region =>
    intro k u
    exact clear_run d i arg7 _ (k2_off6 k) (k2_off6_inb k) 5 k (k2_off6_eq k) _ _ _
  · iexact H7
  rw [show Scf.trips k2_t6_loop.lb k2_t6_loop.ub k2_t6_loop.st = 128 from rfl, cleared_row]
  iintro %_ H7
  sl_for (fun k (_ : Unit) => holds d i arg7 (cleared (arg7.view.read (Elt F) f7) 6 k)) $$ [H7]
  case region =>
    intro k u
    exact clear_run d i arg7 _ (k2_off7 k) (k2_off7_inb k) 6 k (k2_off7_eq k) _ _ _
  · iexact H7
  rw [show Scf.trips k2_t7_loop.lb k2_t7_loop.ub k2_t7_loop.st = 128 from rfl, cleared_row]
  iintro %_ H7
  sl_for (fun k (_ : Unit) => holds d i arg7 (cleared (arg7.view.read (Elt F) f7) 7 k)) $$ [H7]
  case region =>
    intro k u
    exact clear_run d i arg7 _ (k2_off8 k) (k2_off8_inb k) 7 k (k2_off8_eq k) _ _ _
  · iexact H7
  rw [show Scf.trips k2_t8_loop.lb k2_t8_loop.ub k2_t8_loop.st = 128 from rfl, cleared_row]
  iintro %_ H7
  rw [show cleared (arg7.view.read (Elt F) f7) (7 + 1) 0 = fun _ => offVal from cleared_all _]
  unfold tile_run.sl.prog.cont_8
  sl_for (fun k (_ : Unit) => iprop(Transfers.MayWaits (thr d i) (none : HIx 1) O ∗ between d i arg5 arg6 arg7 arg8 arg9 arg10 arg11 r0 r1 r2 ∗ owing d i O W
    ∗ batches d i arg2 arg3 arg4 R k)) $$ [H5 H6 H7 H8 H9 H10 H11 Hs0 Hs1 Hs2 HO HB]
  case region =>
    intro k u
    exact tile_step d i arg2 harg2 arg3 harg3 arg4 harg4 arg5 harg5 arg6 harg6 arg7 harg7 arg8 harg8 arg9 harg9 arg10 harg10 arg11 harg11 r0 r1 r2 R k u O W
  · unfold between
    isplitl []; · iexact Hmw
    isplitl [H5 H6 H7 H8 H9 H10 H11 Hs0 Hs1 Hs2]
    · isplitl [H5]; · iexact H5
      isplitl [H6]; · iexact H6
      isplitl [H7]; · iexact H7
      isplitl [H8]; · iexact H8
      isplitl [H9]; · iexact H9
      isplitl [H10]; · iexact H10
      isplitl [H11]; · iexact H11
      isplitl [Hs0]; · iexact Hs0
      isplitl [Hs1]; · iexact Hs1
      iexact Hs2
    isplitl [HO]; · iexact HO
    iexact HB
  iintro %_ ⟨-, Hb, HO, HB⟩
  sl_step
  isplitl [Hb]; · iexact Hb
  isplitl [HO]; · iexact HO
  iexact HB

end Cert.Proof.Topk

end
-- ==== Proof.Pieces.lean ====
/-
  A tile's own memory and its rows of the arrays in HBM, and the kernel's body run from them.
-/
module

public import proofs.«01_k».proof.Proof.Tile

@[expose] public section

set_option maxRecDepth 65536
set_option maxHeartbeats 400000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the call computes -/

/-- Row `r` of the scores. -/
def scoreRow (X : Vec F S2048x2048 .f32) (r : Fin 2048) : Fin 2048 → F .f32 := fun s => X (ix2 r s)

/-- Every row's positions, and every row's mask. -/
def topIdx (X : Vec F S2048x2048 .f32) : Vec F S2048x64 .i32 := fun y => idxRow (scoreRow X (y 0)) (y 1)
def topMask (X : Vec F S2048x2048 .f32) : Vec F S2048x2048 .f32 := fun y => maskRow (scoreRow X (y 0)) (y 1)

/-! ## The arrays and a tile's rows of them -/

variable (m : (ℓ : Loc nD τ sig) → Buf (Elt F) ℓ)

/-- The scores, the positions and the mask, as locations of device `d`. -/
abbrev xLoc (d : Dev nD) : Loc nD τ sig := (SparseCore.T d).loc main_v27
abbrev iLoc (d : Dev nD) : Loc nD τ sig := (SparseCore.T d).loc main_v28_0
abbrev kLoc (d : Dev nD) : Loc nD τ sig := (SparseCore.T d).loc main_v28_1

abbrev xV : Memref sig .scVector .hbm S2048x2048 .f32 := Memref.whole main_v27_scv
abbrev iV : Memref sig .scVector .hbm S2048x64 .i32 := Memref.whole main_v28_0_scv
abbrev kV : Memref sig .scVector .hbm S2048x2048 .f32 := Memref.whole main_v28_1_scv

theorem hdivX : 256 ∣ S2048x2048.size 0 := ⟨8, rfl⟩
theorem hdivI : 256 ∣ S2048x64.size 0 := ⟨8, rfl⟩
/-- The `q`-th eight rows of a square array, of the positions. -/
abbrev rectX (q : Fin 256) : Rect S2048x2048 := Rect.part (s := S2048x2048) (a₀ := 0) hdivX q
abbrev rectI (q : Fin 256) : Rect S2048x64 := Rect.part (s := S2048x64) (a₀ := 0) hdivI q

/-- The number of batch `t` of tile `s` of core `c` among all. -/
def cell (c : Fin 2) (s : Fin 16) (t : Fin 8) : Fin 256 := ⟨16 * s.val + 8 * c.val + t.val, by omega⟩

variable (d : Dev nD) (L : grid2.Coords)

theorem L0_lt : (L 0).val < 2 := (L 0).isLt
theorem L1_lt : (L 1).val < 16 := (L 1).isLt

abbrev cellOf (t : Fin k2_t9_loop.trips) : Fin 256 := cell (L 0) (L 1) t
theorem cellOf_val (t : Fin k2_t9_loop.trips) : (cellOf L t).val = 16 * (L 1).val + 8 * (L 0).val + t.val := rfl

theorem rectX_eq (t : Fin k2_t9_loop.trips) : Rect.unit (s := S2048x2048) (k2_off9 L t) S8x2048.size (k2_off9_inb L t) = rectX (cellOf L t) := by
  unfold rectX Rect.part Rect.block
  congr 1 <;> funext a
  · rw [k2_off9_eq]
    match a with
    | 0 => simp [Shape.partIx, Shape.partSize, cellOf_val]; omega
    | 1 => simp [Shape.partIx, Shape.partSize]
  · match a with
    | 0 => simp [Shape.partSize]
    | 1 => simp [Shape.partSize]
theorem rectI_eq (t : Fin k2_t9_loop.trips) : Rect.unit (s := S2048x64) (k2_off22 L t) S8x64.size (k2_off22_inb L t) = rectI (cellOf L t) := by
  unfold rectI Rect.part Rect.block
  congr 1 <;> funext a
  · rw [k2_off22_eq]
    match a with
    | 0 => simp [Shape.partIx, Shape.partSize, cellOf_val]; omega
    | 1 => simp [Shape.partIx, Shape.partSize]
  · match a with
    | 0 => simp [Shape.partSize]
    | 1 => simp [Shape.partSize]

theorem set_in (t : Fin k2_t9_loop.trips) : (rowsIn L xV t).view.set = (rectX (cellOf L t)).set := by
  show ((View.whole (main_v27_scv : Ref sig .scVector)).slice _).set = _
  rw [View.set_slice, ← rectX_eq]; exact Finset.map_refl
theorem set_idx (t : Fin k2_t9_loop.trips) : (rowsIdx L iV t).view.set = (rectI (cellOf L t)).set := by
  show ((View.whole (main_v28_0_scv : Ref sig .scVector)).slice _).set = _
  rw [View.set_slice, ← rectI_eq]; exact Finset.map_refl
theorem set_mask (t : Fin k2_t9_loop.trips) : (rowsMask L kV t).view.set = (rectX (cellOf L t)).set := by
  show ((View.whole (main_v28_1_scv : Ref sig .scVector)).slice _).set = _
  rw [View.set_slice, ← rectX_eq]; exact Finset.map_refl

/-- The three arrays' rows of one batch: as the call hands them out, and as it takes them back. -/
def goCell (q : Fin 256) : sProp 𝕄 :=
  iprop((xLoc d ↦[(rectX q).set]{fullShare} m (xLoc d)) ∗ (iLoc d ↦[(rectI q).set]{fullShare} m (iLoc d)) ∗ (kLoc d ↦[(rectX q).set]{fullShare} m (kLoc d)))
def tdCell (q : Fin 256) : sProp 𝕄 :=
  iprop((xLoc d ↦[(rectX q).set]{fullShare} m (xLoc d)) ∗ (iLoc d ↦[(rectI q).set]{fullShare} topIdx (F := F) (m (xLoc d)))
    ∗ (kLoc d ↦[(rectX q).set]{fullShare} topMask (F := F) (m (xLoc d))))

/-- The rows batch `t` reads. -/
def scoresOf (t : Fin k2_t9_loop.trips) : Vec F S8x2048 .f32 := (rowsIn L xV t).view.read (Elt F) (m (xLoc d))

theorem pts_in (t : Fin k2_t9_loop.trips) (f : Vec F S2048x2048 .f32) :
    pts d L (rowsIn L xV t) f = (xLoc d ↦[(rectX (cellOf L t)).set]{fullShare} f : sProp 𝕄) := by rw [← set_in]
theorem pts_idx (t : Fin k2_t9_loop.trips) (f : Vec F S2048x64 .i32) :
    pts d L (rowsIdx L iV t) f = (iLoc d ↦[(rectI (cellOf L t)).set]{fullShare} f : sProp 𝕄) := by rw [← set_idx]
theorem pts_mask (t : Fin k2_t9_loop.trips) (f : Vec F S2048x2048 .f32) :
    pts d L (rowsMask L kV t) f = (kLoc d ↦[(rectX (cellOf L t)).set]{fullShare} f : sProp 𝕄) := by rw [← set_mask]

theorem goCell_pre (t : Fin k2_t9_loop.trips) : goCell m d (cellOf L t) ⊢ batchPre d L xV iV kV (scoresOf m d L) t := by
  unfold goCell batchPre
  rw [← pts_in, ← pts_idx, ← pts_mask]
  iintro ⟨H2, H3, H4⟩
  isplitl [H2]; · iapply (holds_intro d L (rowsIn L xV t) (f := m (xLoc d)) rfl) $$ H2
  isplitl [H3]; · iexists (m (iLoc d)); iexact H3
  iexists (m (kLoc d)); iexact H4

/-- Row `r` of a batch is the array's row there. -/
theorem row_in (t : Fin k2_t9_loop.trips) (r : Fin 8) (R : Fin 2048) (h : R.val = 128 * (L 1).val + 64 * (L 0).val + 8 * t.val + r.val) :
    rowOf (scoresOf m d L t) r.val = scoreRow (F := F) (m (xLoc d)) R := by
  funext s
  refine congrArg (m (xLoc d)) (funext fun a => Fin.ext ?_)
  have e : k2_off9 L t = ![128 * (L 1).val + 64 * (L 0).val + 8 * t.val, 0] := k2_off9_eq L t
  match a with
  | 0 =>
    show k2_off9 L t 0 + 1 * (r.val % 8) = R.val
    rw [e, h, Nat.mod_eq_of_lt r.isLt]; simp
  | 1 =>
    show k2_off9 L t 1 + 1 * s.val = s.val
    rw [e]; simp

theorem batchPost_td (t : Fin k2_t9_loop.trips) : batchPost d L xV iV kV (scoresOf m d L) t ⊢ tdCell m d (cellOf L t) := by
  unfold tdCell batchPost
  rw [← pts_in, ← pts_idx, ← pts_mask]
  iintro ⟨⟨%f2, %h2, H2⟩, ⟨%f3, %h3, H3⟩, ⟨%f4, %h4, H4⟩⟩
  have e2 : ∀ y ∈ (rowsIn L xV t).view.set, f2 y = m (xLoc d) y := by
    intro y hy
    obtain ⟨x, -, rfl⟩ := Finset.mem_map.mp hy
    exact congrFun h2 x
  have e3 : ∀ y ∈ (rowsIdx L iV t).view.set, f3 y = topIdx (F := F) (m (xLoc d)) y := by
    intro y hy
    obtain ⟨x, -, rfl⟩ := Finset.mem_map.mp hy
    refine (congrFun h3 x).trans ?_
    have e : k2_off22 L t = ![128 * (L 1).val + 64 * (L 0).val + 8 * t.val, 0] := k2_off22_eq L t
    show idxRow (rowOf (scoresOf m d L t) (x 0).val) (x 1) = idxRow (scoreRow (F := F) (m (xLoc d)) _) _
    congr 1
    · refine row_in m d L t (x 0) _ ?_
      show k2_off22 L t 0 + 1 * (x 0).val = _
      rw [e]; simp
    · refine Fin.ext ?_
      show (x 1).val = k2_off22 L t 1 + 1 * (x 1).val
      rw [e]; simp
  have e4 : ∀ y ∈ (rowsMask L kV t).view.set, f4 y = topMask (F := F) (m (xLoc d)) y := by
    intro y hy
    obtain ⟨x, -, rfl⟩ := Finset.mem_map.mp hy
    refine (congrFun h4 x).trans ?_
    have e : k2_off9 L t = ![128 * (L 1).val + 64 * (L 0).val + 8 * t.val, 0] := k2_off9_eq L t
    show maskRow (rowOf (scoresOf m d L t) (x 0).val) (x 1) = maskRow (scoreRow (F := F) (m (xLoc d)) _) _
    congr 1
    · refine row_in m d L t (x 0) _ ?_
      show k2_off9 L t 0 + 1 * (x 0).val = _
      rw [e]; simp
    · refine Fin.ext ?_
      show (x 1).val = k2_off9 L t 1 + 1 * (x 1).val
      rw [e]; simp
  isplitl [H2]; · iapply (Entails.of_eq (pointsTo_congr e2)) $$ H2
  isplitl [H3]; · iapply (Entails.of_eq (pointsTo_congr e3)) $$ H3
  iapply (Entails.of_eq (pointsTo_congr e4)) $$ H4

/-! ## The tile's own memory -/

def scratch : Finset (Ref sig .scVector) := {cc2_scratch0, cc2_scratch1, cc2_scratch2, cc2_scratch3, cc2_scratch4, cc2_scratch5, cc2_scratch6}
def dmaSems : Finset (SemLoc sig) := {.dma cc2_scoped0.sem, .dma cc2_scoped1.sem, .dma cc2_scoped2.sem}

def scratchRefs : Finset (DevRef τ sig) := scratch.map ⟨(thr d L).2.devRef, Proc.devRef_injective _⟩
def scopedCells : Finset (GSem nD τ sig) := dmaSems.map ⟨fun sm => (thr d L, sm), fun _ _ e => (Prod.mk.inj e).2⟩

theorem scratch_own : scratchRefs d L ⊆ ownRefs (thr d L).2 := by
  intro b hb
  obtain ⟨r, hr, rfl⟩ := Finset.mem_map.mp hb
  refine SparseCore.Cfg.mem_ownRefs_of_owner ?_
  simp only [scratch, Finset.mem_insert, Finset.mem_singleton] at hr
  rcases hr with rfl | rfl | rfl | rfl | rfl | rfl | rfl <;> rfl
theorem scoped_own : scopedCells d L ⊆ ownCells (thr d L) := by
  intro g hg
  obtain ⟨sm, hs, rfl⟩ := Finset.mem_map.mp hg
  refine mem_ownCells.mpr ⟨rfl, ?_⟩
  show sm.isScoped .scVector = true
  simp only [dmaSems, Finset.mem_insert, Finset.mem_singleton] at hs
  rcases hs with rfl | rfl | rfl <;> decide

/-- The tile's other buffers and semaphores. -/
def otherMem : sProp 𝕄 :=
  iprop((bigSep (ownRefs (thr d L).2 \ scratchRefs d L) fun b => iprop(∃ f, ((d, b) : Loc nD τ sig) ↦{fullShare} f))
    ∗ bigSep (ownCells (thr d L) \ scopedCells d L) fun g => semVal g 0)

theorem ownBufs_V :
    (ownBufs (thr d L) : sProp 𝕄)
      = iprop((bigSep scratch fun r => iprop(∃ f, (thr d L).loc r ↦{fullShare} f))
        ∗ bigSep (ownRefs (thr d L).2 \ scratchRefs d L) fun b => iprop(∃ f, ((d, b) : Loc nD τ sig) ↦{fullShare} f)) := by
  unfold SparseCore.Cfg.ownBufs
  rw [SparseCore.bigSep_sdiff_split' (scratch_own d L), scratchRefs, bigSep_map]
  rfl
theorem ownSems0_V :
    (ownSems0 (thr d L) : sProp 𝕄) = iprop((bigSep dmaSems fun sm => semVal (thr d L, sm) 0) ∗ bigSep (ownCells (thr d L) \ scopedCells d L) fun g => semVal g 0) := by
  unfold SparseCore.Cfg.ownSems0
  rw [SparseCore.bigSep_sdiff_split' (scoped_own d L), scopedCells, bigSep_map]
  rfl

abbrev start : sProp 𝕄 := atStart (F := F) d L (Memref.whole cc2_scratch0) (Memref.whole cc2_scratch1) (Memref.whole cc2_scratch2) (Memref.whole cc2_scratch3)
  (Memref.whole cc2_scratch4) (Memref.whole cc2_scratch5) (Memref.whole cc2_scratch6) cc2_scoped0 cc2_scoped1 cc2_scoped2

theorem some_whole (r : Ref sig .scVector) : some_ (F := F) d L (Memref.whole r) = iprop(∃ f, (thr d L).loc r ↦{fullShare} f) := by
  show iprop(∃ f, (Memref.whole r).view.loc (thr d L) ↦[(Memref.whole r).view.set]{fullShare} f) = _
  rw [Memref.view_whole, View.set_whole]

theorem sep_regroup (A B C : sProp 𝕄) : iprop((A ∗ B) ∗ C) = iprop(A ∗ B ∗ C) := BI.equiv_iff.mp ⟨BI.sep_assoc, BI.sep_assoc'⟩

theorem start_eq : start (F := F) d L = iprop((bigSep scratch fun r => iprop(∃ f, (thr d L).loc r ↦{fullShare} f)) ∗ (bigSep dmaSems fun sm => semVal (thr d L, sm) 0)) := by
  unfold start atStart scratch dmaSems
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton,
    SparseCore.bigSep_insert' (by decide), SparseCore.bigSep_insert' (by decide), bigSep_singleton]
  simp only [sep_regroup, ← some_whole]

/-- What the body starts from and ends with, given its memory. -/
theorem own_start : iprop(ownBufs (thr d L) ∗ ownSems0 (thr d L)) ⊢ (iprop(start (F := F) d L ∗ otherMem d L) : sProp 𝕄) := by
  rw [start_eq, ownBufs_V, ownSems0_V]
  unfold otherMem
  iintro ⟨⟨HA, HB⟩, HC, HD⟩
  isplitl [HA HC]
  · isplitl [HA] <;> iassumption
  · isplitl [HB] <;> iassumption
theorem start_own : iprop(start (F := F) d L ∗ otherMem d L) ⊢ (iprop(ownBufs (thr d L) ∗ ownSems0 (thr d L)) : sProp 𝕄) := by
  rw [start_eq, ownBufs_V, ownSems0_V]
  unfold otherMem
  iintro ⟨⟨HA, HC⟩, HB, HD⟩
  isplitl [HA HB]
  · isplitl [HA] <;> iassumption
  · isplitl [HC] <;> iassumption

theorem between_start : between (F := F) d L (Memref.whole cc2_scratch0) (Memref.whole cc2_scratch1) (Memref.whole cc2_scratch2) (Memref.whole cc2_scratch3)
    (Memref.whole cc2_scratch4) (Memref.whole cc2_scratch5) (Memref.whole cc2_scratch6) cc2_scoped0 cc2_scoped1 cc2_scoped2 ⊢ start (F := F) d L := by
  unfold start between atStart
  iintro ⟨H5, H6, ⟨%f, -, H7⟩, H⟩
  isplitl [H5]; · iexact H5
  isplitl [H6]; · iexact H6
  isplitl [H7]; · iexists f; iexact H7
  iexact H

/-- A tile's rows of the arrays before its batches and after. -/
def goTile : sProp 𝕄 := bigSep Finset.univ fun t : Fin k2_t9_loop.trips => goCell m d (cellOf L t)
def tdTile : sProp 𝕄 := bigSep Finset.univ fun t : Fin k2_t9_loop.trips => tdCell m d (cellOf L t)

theorem goTile_pre : goTile m d L ⊢ bigSep Finset.univ (batchPre d L xV iV kV (scoresOf m d L)) := bigSep_mono fun t _ => goCell_pre m d L t
theorem post_tdTile : bigSep Finset.univ (batchPost d L xV iV kV (scoresOf m d L)) ⊢ tdTile m d L := bigSep_mono fun t _ => batchPost_td m d L t

/-- The kernel's body on one tile. -/
theorem tile_body (O : CellTallies nD τ sig (HIx 1)) (W : Waits sig (HIx 1)) (hO : ∀ g, O g none = 0) :
    iprop(levAts (K (F := F)).L (K (F := F)).lev ∗ emp ∗ goTile m d L ∗ scopedBufs (thr d L) ∗ scopedSems0 (thr d L) ∗ owes (thr d L) O W)
      ⊢ wp frame (wpE (defs₀ (F := F)) 𝒱₀ (thr d L) none) Set.univ
          (cc2__sc_topk_body L xV (Memref.isWhole_whole _) iV (Memref.isWhole_whole _) kV (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) cc2_scoped0 cc2_scoped1 cc2_scoped2)
          fun _ => iprop(tdTile m d L ∗ scopedBufs (thr d L) ∗ scopedSems0 (thr d L) ∗ ∃ W', ⌜∀ p ∈ W', p ∈ W ∨ p.2 = none⌝ ∗ owes (thr d L) O W') := by
  rw [(K (F := F)).scopedBufs_V facts d ((L 0).castLE hcore2) ((L 1).castLE hsub2),
    SparseCore.Cfg.scopedSems0_V (Val := Elt F) d ((L 0).castLE hcore2) ((L 1).castLE hsub2)]
  iintro ⟨#Hlv, -, Hgo, Hb, Hs, HO⟩
  ihave Hmw := ((K (F := F)).mayWaits_none (thr := thr d L) hO) $$ Hlv
  ihave H := (own_start d L) $$ [Hb Hs]
  · isplitl [Hb] <;> iassumption
  icases H with ⟨Hst, Hot⟩
  ihave Hgo' := (goTile_pre m d L) $$ Hgo
  iapply wp_wand $$ [Hmw Hst HO Hgo']
  · iapply (tile_run d L xV (Memref.isWhole_whole _) iV (Memref.isWhole_whole _) kV (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) cc2_scoped0 cc2_scoped1 cc2_scoped2 (scoresOf m d L) O W)
    isplitl [Hmw]; · iexact Hmw
    isplitl [Hst]; · iexact Hst
    isplitl [HO]
    · unfold owing
      iexists W; isplitr
      · ipureintro; exact fun p hp => .inl hp
      · iexact HO
    iexact Hgo'
  iintro %_ ⟨Hst, HO, Htd⟩
  ihave Htd' := (post_tdTile m d L) $$ Htd
  ihave Hst' := (between_start d L) $$ Hst
  ihave H := (start_own d L) $$ [Hst' Hot]
  · isplitl [Hst'] <;> iassumption
  icases H with ⟨Hb, Hs⟩
  isplitl [Htd']; · iexact Htd'
  isplitl [Hb]; · iexact Hb
  isplitl [Hs]; · iexact Hs
  unfold owing
  iexact HO

end Cert.Proof.Topk

end
-- ==== Proof.Launch.lean ====
/-
  The SparseCore call launched on every tile: what it is handed and what it brings back, as the host sees it.
-/
module

public import proofs.«01_k».proof.Proof.Pieces

@[expose] public section

set_option maxRecDepth 65536
set_option maxHeartbeats 400000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays cut into batches -/

theorem rectX_disjoint : ∀ q ∈ (Finset.univ : Finset (Fin 256)), ∀ q' ∈ (Finset.univ : Finset (Fin 256)), q ≠ q' → Disjoint (rectX q).set (rectX q').set :=
  fun _ _ _ _ h => Rect.part_disjoint hdivX h
theorem rectI_disjoint : ∀ q ∈ (Finset.univ : Finset (Fin 256)), ∀ q' ∈ (Finset.univ : Finset (Fin 256)), q ≠ q' → Disjoint (rectI q).set (rectI q').set :=
  fun _ _ _ _ h => Rect.part_disjoint hdivI h

theorem xPts_cells (d : Dev nD) (f : Buf (Elt F) (xLoc d)) :
    (xLoc d ↦{fullShare} f : sProp 𝕄) = bigSep Finset.univ fun q : Fin 256 => xLoc d ↦[(rectX q).set]{fullShare} f := by
  rw [← pointsTo_biUnion Finset.univ (ℓ := xLoc d) (fun q => (rectX q).set) rectX_disjoint, Rect.biUnion_part hdivX]; try rfl
theorem iPts_cells (d : Dev nD) (f : Buf (Elt F) (iLoc d)) :
    (iLoc d ↦{fullShare} f : sProp 𝕄) = bigSep Finset.univ fun q : Fin 256 => iLoc d ↦[(rectI q).set]{fullShare} f := by
  rw [← pointsTo_biUnion Finset.univ (ℓ := iLoc d) (fun q => (rectI q).set) rectI_disjoint, Rect.biUnion_part hdivI]; try rfl
theorem kPts_cells (d : Dev nD) (f : Buf (Elt F) (kLoc d)) :
    (kLoc d ↦{fullShare} f : sProp 𝕄) = bigSep Finset.univ fun q : Fin 256 => kLoc d ↦[(rectX q).set]{fullShare} f := by
  rw [← pointsTo_biUnion Finset.univ (ℓ := kLoc d) (fun q => (rectX q).set) rectX_disjoint, Rect.biUnion_part hdivX]; try rfl

/-- Cores, tiles and batches number the 256 groups of eight rows. -/
def cells : Fin 2 × Fin 16 × Fin 8 ≃ Fin 256 where
  toFun x := cell x.1 x.2.1 x.2.2
  invFun q := (⟨q.val / 8 % 2, by omega⟩, ⟨q.val / 16, by omega⟩, ⟨q.val % 8, by omega⟩)
  left_inv x := by
    obtain ⟨c, s, t⟩ := x
    simp only [cell, Prod.mk.injEq, Fin.ext_iff]
    omega
  right_inv q := by
    simp only [cell, Fin.ext_iff]
    omega

theorem bigSep_cells (Φ : Fin 256 → sProp 𝕄) :
    bigSep Finset.univ Φ = bigSep Finset.univ fun c : Fin 2 => bigSep Finset.univ fun s : Fin 16 => bigSep Finset.univ fun t : Fin 8 => Φ (cell c s t) := by
  rw [bigSep_univ_equiv cells Φ, bigSep_univ_prod]
  refine bigSep_congr fun c _ => ?_
  rw [bigSep_univ_prod]
  rfl

/-! ## What the call hands out and takes back -/

def coordsV (c : Fin (grid2.bound 0)) (s : Fin (grid2.bound 1)) : grid2.Coords :=
  fun | 0 => c | 1 => s | ⟨_ + 2, h⟩ => absurd h (Nat.not_lt.2 (Nat.le_add_left _ _))

instance goTile_storable (d : Dev nD) (L : grid2.Coords) : BI.Storable (upEmb : UEmb _ 𝕄) (goTile m d L) := by
  unfold goTile goCell; infer_instance
instance tdTile_storable (d : Dev nD) (L : grid2.Coords) : BI.Storable (upEmb : UEmb _ 𝕄) (tdTile m d L) := by
  unfold tdTile tdCell; infer_instance

/-- A core's share, before and after. -/
def goCore (d : Dev nD) (c : Fin 2) : sProp 𝕄 := bigSep Finset.univ fun s : Fin 16 => goTile m d (coordsV c s)
def tdCore (d : Dev nD) (c : Fin 2) : sProp 𝕄 := bigSep Finset.univ fun s : Fin 16 => tdTile m d (coordsV c s)
instance goCore_storable (d : Dev nD) (c : Fin 2) : BI.Storable (upEmb : UEmb _ 𝕄) (goCore m d c) := by
  unfold goCore
  have : ∀ s : Fin 16, BI.Storable (upEmb : UEmb _ 𝕄) (goTile m d (coordsV c s)) := fun s => goTile_storable m d (coordsV c s)
  exact BI.Storable.bigSep (ι := (upEmb : UEmb _ 𝕄)) Finset.univ (fun s : Fin 16 => goTile m d (coordsV c s))
instance tdCore_storable (d : Dev nD) (c : Fin 2) : BI.Storable (upEmb : UEmb _ 𝕄) (tdCore m d c) := by
  unfold tdCore
  have : ∀ s : Fin 16, BI.Storable (upEmb : UEmb _ 𝕄) (tdTile m d (coordsV c s)) := fun s => tdTile_storable m d (coordsV c s)
  exact BI.Storable.bigSep (ι := (upEmb : UEmb _ 𝕄)) Finset.univ (fun s : Fin 16 => tdTile m d (coordsV c s))

def P : (K (F := F)).Pay (nD := nD) (Val := Elt F) (Name := ℕ) (U := UU) where
  st := fun q d c => match q with | 0 => goCore m d c
  dn := fun q d c => match q with | 0 => tdCore m d c
  go := fun q d c s => match q with | 0 => goTile m d (coordsV c s)
  td := fun q d c s => match q with | 0 => tdTile m d (coordsV c s)
  x := fun _ _ => iprop(emp)

instance P_storable : (P (F := F) m).IsStorable where
  st q d c := match q with
    | 0 => (inferInstance : BI.Storable (upEmb : UEmb _ 𝕄) (goCore m d c))
  dn q d c := match q with
    | 0 => (inferInstance : BI.Storable (upEmb : UEmb _ 𝕄) (tdCore m d c))
  go q d c s := match q with
    | 0 => (inferInstance : BI.Storable (upEmb : UEmb _ 𝕄) (goTile m d (coordsV c s)))
  td q d c s := match q with
    | 0 => (inferInstance : BI.Storable (upEmb : UEmb _ 𝕄) (tdTile m d (coordsV c s)))

/-! ## The launch's obligations -/

theorem defs₀_vector (c : Fin τ.nSC) (s : Fin τ.nSub) :
    defs₀ (F := F) (.scVector c s) 2 ()
      = SparseCore.onTile hcore2 hsub2 (fun c s => cc2__sc_topk_body (coordsV c s) xV (Memref.isWhole_whole _) iV (Memref.isWhole_whole _) kV (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) cc2_scoped0 cc2_scoped1 cc2_scoped2) ⟨⟩ c s := rfl

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

theorem vecSplit : (K (F := F)).VecSplit' (P m) 0 := by
  intro d c
  show (bigSep Finset.univ fun s : Fin 16 => goTile m d (coordsV c s)) ⊢ |={Set.univ}=> iprop(
      (bigSep Finset.univ fun s : Fin 16 => goTile m d (coordsV c s))
      ∗ ((bigSep Finset.univ fun s : Fin 16 => tdTile m d (coordsV c s)) -∗ (bigSep Finset.univ fun s : Fin 16 => tdTile m d (coordsV c s))))
  iintro H; imodintro
  isplitl [H]; · iexact H
  iintro H; iexact H

/-- The three arrays when the call is done. -/
abbrev FIN (d : Dev nD) : sProp 𝕄 :=
  iprop((xLoc d ↦{fullShare} m (xLoc d)) ∗ (iLoc d ↦{fullShare} topIdx (F := F) (m (xLoc d))) ∗ (kLoc d ↦{fullShare} topMask (F := F) (m (xLoc d))))

theorem st0_eq (d : Dev nD) : (bigSep Finset.univ fun c : Fin ((K (F := F)).nCore 0) => (P m).st 0 d c)
    = iprop((xLoc d ↦{fullShare} m (xLoc d)) ∗ (iLoc d ↦{fullShare} m (iLoc d)) ∗ (kLoc d ↦{fullShare} m (kLoc d))) := by
  rw [xPts_cells, iPts_cells, kPts_cells, ← bigSep_sep', ← bigSep_sep', bigSep_cells]
  rfl
theorem dn0_eq (d : Dev nD) : (bigSep Finset.univ fun c : Fin ((K (F := F)).nCore 0) => (P m).dn 0 d c) = FIN m d := by
  unfold FIN
  rw [xPts_cells, iPts_cells, kPts_cells, ← bigSep_sep', ← bigSep_sep', bigSep_cells]
  rfl

end Cert.Proof.Topk

end
-- ==== Proof.Agree.lean ====
/-
  The two programs' results are the same when no row holds a value twice: both name, in column `p`, the one position of
  the row whose value `p` others exceed, and both set the mask at the positions named.
-/
module

public import proofs.«01_k».proof.Proof.RefTop
public import proofs.«01_k».proof.Proof.Launch
public import proofs.«01_k».proof.Proof.Gen.Pre_no_ties
public import Idealize.ShloMosaic.Lib.Pointwise.Tactic
public import Idealize.ShloMosaic.Lib.Pointwise.Reshape

@[expose] public section

set_option maxRecDepth 65536

noncomputable section

namespace Cert.Proof.Agree

open Idealize.ShloMosaic Idealize.SL.Sem
open Cert.KernelIdeal (S2048x2048 S2048x64)
open Cert.KernelIdeal.Net Cert.Proof.Topk Cert.Proof.Ref

/-! ## The precondition -/

open Cert.ReferenceIdeal.Read

/-- What the precondition says of the scores `X`: no row has two equal values at two positions. -/
def noTies (X : FVec Ideal S2048x2048 .f32) : IVec Cert.Pre_no_ties.S2048x2048x2048 1 :=
  Cert.Pre_no_ties.fn_part5 (F := Ideal)
    (broadcastInDim Cert.Pre_no_ties.S2048x2048x1 ![0, 1] Cert.Pre_no_ties.Facts.bcast_S2048x2048_S2048x2048x1_0_1 X)
    (broadcastInDim Cert.Pre_no_ties.S2048x1x2048 ![0, 2] Cert.Pre_no_ties.Facts.bcast_S2048x2048_S2048x1x2048_0_2 X)

/-- A row's values are pairwise different. -/
theorem injective_of_noTies (X : FVec Ideal S2048x2048 .f32) (h : noTies X = fun _ => 1#1) (r : Fin 2048) :
    Function.Injective fun s : Fin 2048 => X (ix2 r s) := by
  intro a b hab
  have hk := congrFun h (ix3 r a b)
  have nb : ∀ a b : BitVec 1, ~~~(a &&& b) = 1#1 → a = 1#1 → b = 0#1 := by decide
  have e1 : broadcastInDim Cert.Pre_no_ties.S2048x2048x2048 ![0, 1, 2] Cert.Pre_no_ties.Facts.bcast_S2048x2048x1_S2048x2048x2048_0_1_2
      (broadcastInDim Cert.Pre_no_ties.S2048x2048x1 ![0, 1] Cert.Pre_no_ties.Facts.bcast_S2048x2048_S2048x2048x1_0_1 X) (ix3 r a b) = X (ix2 r a) := by
    rw [broadcastInDim_apply _ _ _ (ix3 r a b) (ix3 r a 0) (fun q => by
        match q with
        | ⟨0, _⟩ => rfl
        | ⟨1, _⟩ => rfl
        | ⟨2, _⟩ => rfl), broadcastInDim_apply _ _ _ (ix3 r a 0) (ix2 r a) (fun q => by
        match q with
        | ⟨0, _⟩ => rfl
        | ⟨1, _⟩ => rfl)]
  have e2 : broadcastInDim Cert.Pre_no_ties.S2048x2048x2048 ![0, 1, 2] Cert.Pre_no_ties.Facts.bcast_S2048x1x2048_S2048x2048x2048_0_1_2
      (broadcastInDim Cert.Pre_no_ties.S2048x1x2048 ![0, 2] Cert.Pre_no_ties.Facts.bcast_S2048x2048_S2048x1x2048_0_2 X) (ix3 r a b) = X (ix2 r b) := by
    rw [broadcastInDim_apply _ _ _ (ix3 r a b) (ix3 r 0 b) (fun q => by
        match q with
        | ⟨0, _⟩ => rfl
        | ⟨1, _⟩ => rfl
        | ⟨2, _⟩ => rfl), broadcastInDim_apply _ _ _ (ix3 r 0 b) (ix2 r b) (fun q => by
        match q with
        | ⟨0, _⟩ => rfl
        | ⟨1, _⟩ => rfl)]
  have e3 : broadcastInDim Cert.Pre_no_ties.S2048x2048x2048 ![0, 1, 2] Cert.Pre_no_ties.Facts.bcast_S1x2048x2048_S2048x2048x2048_0_1_2
      (broadcastInDim Cert.Pre_no_ties.S1x2048x2048 ![1, 2] Cert.Pre_no_ties.Facts.bcast_S2048x2048_S1x2048x2048_1_2
        (cmpi .ne
          (broadcastInDim Cert.Pre_no_ties.S2048x2048 ![0, 1] Cert.Pre_no_ties.Facts.bcast_S2048x1_S2048x2048_0_1
            (broadcastInDim Cert.Pre_no_ties.S2048x1 ![0] Cert.Pre_no_ties.Facts.bcast_S2048_S2048x1_0 (iotaInDim Cert.Pre_no_ties.S2048 32 0)))
          (broadcastInDim Cert.Pre_no_ties.S2048x2048 ![0, 1] Cert.Pre_no_ties.Facts.bcast_S1x2048_S2048x2048_0_1
            (broadcastInDim Cert.Pre_no_ties.S1x2048 ![1] Cert.Pre_no_ties.Facts.bcast_S2048_S1x2048_1 (iotaInDim Cert.Pre_no_ties.S2048 32 0)))))
      (ix3 r a b) = IntOp.cmpi .ne (BitVec.ofNat 32 a.val) (BitVec.ofNat 32 b.val) := by
    rw [broadcastInDim_apply _ _ _ (ix3 r a b) (ix3 0 a b) (fun q => by
        match q with
        | ⟨0, _⟩ => rfl
        | ⟨1, _⟩ => rfl
        | ⟨2, _⟩ => rfl), broadcastInDim_apply _ _ _ (ix3 0 a b) (ix2 a b) (fun q => by
        match q with
        | ⟨0, _⟩ => rfl
        | ⟨1, _⟩ => rfl)]
    rfl
  have hk' : ∀ A B : EReal, ∀ C : BitVec 1, (A = X (ix2 r a)) → (B = X (ix2 r b)) → C = IntOp.cmpi .ne (BitVec.ofNat 32 a.val) (BitVec.ofNat 32 b.val) →
      ~~~(BitVec.ofBool (decide (A = B)) &&& C) = 1#1 → C = 0#1 := fun A B C hA hB _ hn => nb _ _ hn ((bit_decide _).mpr (hA.trans (hab.trans hB.symm)))
  have h2 := e3.symm.trans (hk' _ _ _ e1 e2 e3 hk)
  by_contra hne
  have hv : BitVec.ofNat 32 a.val ≠ BitVec.ofNat 32 b.val := fun he => hne (Fin.ext (by
    have ha := a.isLt
    have hb := b.isLt
    have := congrArg BitVec.toNat he
    rw [BitVec.toNat_ofNat, BitVec.toNat_ofNat, Nat.mod_eq_of_lt (by omega), Nat.mod_eq_of_lt (by omega)] at this
    exact this))
  have h3 : IntOp.cmpi .ne (BitVec.ofNat 32 a.val) (BitVec.ofNat 32 b.val) = 1#1 := by
    show BitVec.ofBool (BitVec.ofNat 32 a.val != BitVec.ofNat 32 b.val) = 1#1
    rw [bne_iff_ne.mpr hv]
    rfl
  rw [h3] at h2
  exact absurd h2 (by decide)

variable (x0 : FVec Ideal Cert.ReferenceIdeal.S1x2048x2048 .f32) (x1 : FVec Ideal Cert.ReferenceIdeal.S1x2048x1536 .f32)
  (x2 : FVec Ideal Cert.ReferenceIdeal.S1x2048x2048 .f32) (x3 : IVec Cert.ReferenceIdeal.S1x2048 32)
  (x4 : FVec Ideal Cert.ReferenceIdeal.S1536x16x128 .f32) (x5 : FVec Ideal Cert.ReferenceIdeal.S2048x128 .f32)
  (x6 : FVec Ideal Cert.ReferenceIdeal.S2048x16 .f32) (x7 x8 : FVec Ideal Cert.ReferenceIdeal.S128 .f32)

/-- The precondition is of the reference's scores. -/
theorem pre_eq : Cert.Pre_no_ties.fn (F := Ideal) x0 x1 x2 x3 x4 x5 x6 x7 x8
    = noTies (shapeCast Cert.Pre_no_ties.S2048x2048 (val_main_v100 (F := Ideal) x0 x1 x2 x3 x4 x5 x6 x7 x8)
      Cert.Pre_no_ties.Facts.shapeCasts_S1x2048x2048_S2048x2048) := rfl

/-- The precondition read: each row of the scores holds different values. -/
theorem injective_of_pre (h : Cert.Pre_no_ties.fn (F := Ideal) x0 x1 x2 x3 x4 x5 x6 x7 x8 = fun _ => 1#1) (r : Fin 2048) :
    Function.Injective (rowOf (val_main_v100 (F := Ideal) x0 x1 x2 x3 x4 x5 x6 x7 x8) r) := by
  rw [pre_eq] at h
  refine fun a b hab => injective_of_noTies _ h r ?_
  have e : ∀ s : Fin 2048, shapeCast Cert.Pre_no_ties.S2048x2048 (val_main_v100 (F := Ideal) x0 x1 x2 x3 x4 x5 x6 x7 x8)
      Cert.Pre_no_ties.Facts.shapeCasts_S1x2048x2048_S2048x2048 (ix2 r s) = val_main_v100 (F := Ideal) x0 x1 x2 x3 x4 x5 x6 x7 x8 (ix3 0 r s) :=
    fun s => by pointwise
  exact (e a).trans (hab.trans (e b).symm)

/-! ## The results -/

section Results

variable (X : FVec Ideal S2048x2048 .f32) (Y : FVec Ideal Cert.ReferenceIdeal.S1x2048x2048 .f32)
  (hXY : ∀ r s : Fin 2048, X (ix2 r s) = Y (ix3 0 r s)) (hY : ∀ r, Function.Injective (rowOf Y r))
include hXY hY

theorem row_agree (r : Fin 2048) : scoreRow (F := Ideal) X r = rowOf Y r := funext fun s => hXY r s

theorem idx_agree (r : Fin 2048) (p : Fin 64) : topIdx (F := Ideal) X (ix2 r p) = refIdx Y (ix3 0 r p) := by
  have e0 : topIdx (F := Ideal) X (ix2 r p) = idxRow (F := Ideal) (rowOf Y r) p :=
    congrArg (fun x => idxRow (F := Ideal) x p) (row_agree X Y hXY hY r)
  rw [e0]
  obtain ⟨h1, e1⟩ := rank_idxRow (rowOf Y r) (hY r) p
  obtain ⟨h2, e2⟩ := rank_refIdx Y r (hY r) p
  have e := atLeast_injective (rowOf Y r) (hY r) (e1.trans e2.symm)
  exact BitVec.eq_of_toNat_eq (Fin.mk.inj_iff.mp e)

theorem mask_agree (r s : Fin 2048) : topMask (F := Ideal) X (ix2 r s) = refMask Y (ix3 0 r s) := by
  have e0 : topMask (F := Ideal) X (ix2 r s) = maskRow (F := Ideal) (rowOf Y r) s :=
    congrArg (fun x => maskRow (F := Ideal) x s) (row_agree X Y hXY hY r)
  have hk : Kept (rowTop (F := Ideal) (rowOf Y r)) s.val ↔ hits (refIdx Y) (ix3 0 r s) = 1#1 := by
    rw [kept_iff, hits_iff]
    refine exists_congr fun p => ?_
    rw [← idx_agree X Y hXY hY r p, show topIdx (F := Ideal) X (ix2 r p) = idxRow (F := Ideal) (rowOf Y r) p from
      congrArg (fun x => idxRow (F := Ideal) x p) (row_agree X Y hXY hY r)]
  rw [e0]
  have e1 : refMask Y (ix3 0 r s) = if hits (refIdx Y) (ix3 0 r s) = 1#1 then onVal else offVal := rfl
  rw [e1]
  unfold maskRow
  by_cases h : Kept (rowTop (F := Ideal) (rowOf Y r)) s.val
  · rw [if_pos h, if_pos (hk.mp h)]
  · rw [if_neg h, if_neg fun hh => h (hk.mpr hh)]

end Results

end Cert.Proof.Agree

end
-- ==== Proof.CallKey.lean ====
/-
  The first TensorCore call, the key's projection: the body's run, its windows' contents point by point, and the
  obligation that the pipeline asks of the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Calls.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix) (B : Set (SemLoc sig × Ix))

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not, for any proof data that
    enter at the array `V` and whose body leaves the block in place. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data that
    enter at the array `V` and whose body leaves the block in place. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data that
    enter at the array `V` and whose body leaves the block in place. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data that
    enter at the array `V` and whose body leaves the block in place. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data that
    enter at the array `V` and whose body leaves the block in place. -/
theorem before0_4_of {c : Dev nD} (dat : Dat τ (Elt F) Ix ℕ U Lvl cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not, for any proof data that
    enter at the array `V` and whose body leaves the block in place. -/
theorem before0_5_of {c : Dev nD} (dat : Dat τ (Elt F) Ix ℕ U Lvl cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 6, through which its contents are stated (`View.read_writes_of_cover`: the
    choice does not matter). -/
abbrev VO0_6 : View sig .tc .vmem S512x128 .f32 := (Memref.whole cc0_stg6_0 : Memref sig .tc .vmem S512x128 .f32).view
/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)

set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun0_A (c : Dev nD) (i : grid0.Coords) (arg1 : Memref sig .tc .vmem S512x2048 .f32) (harg1 : arg1.IsWhole) (arg2 : Memref sig .tc .vmem S2048x128 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole)
    (x0 : Vec F S512x2048 .f32) (x1 : Vec F S2048x128 .f32) (x2 : Vec F S512x32 .f32) (x3 : Vec F S512x32 .f32) (x4 : Vec F S1x128 .f32) (x5 : Vec F S1x128 .f32) :
    { L6 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) 𝒱₀ c none) E (cc0__k_kernel i arg1 harg1 arg2 harg2 arg3 harg3 arg4 harg4 arg5 harg5 arg6 harg6 arg7 harg7) K } := by
  refine ⟨?_, fun E K => ?run⟩
  case run =>
    simp only [cc0__k_kernel_eq_skeleton]; unfold cc0__k_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

/-- The run's pieces for output 6 are one store of the whole block, so they cover it. -/
theorem cover0_A_6 (c : Dev nD) (i : grid0.Coords) (arg1 : Memref sig .tc .vmem S512x2048 .f32) (harg1 : arg1.IsWhole) (arg2 : Memref sig .tc .vmem S2048x128 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole)
    (x0 : Vec F S512x2048 .f32) (x1 : Vec F S2048x128 .f32) (x2 : Vec F S512x32 .f32) (x3 : Vec F S512x32 .f32) (x4 : Vec F S1x128 .f32) (x5 : Vec F S1x128 .f32) (y : S512x128.Idx) :
    ∃ pc ∈ (kernelRun0_A (Ix := Ix) (U := U) (Lvl := Lvl) 𝒱₀ c i arg1 harg1 arg2 harg2 arg3 harg3 arg4 harg4 arg5 harg5 arg6 harg6 arg7 harg7 x0 x1 x2 x3 x4 x5).1, y ∈ pc.1.set :=
  View.cover_of_tiledL (kernelRun0_A (Ix := Ix) (U := U) (Lvl := Lvl) 𝒱₀ c i arg1 harg1 arg2 harg2 arg3 harg3 arg4 harg4 arg5 harg5 arg6 harg6 arg7 harg7 x0 x1 x2 x3 x4 x5).1 S512x128.size (by sl_kernel_rfl) y

/-- What the run leaves in output 6's staging buffer: its pieces read back over junk. -/
def out0_A_6 (c : Dev nD) (i : grid0.Coords) (arg1 : Memref sig .tc .vmem S512x2048 .f32) (harg1 : arg1.IsWhole) (arg2 : Memref sig .tc .vmem S2048x128 .f32) (harg2 : arg2.IsWhole) (arg3 : Memref sig .tc .vmem S512x32 .f32) (harg3 : arg3.IsWhole) (arg4 : Memref sig .tc .vmem S512x32 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole)
    (x0 : Vec F S512x2048 .f32) (x1 : Vec F S2048x128 .f32) (x2 : Vec F S512x32 .f32) (x3 : Vec F S512x32 .f32) (x4 : Vec F S1x128 .f32) (x5 : Vec F S1x128 .f32) : Vec F S512x128 .f32 :=
  VO0_6.read (Elt F) (VO0_6.writes (Elt F) VO0_6.junk (kernelRun0_A (Ix := Ix) (U := U) (Lvl := Lvl) 𝒱₀ c i arg1 harg1 arg2 harg2 arg3 harg3 arg4 harg4 arg5 harg5 arg6 harg6 arg7 harg7 x0 x1 x2 x3 x4 x5).1)

/-! ## What the outputs hold after each point -/

/-- What the outputs' staging buffers hold after the body at point `t`: the run's contents at
    the point's memrefs and input blocks. -/
def outsAt0 (c : Dev nD) (t : Fin cfg0.N) : Vec F S512x128 .f32 :=
  out0_A_6 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) (iblk V c 2 t) (iblk V c 3 t) (iblk V c 4 t) (iblk V c 5 t)

/-! ## The pipeline's proof data -/

/-- The proof data of pipeline 0 on core `c`: the arrays as the region finds them (`V`); after the body at
    point `t` each input's buffer at its block and the outputs' at `outsAt0`; the invariant the class's (the scoped rest and the generator register); the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 (Ix := Ix) (U := U) (Lvl := Lvl) 𝒱₀ V c t)
  Φ _ := ΦK (F := F) (Ix := Ix) (U := U) (Lvl := Lvl) c
  q _ := fullShare
  owed _ := D c
  recorded _ := B

variable (ι : Ix)

local notation "𝕕" => dat (Ix := Ix) (U := U) (Lvl := Lvl) 𝒱₀ V D B

/-- The proof data's arrays are the region-entry contents `V`. -/
theorem A_eq (c : Dev nD) (w : Fin cfg0.W) : (𝕕 c).A w = V c (Pipeline.arrRef spec0 w) := by
  dsimp only [dat]

/-- What the body leaves, window by window. -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = iblk V c 3 t := by dsimp only [dat]
theorem after0_4 (c : Dev nD) (t : Fin cfg0.N) : (𝕕 c).after 4 t = iblk V c 4 t := by dsimp only [dat]
theorem after0_5 (c : Dev nD) (t : Fin cfg0.N) : (𝕕 c).after 5 t = iblk V c 5 t := by dsimp only [dat]
theorem after0_6 (c : Dev nD) (t : Fin cfg0.N) : (𝕕 c).after 6 t = (outsAt0 (Ix := Ix) (U := U) (Lvl := Lvl) 𝒱₀ V c t) := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D B c 0) (after0_0 𝒱₀ V D B c) t d
theorem before0_1 (c : Dev nD) (t : Fin cfg0.N) (d) : (𝕕 c).before 1 t d = iblk V c 1 t :=
  before0_1_of V (𝕕 c) (A_eq 𝒱₀ V D B c 1) (after0_1 𝒱₀ V D B c) t d
theorem before0_2 (c : Dev nD) (t : Fin cfg0.N) (d) : (𝕕 c).before 2 t d = iblk V c 2 t :=
  before0_2_of V (𝕕 c) (A_eq 𝒱₀ V D B c 2) (after0_2 𝒱₀ V D B c) t d
theorem before0_3 (c : Dev nD) (t : Fin cfg0.N) (d) : (𝕕 c).before 3 t d = iblk V c 3 t :=
  before0_3_of V (𝕕 c) (A_eq 𝒱₀ V D B c 3) (after0_3 𝒱₀ V D B c) t d
theorem before0_4 (c : Dev nD) (t : Fin cfg0.N) (d) : (𝕕 c).before 4 t d = iblk V c 4 t :=
  before0_4_of V (𝕕 c) (A_eq 𝒱₀ V D B c 4) (after0_4 𝒱₀ V D B c) t d
theorem before0_5 (c : Dev nD) (t : Fin cfg0.N) (d) : (𝕕 c).before 5 t d = iblk V c 5 t :=
  before0_5_of V (𝕕 c) (A_eq 𝒱₀ V D B c 5) (after0_5 𝒱₀ V D B c) t d

/-! ## The body obligation, at a generic point -/

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t)
    ∗ owns (c : Thread nD τ) (ms0_6 t) fullShare ((𝕕 c).after 6 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D B ι c t ⊢ wp frame (wpE (defs₀ (F := F)) 𝒱₀ c none) Set.univ (bodyAt0 t) (fun _ => bodyPost (U := U) (Lvl := Lvl) 𝒱₀ V D B ι c t) := by
  unfold bodyPre bodyPost bodyAt0
  simp only [before0_0, before0_1, before0_2, before0_3, before0_4, before0_5]
  rw [show (𝕕 c).Φ t.succ = (𝕕 c).Φ t.castSucc from rfl,
    show (𝕕 c).owesAt ι t.succ = (𝕕 c).owesAt ι t.castSucc from rfl,
    after0_0, after0_1, after0_2, after0_3, after0_4, after0_5, after0_6]
  unfold outsAt0
  unfold out0_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A (Ix := Ix) (U := U) (Lvl := Lvl) 𝒱₀ c (grid0.coords t) _ _ _ _ _ _ _ _ _ _ _ _ _ _ (iblk V c 0 t) (iblk V c 1 t) (iblk V c 2 t) (iblk V c 3 t) (iblk V c 4 t) (iblk V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 (Ix := Ix) (U := U) (Lvl := Lvl) 𝒱₀ c _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  rfl

/-- The library's body obligation, at every point: the body's triple restated. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D B ι c t) rfl .rfl fun _ => .rfl

end Cert.KernelIdeal.Calls.K0

end
-- ==== Proof.CallScore.lean ====
/-
  The second TensorCore call, the index scores: the body's run, its windows' contents point by point, and the
  obligation that the pipeline asks of the body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Calls.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix) (B : Set (SemLoc sig × Ix))

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not, for any proof data that
    enter at the array `V` and whose body leaves the block in place. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for any proof data that
    enter at the array `V` and whose body leaves the block in place. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for any proof data that
    enter at the array `V` and whose body leaves the block in place. -/
theorem before1_2_of {c : Dev nD} (dat : Dat τ (Elt F) Ix ℕ U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for any proof data that
    enter at the array `V` and whose body leaves the block in place. -/
theorem before1_3_of {c : Dev nD} (dat : Dat τ (Elt F) Ix ℕ U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for any proof data that
    enter at the array `V` and whose body leaves the block in place. -/
theorem before1_4_of {c : Dev nD} (dat : Dat τ (Elt F) Ix ℕ U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not, for any proof data that
    enter at the array `V` and whose body leaves the block in place. -/
theorem before1_5_of {c : Dev nD} (dat : Dat τ (Elt F) Ix ℕ U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not, for any proof data that
    enter at the array `V` and whose body leaves the block in place. -/
theorem before1_6_of {c : Dev nD} (dat : Dat τ (Elt F) Ix ℕ U Lvl cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 7, through which its contents are stated (`View.read_writes_of_cover`: the
    choice does not matter). -/
abbrev VO1_7 : View sig .tc .vmem S256x2048 .f32 := (Memref.whole cc1_stg7_0 : Memref sig .tc .vmem S256x2048 .f32).view
/-- Each window's current staging memref at point `t`, spelled as the pipeline passes it (`bodyAt1`), and its wholeness. -/
abbrev ms1_0 (t : Fin cfg1.N) : Memref sig .tc .vmem S256x1536 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x32 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x32 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S256x2048 .f32 := win1_7.stage (cfg1.slots t 7)
abbrev hs1_7 (t : Fin cfg1.N) : (ms1_7 t).IsWhole := hstage1_7 ((cfg1.slots t 7).cast nbuf1_7)

set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg1 : Memref sig .tc .vmem S256x1536 .f32) (harg1 : arg1.IsWhole) (arg2 : Memref sig .tc .vmem S1536x2048 .f32) (harg2 : arg2.IsWhole) (arg3 : Memref sig .tc .vmem S256x2048 .f32) (harg3 : arg3.IsWhole) (arg4 : Memref sig .tc .vmem S2048x16 .f32) (harg4 : arg4.IsWhole) (arg5 : Memref sig .tc .vmem S2048x128 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S256x2048 .f32) (harg8 : arg8.IsWhole)
    (x0 : Vec F S256x1536 .f32) (x1 : Vec F S1536x2048 .f32) (x2 : Vec F S256x2048 .f32) (x3 : Vec F S2048x16 .f32) (x4 : Vec F S2048x128 .f32) (x5 : Vec F S256x32 .f32) (x6 : Vec F S256x32 .f32) :
    { L7 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7)) -∗ K ⟨⟩))
          ⊢ wp frame (wpE (defs₀ (F := F)) 𝒱₀ c none) E (cc1__score_kernel i arg1 harg1 arg2 harg2 arg3 harg3 arg4 harg4 arg5 harg5 arg6 harg6 arg7 harg7 arg8 harg8) K } := by
  refine ⟨?_, fun E K => ?run⟩
  case run =>
    simp only [cc1__score_kernel_eq_skeleton]; unfold cc1__score_kernel_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The run's pieces for output 7 are one store of the whole block, so they cover it. -/
theorem cover1_A_7 (c : Dev nD) (i : grid1.Coords) (arg1 : Memref sig .tc .vmem S256x1536 .f32) (harg1 : arg1.IsWhole) (arg2 : Memref sig .tc .vmem S1536x2048 .f32) (harg2 : arg2.IsWhole) (arg3 : Memref sig .tc .vmem S256x2048 .f32) (harg3 : arg3.IsWhole) (arg4 : Memref sig .tc .vmem S2048x16 .f32) (harg4 : arg4.IsWhole) (arg5 : Memref sig .tc .vmem S2048x128 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S256x2048 .f32) (harg8 : arg8.IsWhole)
    (x0 : Vec F S256x1536 .f32) (x1 : Vec F S1536x2048 .f32) (x2 : Vec F S256x2048 .f32) (x3 : Vec F S2048x16 .f32) (x4 : Vec F S2048x128 .f32) (x5 : Vec F S256x32 .f32) (x6 : Vec F S256x32 .f32) (y : S256x2048.Idx) :
    ∃ pc ∈ (kernelRun1_A (Ix := Ix) (U := U) (Lvl := Lvl) 𝒱₀ c i arg1 harg1 arg2 harg2 arg3 harg3 arg4 harg4 arg5 harg5 arg6 harg6 arg7 harg7 arg8 harg8 x0 x1 x2 x3 x4 x5 x6).1, y ∈ pc.1.set :=
  View.cover_of_tiledL (kernelRun1_A (Ix := Ix) (U := U) (Lvl := Lvl) 𝒱₀ c i arg1 harg1 arg2 harg2 arg3 harg3 arg4 harg4 arg5 harg5 arg6 harg6 arg7 harg7 arg8 harg8 x0 x1 x2 x3 x4 x5 x6).1 S256x2048.size (by sl_kernel_rfl) y

/-- What the run leaves in output 7's staging buffer: its pieces read back over junk. -/
def out1_A_7 (c : Dev nD) (i : grid1.Coords) (arg1 : Memref sig .tc .vmem S256x1536 .f32) (harg1 : arg1.IsWhole) (arg2 : Memref sig .tc .vmem S1536x2048 .f32) (harg2 : arg2.IsWhole) (arg3 : Memref sig .tc .vmem S256x2048 .f32) (harg3 : arg3.IsWhole) (arg4 : Memref sig .tc .vmem S2048x16 .f32) (harg4 : arg4.IsWhole) (arg5 : Memref sig .tc .vmem S2048x128 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S256x2048 .f32) (harg8 : arg8.IsWhole)
    (x0 : Vec F S256x1536 .f32) (x1 : Vec F S1536x2048 .f32) (x2 : Vec F S256x2048 .f32) (x3 : Vec F S2048x16 .f32) (x4 : Vec F S2048x128 .f32) (x5 : Vec F S256x32 .f32) (x6 : Vec F S256x32 .f32) : Vec F S256x2048 .f32 :=
  VO1_7.read (Elt F) (VO1_7.writes (Elt F) VO1_7.junk (kernelRun1_A (Ix := Ix) (U := U) (Lvl := Lvl) 𝒱₀ c i arg1 harg1 arg2 harg2 arg3 harg3 arg4 harg4 arg5 harg5 arg6 harg6 arg7 harg7 arg8 harg8 x0 x1 x2 x3 x4 x5 x6).1)

/-! ## What the outputs hold after each point -/

/-- What the outputs' staging buffers hold after the body at point `t`: the run's contents at
    the point's memrefs and input blocks. -/
def outsAt1 (c : Dev nD) (t : Fin cfg1.N) : Vec F S256x2048 .f32 :=
  out1_A_7 (Ix := Ix) (U := U) (Lvl := Lvl) 𝒱₀ c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk V c 0 t) (iblk V c 1 t) (iblk V c 2 t) (iblk V c 3 t) (iblk V c 4 t) (iblk V c 5 t) (iblk V c 6 t)

/-! ## The pipeline's proof data -/

/-- The proof data of pipeline 1 on core `c`: the arrays as the region finds them (`V`); after the body at
    point `t` each input's buffer at its block and the outputs' at `outsAt1`; the invariant the class's (the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (outsAt1 (Ix := Ix) (U := U) (Lvl := Lvl) 𝒱₀ V c t)
  Φ _ := ΦK (F := F) (Ix := Ix) (U := U) (Lvl := Lvl) c
  q _ := fullShare
  owed _ := D c
  recorded _ := B

variable (ι : Ix)

local notation "𝕕" => dat (Ix := Ix) (U := U) (Lvl := Lvl) 𝒱₀ V D B

/-- The proof data's arrays are the region-entry contents `V`. -/
theorem A_eq (c : Dev nD) (w : Fin cfg1.W) : (𝕕 c).A w = V c (Pipeline.arrRef spec1 w) := by
  dsimp only [dat]

/-- What the body leaves, window by window. -/
theorem after1_0 (c : Dev nD) (t : Fin cfg1.N) : (𝕕 c).after 0 t = iblk V c 0 t := by dsimp only [dat]
theorem after1_1 (c : Dev nD) (t : Fin cfg1.N) : (𝕕 c).after 1 t = iblk V c 1 t := by dsimp only [dat]
theorem after1_2 (c : Dev nD) (t : Fin cfg1.N) : (𝕕 c).after 2 t = iblk V c 2 t := by dsimp only [dat]
theorem after1_3 (c : Dev nD) (t : Fin cfg1.N) : (𝕕 c).after 3 t = iblk V c 3 t := by dsimp only [dat]
theorem after1_4 (c : Dev nD) (t : Fin cfg1.N) : (𝕕 c).after 4 t = iblk V c 4 t := by dsimp only [dat]
theorem after1_5 (c : Dev nD) (t : Fin cfg1.N) : (𝕕 c).after 5 t = iblk V c 5 t := by dsimp only [dat]
theorem after1_6 (c : Dev nD) (t : Fin cfg1.N) : (𝕕 c).after 6 t = iblk V c 6 t := by dsimp only [dat]
theorem after1_7 (c : Dev nD) (t : Fin cfg1.N) : (𝕕 c).after 7 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (𝕕 c).before 0 t d = iblk V c 0 t :=
  before1_0_of V (𝕕 c) (A_eq 𝒱₀ V D B c 0) (after1_0 𝒱₀ V D B c) t d
theorem before1_1 (c : Dev nD) (t : Fin cfg1.N) (d) : (𝕕 c).before 1 t d = iblk V c 1 t :=
  before1_1_of V (𝕕 c) (A_eq 𝒱₀ V D B c 1) (after1_1 𝒱₀ V D B c) t d
theorem before1_2 (c : Dev nD) (t : Fin cfg1.N) (d) : (𝕕 c).before 2 t d = iblk V c 2 t :=
  before1_2_of V (𝕕 c) (A_eq 𝒱₀ V D B c 2) (after1_2 𝒱₀ V D B c) t d
theorem before1_3 (c : Dev nD) (t : Fin cfg1.N) (d) : (𝕕 c).before 3 t d = iblk V c 3 t :=
  before1_3_of V (𝕕 c) (A_eq 𝒱₀ V D B c 3) (after1_3 𝒱₀ V D B c) t d
theorem before1_4 (c : Dev nD) (t : Fin cfg1.N) (d) : (𝕕 c).before 4 t d = iblk V c 4 t :=
  before1_4_of V (𝕕 c) (A_eq 𝒱₀ V D B c 4) (after1_4 𝒱₀ V D B c) t d
theorem before1_5 (c : Dev nD) (t : Fin cfg1.N) (d) : (𝕕 c).before 5 t d = iblk V c 5 t :=
  before1_5_of V (𝕕 c) (A_eq 𝒱₀ V D B c 5) (after1_5 𝒱₀ V D B c) t d
theorem before1_6 (c : Dev nD) (t : Fin cfg1.N) (d) : (𝕕 c).before 6 t d = iblk V c 6 t :=
  before1_6_of V (𝕕 c) (A_eq 𝒱₀ V D B c 6) (after1_6 𝒱₀ V D B c) t d

/-! ## The body obligation, at a generic point -/

/-- What the body is called with at point `t`, -/
def bodyPre (c : Dev nD) (t : Fin cfg1.N) : sProp 𝕄 :=
  iprop((𝕕 c).Φ t.castSucc ∗ (𝕕 c).owesAt ι t.castSucc
    ∗ (∃ d, owns (c : Thread nD τ) (ms1_0 t) fullShare ((𝕕 c).before 0 t d))
    ∗ (∃ d, owns (c : Thread nD τ) (ms1_1 t) fullShare ((𝕕 c).before 1 t d))
    ∗ (∃ d, owns (c : Thread nD τ) (ms1_2 t) fullShare ((𝕕 c).before 2 t d))
    ∗ (∃ d, owns (c : Thread nD τ) (ms1_3 t) fullShare ((𝕕 c).before 3 t d))
    ∗ (∃ d, owns (c : Thread nD τ) (ms1_4 t) fullShare ((𝕕 c).before 4 t d))
    ∗ (∃ d, owns (c : Thread nD τ) (ms1_5 t) fullShare ((𝕕 c).before 5 t d))
    ∗ (∃ d, owns (c : Thread nD τ) (ms1_6 t) fullShare ((𝕕 c).before 6 t d))
    ∗ (∃ d, owns (c : Thread nD τ) (ms1_7 t) fullShare ((𝕕 c).before 7 t d)))

/-- and what it returns. -/
def bodyPost (c : Dev nD) (t : Fin cfg1.N) : sProp 𝕄 :=
  iprop((𝕕 c).Φ t.succ ∗ (𝕕 c).owesAt ι t.succ
    ∗ owns (c : Thread nD τ) (ms1_0 t) fullShare ((𝕕 c).after 0 t)
    ∗ owns (c : Thread nD τ) (ms1_1 t) fullShare ((𝕕 c).after 1 t)
    ∗ owns (c : Thread nD τ) (ms1_2 t) fullShare ((𝕕 c).after 2 t)
    ∗ owns (c : Thread nD τ) (ms1_3 t) fullShare ((𝕕 c).after 3 t)
    ∗ owns (c : Thread nD τ) (ms1_4 t) fullShare ((𝕕 c).after 4 t)
    ∗ owns (c : Thread nD τ) (ms1_5 t) fullShare ((𝕕 c).after 5 t)
    ∗ owns (c : Thread nD τ) (ms1_6 t) fullShare ((𝕕 c).after 6 t)
    ∗ owns (c : Thread nD τ) (ms1_7 t) fullShare ((𝕕 c).after 7 t))

set_option maxHeartbeats 800000 in
/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D B ι c t ⊢ wp frame (wpE (defs₀ (F := F)) 𝒱₀ c none) Set.univ (bodyAt1 t) (fun _ => bodyPost (U := U) (Lvl := Lvl) 𝒱₀ V D B ι c t) := by
  unfold bodyPre bodyPost bodyAt1
  simp only [before1_0, before1_1, before1_2, before1_3, before1_4, before1_5, before1_6]
  rw [show (𝕕 c).Φ t.succ = (𝕕 c).Φ t.castSucc from rfl,
    show (𝕕 c).owesAt ι t.succ = (𝕕 c).owesAt ι t.castSucc from rfl,
    after1_0, after1_1, after1_2, after1_3, after1_4, after1_5, after1_6, after1_7]
  unfold outsAt1
  unfold out1_A_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1_A (Ix := Ix) (U := U) (Lvl := Lvl) 𝒱₀ c (grid1.coords t) _ _ _ _ _ _ _ _ _ _ _ _ _ _ _ _ (iblk V c 0 t) (iblk V c 1 t) (iblk V c 2 t) (iblk V c 3 t) (iblk V c 4 t) (iblk V c 5 t) (iblk V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_A_7 (Ix := Ix) (U := U) (Lvl := Lvl) 𝒱₀ c _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  rfl

/-- The library's body obligation, at every point: the body's triple restated. -/
theorem body_obligation (c : Dev nD) : BodyObligation (𝕕 c) (defs₀ (F := F)) 𝒱₀ ι Set.univ := fun t => by
  rw [bigSep_W1, bigSep_W1, defs₀_row]
  exact triple_restated (sound_body (U := U) (Lvl := Lvl) 𝒱₀ V D B ι c t) rfl .rfl fun _ => .rfl

end Cert.KernelIdeal.Calls.K1

end
-- ==== Proof.Regions.lean ====
/-
  The two TensorCore calls as regions of the host's program, each over its own arrays.
-/
module

public import proofs.«01_k».proof.Proof.CallKey
public import proofs.«01_k».proof.Proof.CallScore
public import Idealize.ShloMosaic.Lib.Pipeline.RegionArraysS

@[expose] public section

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : Fin 2 → (c : Dev nD) → (b : Ref sig .tc) → Buf (Elt F) ((c : Thread nD τ).loc b))
variable (D : Fin 2 → Dev nD → CellTallies nD τ sig Ix) (B : Set (SemLoc sig × Ix)) (ι : Ix)
variable (adm : (p : Fin 2) → (pcfgs (F := F) p).Adm)
variable (L : GSem nD τ sig → Finset Ix) (lv : GSem nD τ sig → Ix → Lvl)

/-- The two calls' proof data: call `p` enters from the contents `V p` while core `c` owes `D p c`, its recorded waits in `B`. -/
def pdats : (p : Fin 2) → (c : Dev nD) → Dat τ (Elt F) Ix ℕ U Lvl (Pipeline.pin (pcfgs (F := F)) adm p) c
  | ⟨0, _⟩ => fun c => K0.dat 𝒱₀ (V 0) (D 0) B c
  | ⟨1, _⟩ => fun c => K1.dat 𝒱₀ (V 1) (D 1) B c

local notation "ℙ" => pdats (Ix := Ix) (U := U) (Lvl := Lvl) 𝒱₀ V D B adm

/-- A call as a region over the buffers `S` held whole: entered at the contents `W c`, left at those contents with the
    call's arrays replaced; the recorded waits stay in `B`; the generator register is lent. -/
def segIn (p : Fin 2) (S : Finset (DevRef τ sig)) (hS : Pipeline.arrRefs (pcfgs (F := F) p).spec ⊆ S)
    (kit : Pipeline.PLaunchFacts (nD := nD) (τ := τ) (pcfgs (F := F)) p) (hK : (pcfgs (F := F) p).pre.K = 0)
    (hbody : ∀ c, Pipeline.BodyObligationLoose (ℙ p c) defs₀ 𝒱₀ ι Set.univ)
    (howed : ∀ c t, (ℙ p c).owed t = D p c) (hrec : ∀ c t, (ℙ p c).recorded t = B)
    (hshare : ∀ c w, (ℙ p c).share w = fullShare)
    (hin : ∀ c, iprop(Pipeline.scopedRest (Pipeline.pin (pcfgs (F := F)) adm p).spec c ∗ ∃ r, prngReg c r) ⊢ (ℙ p c).Φ 0)
    (hout : ∀ c, (ℙ p c).Φ (Fin.last (Pipeline.pin (pcfgs (F := F)) adm p).N)
      ⊢ iprop(Pipeline.scopedRest (Pipeline.pin (pcfgs (F := F)) adm p).spec c ∗ ∃ r, prngReg c r))
    (hwait : (Pipeline.pin (pcfgs (F := F)) adm p).waitPairs ι ⊆ B)
    (b : Dev nD → Lvl) (hcut : Pipeline.LevelCut (pcfgs (F := F)) adm ι L lv p (D p) b)
    (W : Dev nD → Valuation τ sig (Elt F))
    (hW : ∀ c w, (ℙ p c).arrAt w 0 = W c (Proc.devRef .tc (Pipeline.arrRef (Pipeline.pin (pcfgs (F := F)) adm p).spec w))) :
    Pipeline.RegionSeg (pcfgs (F := F)) adm ℙ ι defs₀ 𝒱₀ L lv p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) adm) ℙ ι p c (b c) (D p c) (howed c) (hcut.hι c) (hcut.hιb c) (hcut.hD c)
  pre c := iprop(StableHlo.held (c.tc : Thread nD τ) S (W c) ∗ (∃ r, prngReg c r) ∗ Pipeline.owesWithin c (D p c) B)
  post c := iprop(StableHlo.held (c.tc : Thread nD τ) S (Pipeline.afterRegion (ℙ p c) (W c)) ∗ (∃ r, prngReg c r) ∗ Pipeline.owesWithin c (D p c) B)
  X c := iprop(∃ r, prngReg c r)
  Y c := iprop(∃ r, prngReg c r)
  Z c := StableHlo.held (c.tc : Thread nD τ) (S \ Pipeline.arrRefs (pcfgs (F := F) p).spec) (W c)
  hentry c := by
    rw [Pipeline.ownSems0_none, Pipeline.prefHeld_of_none _ hK, StableHlo.held_sub_split (c.tc : Thread nD τ) hS (W c),
      ← Pipeline.arrays_held (pcfgs (F := F)) adm ℙ p kit c (hshare c) ((ℙ p c).arrAt · 0) (W c) (hW c)]
    unfold Pipeline.Dat.owesAt Pipeline.owesWithin Pipeline.Dat.bound
    rw [howed c 0, hrec c 0, Set.union_eq_self_of_subset_right hwait]
    iintro ⟨⟨⟨Ha, HZ⟩, HX, HO⟩, -, -⟩
    imodintro
    isplitl [Ha]; · iexact Ha
    isplitr; · iempintro
    isplitl [HO]; · iexact HO
    isplitl [HX]; · iexact HX
    iexact HZ
  hin c := by
    have h : iprop((∃ r, prngReg c r) ∗ Pipeline.prefHeld (pcfgs (F := F) p).pre c (fun _ => fullShare) (adm p).1
        ∗ Pipeline.scopedRest (pcfgs (F := F) p).spec c)
        ⊢ (iprop(Pipeline.scopedRest (Pipeline.pin (pcfgs (F := F)) adm p).spec c ∗ ∃ r, prngReg c r) : sProp 𝕄) := by
      iintro ⟨HX, -, Hr⟩
      isplitl [Hr]; · iexact Hr
      iexact HX
    exact h.trans (hin c)
  hout c := (hout c).trans (by
    rw [Pipeline.ownSems0_none]
    iintro ⟨Hr, HY⟩
    isplitl [HY]; · iexact HY
    isplitr; · iempintro
    iexact Hr)
  hexit c := by
    rw [StableHlo.held_sub_split (c.tc : Thread nD τ) hS (Pipeline.afterRegion (ℙ p c) (W c)),
      StableHlo.held_congr (c.tc : Thread nD τ) (S := S \ Pipeline.arrRefs (pcfgs (F := F) p).spec) (V := Pipeline.afterRegion (ℙ p c) (W c)) (V' := W c)
        (Pipeline.afterRegion_off (ℙ p c) (W c) S),
      ← Pipeline.arrays_held (pcfgs (F := F)) adm ℙ p kit c (hshare c) ((ℙ p c).arrAt · (Pipeline.pin (pcfgs (F := F)) adm p).N)
        (Pipeline.afterRegion (ℙ p c) (W c)) (fun w => (Pipeline.afterRegion_arr (ℙ p c) (W c) kit.win.arr_inj w).symm)]
    unfold Pipeline.Dat.owesAt Pipeline.owesWithin Pipeline.Dat.bound
    rw [howed c (Fin.last _), hrec c (Fin.last _), Set.union_eq_self_of_subset_right hwait]
    iintro ⟨Ha, HO, HY, HZ⟩
    imodintro
    isplitl [Ha HZ]
    · isplitl [Ha]; · iexact Ha
      iexact HZ
    isplitl [HY]; · iexact HY
    iexact HO

variable (S : Finset (DevRef τ sig)) (hwait : ∀ p, (Pipeline.pin (pcfgs (F := F)) adm p).waitPairs ι ⊆ B) (b : Lvl)
variable (hcut : ∀ p, Pipeline.LevelCut (pcfgs (F := F)) adm ι L lv p (D p) fun _ => b)
variable (W : Dev nD → Valuation τ sig (Elt F))

/-- The first call, entered from the contents `W c`. -/
def reg0 (hS : Pipeline.arrRefs (pcfgs (F := F) 0).spec ⊆ S) (hV : V 0 = fun c r => W c (Proc.devRef .tc r)) :
    Pipeline.RegionSeg (pcfgs (F := F)) adm ℙ ι defs₀ 𝒱₀ L lv 0 :=
  segIn 𝒱₀ V D B ι adm L lv 0 S hS launch0.toP rfl
    (fun c => (K0.body_obligation (U := U) (Lvl := Lvl) 𝒱₀ (V 0) (D 0) B ι c).loose) (fun _ _ => rfl) (fun _ _ => rfl) (fun _ _ => by unfold Pipeline.Dat.share; split <;> rfl)
    (fun _ => .rfl) (fun _ => .rfl) (hwait 0) (fun _ => b) (hcut 0) W (fun c w => by
      show V 0 c _ = _
      rw [hV]; rfl)

/-- The second call, entered from the contents `W c`. -/
def reg1 (hS : Pipeline.arrRefs (pcfgs (F := F) 1).spec ⊆ S) (hV : V 1 = fun c r => W c (Proc.devRef .tc r)) :
    Pipeline.RegionSeg (pcfgs (F := F)) adm ℙ ι defs₀ 𝒱₀ L lv 1 :=
  segIn 𝒱₀ V D B ι adm L lv 1 S hS launch1.toP rfl
    (fun c => (K1.body_obligation (U := U) (Lvl := Lvl) 𝒱₀ (V 1) (D 1) B ι c).loose) (fun _ _ => rfl) (fun _ _ => rfl) (fun _ _ => by unfold Pipeline.Dat.share; split <;> rfl)
    (fun _ => .rfl) (fun _ => .rfl) (hwait 1) (fun _ => b) (hcut 1) W (fun c w => by
      show V 1 c _ = _
      rw [hV]; rfl)

end Cert.KernelIdeal.Calls

end
-- ==== Proof.Host.lean ====
/-
  The whole program: the host's operations, the two TensorCore calls and the SparseCore call in order, and every
  buffer's contents after each.
-/
module

public import proofs.«01_k».proof.Proof.Launch
public import proofs.«01_k».proof.Proof.Regions
public import Idealize.ShloMosaic.Lib.SparseCore.Quiescent
public import Idealize.ShloMosaic.Lib.Pipeline.Frame

@[expose] public section

set_option maxRecDepth 65536
set_option maxHeartbeats 400000

noncomputable section

namespace Cert.Proof.Topk

open Cert.KernelIdeal Cert.KernelIdeal.Gen Cert.KernelIdeal.Net
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq launchContents)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Before the calls: the arguments reshaped, the angles' cosines and sines. -/
def opsPre : List (HloOp τ sig (Elt F)) :=
  [ (StableHlo.reshape main_arg0 main_v0 (rfl : (.f32 : EltTy) = .f32) shapeCasts_S1x2048x2048_S2048x2048),
    (StableHlo.reshape main_arg1 main_v1 (rfl : (.f32 : EltTy) = .f32) shapeCasts_S1x2048x1536_S2048x1536),
    (StableHlo.reshape main_arg2 main_v2 (rfl : (.f32 : EltTy) = .f32) shapeCasts_S1x2048x2048_S2048x2048),
    (StableHlo.reshape main_arg3 main_v3 (rfl : (.i32 : EltTy) = .i32) shapeCasts_S1x2048_S2048),
    (StableHlo.reshape main_arg4 main_v4 (rfl : (.f32 : EltTy) = .f32) shapeCasts_S1536x16x128_S1536x2048),
    (StableHlo.reshape main_arg7 main_v5 (rfl : (.f32 : EltTy) = .f32) shapeCasts_S128_S1x128),
    (StableHlo.reshape main_arg8 main_v6 (rfl : (.f32 : EltTy) = .f32) shapeCasts_S128_S1x128),
    (StableHlo.nullary main_v7 (sitofp .f32 (iotaInDim S32 32 0))),
    (StableHlo.nullary main_cst (constant S_ .f32 0x40000000#32)),
    (StableHlo.unary main_cst main_v8 (broadcastInDim S32 ![] bcast_S_S32 : (⟨S_, .f32⟩ : BufTy).Contents (Elt F) → (⟨S32, .f32⟩ : BufTy).Contents (Elt F))),
    (StableHlo.binary main_v8 main_v7 main_v9 (mulf : (⟨S32, .f32⟩ : BufTy).Contents (Elt F) → (⟨S32, .f32⟩ : BufTy).Contents (Elt F) → (⟨S32, .f32⟩ : BufTy).Contents (Elt F))),
    (StableHlo.nullary main_cst_0 (constant S_ .f32 0x00000000#32)),
    (StableHlo.unary main_cst_0 main_v10 (broadcastInDim S32 ![] bcast_S_S32 : (⟨S_, .f32⟩ : BufTy).Contents (Elt F) → (⟨S32, .f32⟩ : BufTy).Contents (Elt F))),
    (StableHlo.binary main_v10 main_v9 main_v11 (addf : (⟨S32, .f32⟩ : BufTy).Contents (Elt F) → (⟨S32, .f32⟩ : BufTy).Contents (Elt F) → (⟨S32, .f32⟩ : BufTy).Contents (Elt F))),
    (StableHlo.nullary main_cst_1 (constant S_ .f32 0x42800000#32)),
    (StableHlo.unary main_cst_1 main_v12 (broadcastInDim S32 ![] bcast_S_S32 : (⟨S_, .f32⟩ : BufTy).Contents (Elt F) → (⟨S32, .f32⟩ : BufTy).Contents (Elt F))),
    (StableHlo.binary main_v11 main_v12 main_v13 (Host.divf : (⟨S32, .f32⟩ : BufTy).Contents (Elt F) → (⟨S32, .f32⟩ : BufTy).Contents (Elt F) → (⟨S32, .f32⟩ : BufTy).Contents (Elt F))),
    (StableHlo.nullary main_cst_2 (constant S_ .f32 0x461C4000#32)),
    (StableHlo.unary main_cst_2 main_v14 (broadcastInDim S32 ![] bcast_S_S32 : (⟨S_, .f32⟩ : BufTy).Contents (Elt F) → (⟨S32, .f32⟩ : BufTy).Contents (Elt F))),
    (StableHlo.binary main_v14 main_v13 main_v15 (Host.powf : (⟨S32, .f32⟩ : BufTy).Contents (Elt F) → (⟨S32, .f32⟩ : BufTy).Contents (Elt F) → (⟨S32, .f32⟩ : BufTy).Contents (Elt F))),
    (StableHlo.nullary main_cst_3 (constant S_ .f32 0x3F800000#32)),
    (StableHlo.unary main_cst_3 main_v16 (broadcastInDim S32 ![] bcast_S_S32 : (⟨S_, .f32⟩ : BufTy).Contents (Elt F) → (⟨S32, .f32⟩ : BufTy).Contents (Elt F))),
    (StableHlo.binary main_v16 main_v15 main_v17 (Host.divf : (⟨S32, .f32⟩ : BufTy).Contents (Elt F) → (⟨S32, .f32⟩ : BufTy).Contents (Elt F) → (⟨S32, .f32⟩ : BufTy).Contents (Elt F))),
    (StableHlo.unary main_v3 main_v18 (sitofp .f32 : (⟨S2048, .i32⟩ : BufTy).Contents (Elt F) → (⟨S2048, .f32⟩ : BufTy).Contents (Elt F))),
    (StableHlo.unary main_v18 main_v19 (broadcastInDim S2048x1 ![0] bcast_S2048_S2048x1_0 : (⟨S2048, .f32⟩ : BufTy).Contents (Elt F) → (⟨S2048x1, .f32⟩ : BufTy).Contents (Elt F))),
    (StableHlo.unary main_v17 main_v20 (broadcastInDim S1x32 ![1] bcast_S32_S1x32_1 : (⟨S32, .f32⟩ : BufTy).Contents (Elt F) → (⟨S1x32, .f32⟩ : BufTy).Contents (Elt F))),
    (StableHlo.unary main_v19 main_v21 (broadcastInDim S2048x32 ![0, 1] bcast_S2048x1_S2048x32_0_1 : (⟨S2048x1, .f32⟩ : BufTy).Contents (Elt F) → (⟨S2048x32, .f32⟩ : BufTy).Contents (Elt F))),
    (StableHlo.unary main_v20 main_v22 (broadcastInDim S2048x32 ![0, 1] bcast_S1x32_S2048x32_0_1 : (⟨S1x32, .f32⟩ : BufTy).Contents (Elt F) → (⟨S2048x32, .f32⟩ : BufTy).Contents (Elt F))),
    (StableHlo.binary main_v21 main_v22 main_v23 (mulf : (⟨S2048x32, .f32⟩ : BufTy).Contents (Elt F) → (⟨S2048x32, .f32⟩ : BufTy).Contents (Elt F) → (⟨S2048x32, .f32⟩ : BufTy).Contents (Elt F))),
    (StableHlo.unary main_v23 main_v24 (Host.cos : (⟨S2048x32, .f32⟩ : BufTy).Contents (Elt F) → (⟨S2048x32, .f32⟩ : BufTy).Contents (Elt F))),
    (StableHlo.unary main_v23 main_v25 (Host.sin : (⟨S2048x32, .f32⟩ : BufTy).Contents (Elt F) → (⟨S2048x32, .f32⟩ : BufTy).Contents (Elt F))) ]

/-- After the calls: each result under its leading axis. -/
def opsPost : List (HloOp τ sig (Elt F)) :=
  [ (StableHlo.unary main_v28_1 main_v29 (broadcastInDim S1x2048x2048 ![1, 2] bcast_S2048x2048_S1x2048x2048_1_2 : (⟨S2048x2048, .f32⟩ : BufTy).Contents (Elt F) → (⟨S1x2048x2048, .f32⟩ : BufTy).Contents (Elt F))),
    (StableHlo.unary main_v28_0 main_v30 (broadcastInDim S1x2048x64 ![1, 2] bcast_S2048x64_S1x2048x64_1_2 : (⟨S2048x64, .i32⟩ : BufTy).Contents (Elt F) → (⟨S1x2048x64, .i32⟩ : BufTy).Contents (Elt F))),
    (StableHlo.unary main_v27 main_v31 (broadcastInDim S1x2048x2048 ![1, 2] bcast_S2048x2048_S1x2048x2048_1_2 : (⟨S2048x2048, .f32⟩ : BufTy).Contents (Elt F) → (⟨S1x2048x2048, .f32⟩ : BufTy).Contents (Elt F))) ]

abbrev call0 : Prog (TpuEff nD τ sig (Elt F) (SparseCore.Sig (ΛP (F := F)) 1) .tc) PUnit := Prog.lift (.customCall (SparseCore.inner (Pipeline.entry 0)) ())
abbrev call1 : Prog (TpuEff nD τ sig (Elt F) (SparseCore.Sig (ΛP (F := F)) 1) .tc) PUnit := Prog.lift (.customCall (SparseCore.inner (Pipeline.entry 1)) ())

theorem main_split (d : Dev nD) : main (F := F) d = (seq opsPre >>= fun _ => (call0 >>= fun _ => call1 >>= fun _ => sc.run d 0 >>= fun _ => seq opsPost)) := rfl

theorem opsPre_sub : (opsPre : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub ..⟩
theorem opsPost_sub : (opsPost : List (HloOp τ sig (Elt F))).Forall fun op => op.bufs ⊆ StableHlo.tcRefs τ sig :=
  ⟨StableHlo.unary_bufs_sub .., StableHlo.unary_bufs_sub .., StableHlo.unary_bufs_sub ..⟩

theorem opsPre_uc : ∀ op ∈ (opsPre : List (HloOp τ sig (Elt F))), op.bufs ⊆ Pipeline.ucRefs τ sig :=
  fun op h => Pipeline.sub_ucRefs op (List.forall_iff_forall_mem.1 opsPre_sub op h)
theorem opsPost_uc : ∀ op ∈ (opsPost : List (HloOp τ sig (Elt F))), op.bufs ⊆ Pipeline.ucRefs τ sig :=
  fun op h => Pipeline.sub_ucRefs op (List.forall_iff_forall_mem.1 opsPost_sub op h)
theorem opsPre_fresh : ∀ op ∈ (opsPre : List (HloOp τ sig (Elt F))), op.fresh = ∅ := by
  intro _ h; (repeat (cases h with | head => rfl | tail _ h => ?_)); exact nomatch h
theorem opsPost_fresh : ∀ op ∈ (opsPost : List (HloOp τ sig (Elt F))), op.fresh = ∅ := by
  intro _ h; (repeat (cases h with | head => rfl | tail _ h => ?_)); exact nomatch h

/-! ## The buffers' contents after each step -/

/-- The waits recorded before and by the two TensorCore calls: none of them the SparseCore call's. -/
def BW : Set (SemLoc sig × HIx 1) := {p | p.2 = none}

/-- After the host's first operations. -/
def V1 (d : Dev nD) : Valuation τ sig (Elt F) := after opsPre (launchContents m d)

abbrev dat0 (d : Dev nD) := Calls.K0.dat (Ix := HIx 1) (U := UU) (Lvl := ℕ) 𝒱₀ (fun c r => V1 m c (Proc.devRef .tc r)) (fun c => (K (F := F)).Otc c 0) BW d
/-- After the first call. -/
def V2 (d : Dev nD) : Valuation τ sig (Elt F) := Pipeline.afterRegion (dat0 m d) (V1 m d)

abbrev dat1 (d : Dev nD) := Calls.K1.dat (Ix := HIx 1) (U := UU) (Lvl := ℕ) 𝒱₀ (fun c r => V2 m c (Proc.devRef .tc r)) (fun c => (K (F := F)).Otc c 0) BW d
/-- After the second call. -/
def V3 (d : Dev nD) : Valuation τ sig (Elt F) := Pipeline.afterRegion (dat1 m d) (V2 m d)

/-- The memory the SparseCore call finds. -/
def mid : (ℓ : Loc nD τ sig) → Buf (Elt F) ℓ := fun ℓ => V3 m ℓ.1 ℓ.2

/-- After the SparseCore call. -/
def V4 (d : Dev nD) : Valuation τ sig (Elt F) :=
  Function.update (Function.update (V3 m d) (Proc.devRef .tc main_v28_0) (topIdx (F := F) (V3 m d (Proc.devRef .tc main_v27))))
    (Proc.devRef .tc main_v28_1) (topMask (F := F) (V3 m d (Proc.devRef .tc main_v27)))

/-- At the end. -/
def V5 (d : Dev nD) : Valuation τ sig (Elt F) := after opsPost (V4 m d)

/-! ## The TensorCore calls inside the host's program -/

abbrev adm : (p : Fin 2) → (pcfgs (F := F) p).Adm := fun p => (cfgs p).toPCfg_adm

def Vin : Fin 2 → (c : Dev nD) → (b : Ref sig .tc) → Buf (Elt F) ((c.tc : Thread nD τ).loc b)
  | 0 => fun c r => V1 m c (Proc.devRef .tc r)
  | 1 => fun c r => V2 m c (Proc.devRef .tc r)

abbrev DD : Fin 2 → Dev nD → CellTallies nD τ sig (HIx 1) := fun _ c => (K (F := F)).Otc c 0

local notation "ℙ" => Calls.pdats (Ix := HIx 1) (U := UU) (Lvl := ℕ) 𝒱₀ (Vin m) (DD (F := F)) BW (adm (F := F))

theorem waits_none (p : Fin 2) : (Pipeline.pin (pcfgs (F := F)) adm p).waitPairs (none : HIx 1) ⊆ BW := by
  rintro x ⟨w, s, rfl⟩; rfl

theorem cut (p : Fin 2) : Pipeline.LevelCut (pcfgs (F := F)) adm (none : HIx 1) ((K (F := F)).L (nD := nD)) (K (F := F)).lev p (DD (F := F) p) (fun _ => 0) where
  hι _ _ _ := Finset.mem_univ _
  hιb _ _ _ := le_rfl
  hD c g i h := ⟨Finset.mem_univ _, by
    have := (K (F := F)).lev_of_Otc_pos h
    omega⟩

theorem sub0 : Pipeline.arrRefs (pcfgs (F := F) 0).spec ⊆ Pipeline.ucRefs τ sig := Pipeline.arrRefs_sub_ucRefs _ fun w => (by decide : ∀ w : Fin 7, (Pipeline.arrRef spec0 w).isScoped = false) w
theorem sub1 : Pipeline.arrRefs (pcfgs (F := F) 1).spec ⊆ Pipeline.ucRefs τ sig := Pipeline.arrRefs_sub_ucRefs _ fun w => (by decide : ∀ w : Fin 8, (Pipeline.arrRef spec1 w).isScoped = false) w

def rg0 : Pipeline.RegionSeg (pcfgs (F := F)) adm ℙ none defs₀ 𝒱₀ (K (F := F)).L (K (F := F)).lev 0 :=
  Calls.reg0 𝒱₀ (Vin m) DD BW none adm _ _ (Pipeline.ucRefs τ sig) waits_none 0 cut (V1 m) sub0 rfl
def rg1 : Pipeline.RegionSeg (pcfgs (F := F)) adm ℙ none defs₀ 𝒱₀ (K (F := F)).L (K (F := F)).lev 1 :=
  Calls.reg1 𝒱₀ (Vin m) DD BW none adm _ _ (Pipeline.ucRefs τ sig) waits_none 0 cut (V2 m) sub1 rfl

/-- A TensorCore call of the host's program runs as its region. -/
theorem region_step [∀ e, Nonempty (Elt F e)] {p : Fin 2} (R : Pipeline.RegionSeg (pcfgs (F := F)) adm ℙ none defs₀ 𝒱₀ (K (F := F)).L (K (F := F)).lev p)
    (d : Dev nD) (Φ : PUnit → sProp 𝕄) :
    iprop((iprop(boundary (d.tc : Thread nD τ) ∗ R.post d) -∗ Φ ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (d.tc : Thread nD τ) none) Set.univ
          (Prog.lift (.customCall (SparseCore.inner (Pipeline.entry p)) ())) Φ := by
  have h : iprop((iprop(boundary (d.tc : Thread nD τ) ∗ R.post d) -∗ Φ ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ (iprop((iprop(boundary (d.tc : Thread nD τ) ∗ R.post d) -∗ wp frame (wpE (D (F := F)) 𝒱 (d.tc : Thread nD τ) none) Set.univ (.ret ⟨⟩) Φ)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) : sProp 𝕄) := by
    iintro ⟨Hk, H⟩
    isplitl [Hk]
    · iintro H; rw [wp_ret]; imodintro; iapply Hk; iexact H
    iexact H
  exact (h.trans (Pipeline.RegionSeg.wp (pcfgs (F := F)) adm ℙ none cellOf_inj EP defs₀ 𝒱₀ (K (F := F)).L (K (F := F)).lev R d none (fun _ h => nomatch h)
    (fun u => .ret u) Φ)).trans ((K (F := F)).wp_liftProg (D (F := F)) 𝒱 (d.tc : Thread nD τ) Set.univ none
    (.op (.customCall (Pipeline.entry p) ()) fun u => .ret u) Φ)

/-! ## The launch's ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each TensorCore holds for its two calls. -/
def GG (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

theorem bigSep_emp' {I : Type} (s : Finset I) : (bigSep s fun _ => iprop(emp)) = (iprop(emp) : sProp 𝕄) := bigSep_emp_const s

theorem four_swap (A B C D : sProp 𝕄) : iprop((A ∗ B) ∗ C ∗ D) ⊢ (iprop((A ∗ C) ∗ B ∗ D) : sProp 𝕄) := by
  iintro ⟨⟨HA, HB⟩, HC, HD⟩
  isplitl [HA HC]
  · isplitl [HA] <;> iassumption
  · isplitl [HB] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun th : Thread nD τ => bigSep Finset.univ fun q : Fin 1 => (P (mid m)).x q th) := by
  unfold u₀
  iintro Hu
  ihave H := (ownU_pair _ _) $$ Hu
  icases H with ⟨HH, HR⟩
  ihave H := (own_pair_emb _ _ _) $$ HR
  icases H with ⟨HP, -⟩
  ihave HP := (show (BI.own (((Emb.inl : Emb UP (UP × Counters)).trans embR) (initOf (Pipeline.cells (Pipeline.pin (pcfgs (F := F)) adm) cellOf_inj)
      (Pipeline.launchToks (Pipeline.pin (pcfgs (F := F)) adm) cellOf_inj))) : sProp 𝕄) ⊢ BI.own (EP (initOf (Pipeline.cells (Pipeline.pin (pcfgs (F := F)) adm) cellOf_inj)
      (Pipeline.launchToks (Pipeline.pin (pcfgs (F := F)) adm) cellOf_inj))) from .rfl) $$ HP
  imod (Pipeline.fund_ghost (Pipeline.pin (pcfgs (F := F)) adm) EP cellOf_inj) $$ HP with ⟨HC, HT⟩
  imodintro
  isplitl [HH]; · iexact HH
  isplitl [HC HT]
  · unfold GG
    rw [bigSep_sep', bigSep_sep', bigSep_sep']
    rw [bigSep_congr (fun (d : Dev nD) _ => (BI.bigSep_univ_two (fun p : Fin 2 => Pipeline.cellsGhost (Pipeline.pin (pcfgs (F := F)) adm) EP p d))), bigSep_sep',
      bigSep_congr (fun (d : Dev nD) _ => (BI.bigSep_univ_two (fun p : Fin 2 => Pipeline.toksInit (Pipeline.pin (pcfgs (F := F)) adm) EP p d))), bigSep_sep']
    exact four_swap _ _ _ _
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's run -/

/-- The SparseCore call's three arrays. -/
def scRefs : Finset (DevRef τ sig) := {Proc.devRef .tc main_v27, Proc.devRef .tc main_v28_0, Proc.devRef .tc main_v28_1}

theorem scRefs_sub : scRefs ⊆ Pipeline.ucRefs τ sig := by decide

theorem held_sc (d : Dev nD) (W : Valuation τ sig (Elt F)) :
    (held (d.tc : Thread nD τ) scRefs W : sProp 𝕄)
      = iprop((xLoc d ↦{fullShare} W (Proc.devRef .tc main_v27)) ∗ (iLoc d ↦{fullShare} W (Proc.devRef .tc main_v28_0))
          ∗ (kLoc d ↦{fullShare} W (Proc.devRef .tc main_v28_1))) := by
  unfold held scRefs
  rw [SparseCore.bigSep_insert' (by decide), SparseCore.bigSep_insert' (by decide), bigSep_singleton]

theorem V4_v27 (d : Dev nD) : V4 m d (Proc.devRef .tc main_v27) = V3 m d (Proc.devRef .tc main_v27) := by
  unfold V4; rw [Function.update_of_ne (by decide), Function.update_of_ne (by decide)]
theorem V4_v28_0 (d : Dev nD) : V4 m d (Proc.devRef .tc main_v28_0) = topIdx (F := F) (V3 m d (Proc.devRef .tc main_v27)) := by
  unfold V4; rw [Function.update_of_ne (by decide), Function.update_self]
theorem V4_v28_1 (d : Dev nD) : V4 m d (Proc.devRef .tc main_v28_1) = topMask (F := F) (V3 m d (Proc.devRef .tc main_v27)) := by
  unfold V4; rw [Function.update_self]
theorem V4_off (d : Dev nD) (b : DevRef τ sig) (hb : b ∉ scRefs) : V4 m d b = V3 m d b := by
  unfold V4
  rw [Function.update_of_ne (fun h => hb (by rw [h]; decide)), Function.update_of_ne (fun h => hb (by rw [h]; decide))]

theorem below_of_BW (d : Dev nD) (W : Waits sig (HIx 1)) (h : (↑W : Set (SemLoc sig × HIx 1)) ⊆ BW) :
    (K (F := F)).WBelow (SparseCore.T d : Thread nD τ) W (8 * SparseCore.Cfg.Blocks.fst 1 1 0) := fun p hp => by
  have : p.2 = none := h hp
  rw [this]; exact Nat.zero_le _
theorem BW_of_below (d : Dev nD) (W : Waits sig (HIx 1))
    (h : (K (F := F)).WBelow (SparseCore.T d : Thread nD τ) W (8 * SparseCore.Cfg.Blocks.fst 1 1 0)) :
    (↑W : Set (SemLoc sig × HIx 1)) ⊆ BW := fun p hp => by
  have h1 := h p hp
  rcases hq : p.2 with _ | q
  · exact hq
  · rw [hq] at h1
    have := (K (F := F)).lev_some_pos ((SparseCore.T d : Thread nD τ), p.1) q
    have h0 : SparseCore.Cfg.Blocks.fst 1 1 0 = 0 := rfl
    omega

theorem hmain [∀ e, Nonempty (Elt F e)] (κ : GSem nD τ sig → ℕ) (d : Dev nD) :
    iprop((K (F := F)).ctx EH (P (mid m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ held (d.tc : Thread nD τ) (Pipeline.ucRefs τ sig) (V5 m d) ∗ (K (F := F)).tcEnd d) := by
  unfold SparseCore.Cfg.tcRes SparseCore.Cfg.tcEnd
  rw [show (unscopedBufs d (fun b => m ((SparseCore.T d : Thread nD τ).loc b)) : sProp 𝕄) = held (d.tc : Thread nD τ) (Pipeline.ucRefs τ sig) (launchContents m d)
    from Pipeline.unscopedBufs_held d (launchContents m d), main_split]
  unfold GG
  iintro ⟨#Hctx, Hst, ⟨Hb, Hh, Hts, Hr⟩, ⟨HC0, HT0⟩, ⟨HC1, HT1⟩⟩
  ihave Hlev := (SparseCore.Cfg.ctx_levAts κ) $$ Hctx
  icases Hlev with #Hlev
  iapply (StableHlo.wp_seq 𝒱 none Set.univ d (Pipeline.ucRefs τ sig) _ opsPre opsPre_uc opsPre_fresh (launchContents m d)) $$ [Hb Hh]
  · isplitl [Hb] <;> iassumption
  iintro ⟨Hb, Hh⟩
  unfold SparseCore.Cfg.tcSt
  icases Hst with ⟨⟨%W, %hW, HO⟩, Hst⟩
  rw [wp_bind]
  iapply (region_step m (rg0 m) d _)
  isplitr [Hb Hh Hr HO HC0 HT0]
  swap
  · isplitl [Hb]; · iexact Hb
    isplitl [Hh Hr HO]
    · rw [show (rg0 m).pre d = iprop(held (d.tc : Thread nD τ) (Pipeline.ucRefs τ sig) (V1 m d) ∗ (∃ r, prngReg d r) ∗ Pipeline.owesWithin d ((K (F := F)).Otc d 0) BW) from rfl]
      isplitl [Hh]; · iexact Hh
      isplitl [Hr]; · iexists _; iexact Hr
      iexists W; isplitr; · ipureintro; exact BW_of_below d W hW
      iexact HO
    isplitr; · iexact Hlev
    isplitl [HC0] <;> iassumption
  iintro ⟨Hb, Hp⟩
  ihave Hp := (show (rg0 m).post d ⊢ iprop(held (d.tc : Thread nD τ) (Pipeline.ucRefs τ sig) (V2 m d) ∗ (∃ r, prngReg d r) ∗ Pipeline.owesWithin d ((K (F := F)).Otc d 0) BW) from .rfl) $$ Hp
  icases Hp with ⟨Hh, Hr, HO⟩
  rw [wp_bind]
  iapply (region_step m (rg1 m) d _)
  isplitr [Hb Hh Hr HO HC1 HT1]
  swap
  · isplitl [Hb]; · iexact Hb
    isplitl [Hh Hr HO]
    · rw [show (rg1 m).pre d = iprop(held (d.tc : Thread nD τ) (Pipeline.ucRefs τ sig) (V2 m d) ∗ (∃ r, prngReg d r) ∗ Pipeline.owesWithin d ((K (F := F)).Otc d 0) BW) from rfl]
      isplitl [Hh]; · iexact Hh
      isplitl [Hr]; · iexact Hr
      iexact HO
    isplitr; · iexact Hlev
    isplitl [HC1] <;> iassumption
  iintro ⟨Hb, Hp⟩
  ihave Hp := (show (rg1 m).post d ⊢ iprop(held (d.tc : Thread nD τ) (Pipeline.ucRefs τ sig) (V3 m d) ∗ (∃ r, prngReg d r) ∗ Pipeline.owesWithin d ((K (F := F)).Otc d 0) BW) from .rfl) $$ Hp
  icases Hp with ⟨Hh, Hr, ⟨%W', %hW', HO⟩⟩
  rw [wp_bind]
  ihave Hh := (Entails.of_eq ((StableHlo.held_sub_split (d.tc : Thread nD τ) scRefs_sub (V3 m d)).trans (by rw [held_sc]))) $$ Hh
  icases Hh with ⟨Hx, Hh⟩
  iapply ((K (F := F)).wp_run (D (F := F)) 𝒱 (EH := EH) (P := P (mid m)) κ d 0)
  isplitr; · iexact Hctx
  isplitl [Hst HO]
  · unfold SparseCore.Cfg.tcSt
    isplitl [HO]
    · iexists W'; isplitr; · ipureintro; exact below_of_BW d W' hW'
      iexact HO
    iexact Hst
  isplitl [Hx]
  · rw [st0_eq]; iexact Hx
  iintro ⟨Hst, Hdn⟩
  ihave Hdn' := (Entails.of_eq (dn0_eq (mid m) d)) $$ Hdn
  rw [show (seq opsPost : Prog (TpuEff nD τ sig (Elt F) (SparseCore.Sig (ΛP (F := F)) 1) .tc) PUnit) = (seq opsPost >>= fun u => Pure.pure u) from (bind_pure _).symm]
  iapply (StableHlo.wp_seq 𝒱 none Set.univ d (Pipeline.ucRefs τ sig) _ opsPost opsPost_uc opsPost_fresh (V4 m d)) $$ [Hb Hh Hdn']
  · isplitl [Hb]; · iexact Hb
    rw [StableHlo.held_sub_split (d.tc : Thread nD τ) scRefs_sub (V4 m d), held_sc, V4_v27, V4_v28_0, V4_v28_1,
      StableHlo.held_congr (d.tc : Thread nD τ) (S := Pipeline.ucRefs τ sig \ scRefs) (V := V4 m d) (V' := V3 m d) fun b hb => V4_off m d b (Finset.mem_sdiff.mp hb).2]
    isplitl [Hdn']; · iexact Hdn'
    iexact Hh
  iintro ⟨Hb, Hh⟩
  rw [wp_pure]; imodintro
  ihave Hst := (show (K (F := F)).tcSt EH d ((0 : Fin 1).val + 1) ⊢ ((K (F := F)).tcSt EH d 1 : sProp 𝕄) from .rfl) $$ Hst
  unfold SparseCore.Cfg.tcSt
  isplitl [Hst]; · iexact Hst
  isplitl [Hh]; · iexact Hh
  isplitl [Hb] <;> iassumption

/-- The memory at the end: every unscoped buffer as computed. -/
def fq (d : Dev nD) (s' : Phys nD τ sig (Elt F)) : Prop := ∀ b ∈ Pipeline.ucRefs τ sig, s'.mem.mem (d, b) = V5 m d b

theorem hfin (d : Dev nD) (s' : Phys nD τ sig (Elt F)) :
    iprop(held (d.tc : Thread nD τ) (Pipeline.ucRefs τ sig) (V5 m d) ∗ SI s') ⊢ (⌜fq m d s'⌝ : sProp 𝕄) := by
  unfold held
  iintro ⟨H, HSI⟩
  iapply (SI_pointsTo_bufs_agree (qs := fun _ => fullShare) (Pipeline.ucRefs τ sig)) $$ [HSI H]
  isplitl [HSI] <;> iassumption

/-- Every run ends, with every unscoped buffer as computed and every semaphore at zero. -/
theorem run_main [∀ e, Nonempty (Elt F e)] : θ_run (Cert.KernelIdeal.defs (F := F)) (Cert.KernelIdeal.threads (F := F)) ⟨m, fun _ => 0, ρ⟩
    (fun r => (∀ d : Dev nD, ∀ b ∈ Pipeline.ucRefs τ sig, r.2.mem (d, b) = V5 m d b) ∧ r.2.sem = fun _ => 0) :=
  SparseCore.Cfg.θ_run_sc_quiescent (K := K (F := F)) (D := D (F := F)) (𝒱 := 𝒱) (EH := EH) (P := P (mid m)) (A := ∅) facts v₀
    (fun q hq => match q with | 0 => nomatch hq)
    (fun q _ => match q with | 0 => tileObl (mid m))
    (fun q _ => match q with | 0 => SparseCore.Cfg.VecSplit.of_plain (vecSplit (mid m)))
    m ρ main (GG (F := F)) (fun d => held (d.tc : Thread nD τ) (Pipeline.ucRefs τ sig) (V5 m d)) (u₀ (F := F)) (sep_elim_left.trans (hu₀ m)) (hmain m ρ) (fq m) (hfin m) _
    (fun _ h hz => ⟨h, hz⟩)

end Cert.Proof.Topk

end
-- ==== Proof.Ends.lean ====
/-
  The buffers the program is judged by, at the end: the arguments hold what they held at the start, and the results the
  SparseCore call's two arrays and the second TensorCore call's, each under a leading axis.
-/
module

public import proofs.«01_k».proof.Proof.Host
public import Idealize.ShloMosaic.Lib.Pipeline.RegionArraysS

@[expose] public section

set_option maxRecDepth 65536
set_option maxHeartbeats 1000000

noncomputable section

namespace Cert.Proof.Topk

open Cert.KernelIdeal Cert.KernelIdeal.Gen Cert.KernelIdeal.Net
open Idealize.ShloMosaic Idealize.SL Idealize.SL.Sem
open Idealize.ShloMosaic.Tactic
open Idealize.ShloMosaic.StableHlo (after launchContents)

variable {F : FTy → Type} [FloatOps F]
variable (m : (ℓ : Loc nD τ sig) → Buf (Elt F) ℓ) (d : Dev nD)

/-! ## Across the calls -/

/-- The first call changes the array it stores only. -/
theorem V2_keeps (r : Ref sig .tc) (h : r ≠ main_v26) : V2 m d (Proc.devRef .tc r) = V1 m d (Proc.devRef .tc r) := by
  refine Pipeline.afterRegion_keeps (dat0 m d) (V1 m d) winFacts0.arr_inj (fun w => rfl) r fun w e => ?_
  revert e
  fin_cases w <;> intro e <;> first | rfl | exact absurd e.symm h

/-- The second call changes the array it stores only. -/
theorem V3_keeps (r : Ref sig .tc) (h : r ≠ main_v27) : V3 m d (Proc.devRef .tc r) = V2 m d (Proc.devRef .tc r) := by
  refine Pipeline.afterRegion_keeps (dat1 m d) (V2 m d) winFacts1.arr_inj (fun w => rfl) r fun w e => ?_
  revert e
  fin_cases w <;> intro e <;> first | rfl | exact absurd e.symm h

theorem V4_keeps (r : Ref sig .tc) (h0 : r ≠ main_v28_0) (h1 : r ≠ main_v28_1) :
    V4 m d (Proc.devRef .tc r) = V3 m d (Proc.devRef .tc r) := by
  unfold V4
  rw [Function.update_of_ne fun e => h1 (Proc.devRef_injective _ e), Function.update_of_ne fun e => h0 (Proc.devRef_injective _ e)]

/-! ## The results -/

theorem V5_mask : V5 m d (Proc.devRef .tc main_v29) = broadcastInDim S1x2048x2048 ![1, 2] bcast_S2048x2048_S1x2048x2048_1_2
    (topMask (F := F) (V3 m d (Proc.devRef .tc main_v27))) := by
  have e : V4 m d (Proc.devRef .tc main_v28_1) = topMask (F := F) (V3 m d (Proc.devRef .tc main_v27)) := Function.update_self _ _ _
  rw [← e]
  unfold V5 opsPost
  after_results_simp

theorem V5_idx : V5 m d (Proc.devRef .tc main_v30) = broadcastInDim S1x2048x64 ![1, 2] bcast_S2048x64_S1x2048x64_1_2
    (topIdx (F := F) (V3 m d (Proc.devRef .tc main_v27))) := by
  have e : V4 m d (Proc.devRef .tc main_v28_0) = topIdx (F := F) (V3 m d (Proc.devRef .tc main_v27)) := by
    unfold V4
    rw [Function.update_of_ne fun e => absurd (Proc.devRef_injective _ e) (by decide)]
    exact Function.update_self _ _ _
  rw [← e]
  unfold V5 opsPost
  after_results_simp

theorem V5_score : V5 m d (Proc.devRef .tc main_v31) = broadcastInDim S1x2048x2048 ![1, 2] bcast_S2048x2048_S1x2048x2048_1_2
    (V3 m d (Proc.devRef .tc main_v27)) := by
  rw [← V4_keeps m d main_v27 (by decide) (by decide)]
  unfold V5 opsPost
  after_results_simp

/-! ## The arguments -/

theorem V5_of (r : Ref sig .tc) (hV1 : V1 m d (Proc.devRef .tc r) = m ((d.tc : Thread nD τ).loc r))
    (hV5 : V5 m d (Proc.devRef .tc r) = V4 m d (Proc.devRef .tc r))
    (h26 : r ≠ main_v26) (h27 : r ≠ main_v27) (h0 : r ≠ main_v28_0) (h1 : r ≠ main_v28_1) :
    V5 m d (Proc.devRef .tc r) = m ((d.tc : Thread nD τ).loc r) :=
  hV5.trans ((V4_keeps m d r h0 h1).trans ((V3_keeps m d r h27).trans ((V2_keeps m d r h26).trans hV1)))

/-- The arguments are at the end what they were. -/
theorem V5_args : V5 m d (Proc.devRef .tc main_arg0) = m ((d.tc : Thread nD τ).loc main_arg0)
    ∧ V5 m d (Proc.devRef .tc main_arg1) = m ((d.tc : Thread nD τ).loc main_arg1)
    ∧ V5 m d (Proc.devRef .tc main_arg2) = m ((d.tc : Thread nD τ).loc main_arg2)
    ∧ V5 m d (Proc.devRef .tc main_arg3) = m ((d.tc : Thread nD τ).loc main_arg3)
    ∧ V5 m d (Proc.devRef .tc main_arg4) = m ((d.tc : Thread nD τ).loc main_arg4)
    ∧ V5 m d (Proc.devRef .tc main_arg5) = m ((d.tc : Thread nD τ).loc main_arg5)
    ∧ V5 m d (Proc.devRef .tc main_arg6) = m ((d.tc : Thread nD τ).loc main_arg6)
    ∧ V5 m d (Proc.devRef .tc main_arg7) = m ((d.tc : Thread nD τ).loc main_arg7)
    ∧ V5 m d (Proc.devRef .tc main_arg8) = m ((d.tc : Thread nD τ).loc main_arg8) := by
  refine ⟨?_, ?_, ?_, ?_, ?_, ?_, ?_, ?_, ?_⟩ <;>
    exact V5_of m d _ (by unfold V1 opsPre; after_results_simp <;> rfl) (by unfold V5 opsPost; after_results_simp)
      (by decide) (by decide) (by decide) (by decide)

end Cert.Proof.Topk

end
-- ==== Proof.Scores.lean ====
/-
  The index scores as extended reals: a key's row is the normalized linear image of its input row with its first
  sixty-four features turned by the row's angles, a head's query is a turned linear image, and a score is the sum over
  the heads of the product of query and key, where positive, times the head's weight.
-/
module

public import Idealize.ShloMosaic.PureOps.Ideal.Laws

@[expose] public section

noncomputable section

namespace Cert.Proof.Scores

open Idealize.ShloMosaic

/-- The zero offsets. -/
theorem zeros : (![0, 0] : Fin 2 → ℕ) = fun _ => 0 := by funext a; fin_cases a <;> rfl

/-- Feature `d` of a row with its first sixty-four features turned, feature `j` with feature `j + 32`, by the angle whose
    cosine and sine are `c j` and `s j`. -/
def rope (x : Fin 128 → EReal) (c s : Fin 32 → EReal) (d : Fin 128) : EReal :=
  if h : d.val < 32 then x d * c ⟨d.val, h⟩ - x ⟨d.val + 32, by omega⟩ * s ⟨d.val, h⟩
  else if h' : d.val < 64 then x d * c ⟨d.val - 32, by omega⟩ + x ⟨d.val - 32, by omega⟩ * s ⟨d.val - 32, by omega⟩
  else x d

/-- The same, by the place within each of the three pieces it is joined of. -/
theorem rope_pieces (x : Fin 128 → EReal) (c s : Fin 32 → EReal) (d : Fin 128) :
    (if h : d.val < 32 then x d * c ⟨d.val, h⟩ - x ⟨32 + d.val, by omega⟩ * s ⟨d.val, h⟩
      else if h' : d.val - 32 < 32 then
        x ⟨32 + (d.val - 32), by omega⟩ * c ⟨d.val - 32, h'⟩ + x ⟨d.val - 32, by omega⟩ * s ⟨d.val - 32, h'⟩
      else x ⟨64 + (d.val - 32 - 32), by omega⟩) = rope x c s d := by
  unfold rope
  by_cases h : d.val < 32
  · simp only [dif_pos h, Nat.add_comm 32]
  · have e : (⟨32 + (d.val - 32), by omega⟩ : Fin 128) = d := Fin.ext (by show 32 + (d.val - 32) = d.val; omega)
    by_cases h' : d.val < 64
    · simp only [dif_neg h, dif_pos h', dif_pos (show d.val - 32 < 32 by omega), e]
    · have e' : (⟨64 + (d.val - 32 - 32), by omega⟩ : Fin 128) = d := Fin.ext (by show 64 + (d.val - 32 - 32) = d.val; omega)
      simp only [dif_neg h, dif_neg h', dif_neg (show ¬ d.val - 32 < 32 by omega), e']

/-- The same, by the place within each of two nested pairs of pieces. -/
theorem rope_pairs (x : Fin 128 → EReal) (c s : Fin 32 → EReal) (d : Fin 128) :
    (if h : d.val < 64 then
        if h' : d.val < 32 then x d * c ⟨d.val, h'⟩ - x ⟨32 + d.val, by omega⟩ * s ⟨d.val, h'⟩
        else x ⟨32 + (d.val - 32), by omega⟩ * c ⟨d.val - 32, by omega⟩ + x ⟨d.val - 32, by omega⟩ * s ⟨d.val - 32, by omega⟩
      else x ⟨64 + (d.val - 64), by omega⟩) = rope x c s d := by
  rw [← rope_pieces]
  by_cases h : d.val < 64
  · by_cases h' : d.val < 32
    · simp only [dif_pos h, dif_pos h']
    · simp only [dif_pos h, dif_neg h', dif_pos (show d.val - 32 < 32 by omega)]
  · simp only [dif_neg h, dif_neg (show ¬ d.val < 32 by omega), dif_neg (show ¬ d.val - 32 < 32 by omega)]
    exact congrArg x (Fin.ext (by show 64 + (d.val - 64) = 64 + (d.val - 32 - 32); omega))

/-- The mean of a row of 128 features. -/
def mean (x : Fin 128 → EReal) : EReal := Ideal.div (∑ d, x d) (Ideal.ofBits .f32 0x43000000#32)

/-- A row normalized: its mean taken off, divided by the root of its variance, scaled and shifted. -/
def normed (x : Fin 128 → EReal) (g b : Fin 128 → EReal) (d : Fin 128) : EReal :=
  (x d - mean x) * Ideal.rsqrt (mean (fun e => (x e - mean x) * (x e - mean x)) + Ideal.ofBits .f32 0x358637BD#32) * g d + b d

/-- A row times a matrix. -/
def linear {n m : ℕ} (x : Fin n → EReal) (w : Fin n → Fin m → EReal) (d : Fin m) : EReal := ∑ e, x e * w e d

/-- One head's share of a score. -/
def headScore (q k : Fin 128 → EReal) (w : EReal) : EReal := max (∑ d, q d * k d) 0 * w

end Cert.Proof.Scores

end
-- ==== Proof.KeyValue.lean ====
/-
  What the first TensorCore call stores: a key block is its input block's rows times the matrix, normalized and turned.
-/
module

public import proofs.«01_k».proof.Proof.CallKey
public import proofs.«01_k».proof.Proof.Scores
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.ReduceUnfold
public import Idealize.ShloMosaic.Lib.Pipeline.Value

@[expose] public section

set_option maxRecDepth 65536
set_option maxHeartbeats 1000000

noncomputable section

namespace Cert.KernelIdeal.Calls.K0

open Cert.KernelIdeal Cert.KernelIdeal.Gen
open Idealize.ShloMosaic Idealize.ShloMosaic.TcCoe Idealize.ShloMosaic.Tactic Idealize.SL Idealize.SL.RA Idealize.SL.Sem
open Idealize.ShloMosaic.Pipeline (Dat Cfg)
open Cert.Proof.Scores

section Block
variable {F : FTy → Type} [FloatOps F]

/-- The block stored, of the blocks read. -/
def keyBlock (x0 : Vec F S512x2048 .f32) (x1 : Vec F S2048x128 .f32) (x2 x3 : Vec F S512x32 .f32) (x4 x5 : Vec F S1x128 .f32) : FVec F S512x128 .f32 :=
  k0_pay1 (k0_pay4 x3) (k0_pay5 x0 x1 x4 x5) (k0_pay7 x0 x1 x4 x5) (k0_pay8 x0 x1 x4 x5 x2 x3) (k0_pay9 x0 x1 x4 x5 x2)

end Block

theorem pay2_apply (x0 : Vec Ideal S512x2048 .f32) (x1 : Vec Ideal S2048x128 .f32) (x4 x5 : Vec Ideal S1x128 .f32) (r : Fin 512) (d : Fin 128) :
    k0_pay2 (F := Ideal) x0 x1 x4 x5 (ix2 r d)
      = normed (linear (fun e => x0 (ix2 r e)) (fun e d => x1 (ix2 e d))) (fun d => x4 (ix2 0 d)) (fun d => x5 (ix2 0 d)) d := by
  unfold k0_pay2
  pointwise
  rfl

theorem keyBlock_apply (x0 : Vec Ideal S512x2048 .f32) (x1 : Vec Ideal S2048x128 .f32) (x2 x3 : Vec Ideal S512x32 .f32) (x4 x5 : Vec Ideal S1x128 .f32)
    (r : Fin 512) (d : Fin 128) :
    keyBlock (F := Ideal) x0 x1 x2 x3 x4 x5 (ix2 r d)
      = rope (fun d => k0_pay2 (F := Ideal) x0 x1 x4 x5 (ix2 r d)) (fun j => x2 (ix2 r j)) (fun j => x3 (ix2 r j)) d := by
  unfold keyBlock k0_pay1 k0_pay5 k0_pay7 k0_pay8 k0_pay9 k0_pay6 k0_pay3 k0_pay4 k0_pay5
  pointwise
  exact rope_pieces (fun d => k0_pay2 (F := Ideal) x0 x1 x4 x5 (ix2 r d)) (fun j => x2 (ix2 r j)) (fun j => x3 (ix2 r j)) d

section Point
variable {F : FTy → Type} [FloatOps F] [∀ e, Nonempty (Elt F e)]
variable {Ix : Type} [DecidableEq Ix] {U : Type} [URA U] {Lvl : Type} [Preorder Lvl]

/-- What the body leaves at a point is the block of the blocks it read there. -/
theorem outsAt_eq (𝒱₀ : Variants) (V : (c : Dev nD) → (b : Ref sig .tc) → Buf (Elt F) ((c : Thread nD τ).loc b)) (c : Dev nD) (t : Fin cfg0.N) :
    outsAt0 (Ix := Ix) (U := U) (Lvl := Lvl) 𝒱₀ V c t = keyBlock (iblk V c 0 t) (iblk V c 1 t) (iblk V c 2 t) (iblk V c 3 t) (iblk V c 4 t) (iblk V c 5 t) := by
  unfold outsAt0 out0_A_6
  rw [View.read_writes_eq_canon _ _ _ (cover0_A_6 (Ix := Ix) (U := U) (Lvl := Lvl) 𝒱₀ c _ _ _ _ _ _ _ _ _ _ _ _ _ _ _ (iblk V c 0 t) (iblk V c 1 t) (iblk V c 2 t) (iblk V c 3 t) (iblk V c 4 t) (iblk V c 5 t))]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  refine (View.canon_unit_zero (S := S512x128) zeros _ _).trans ?_
  simp only [View.ld_unit_zero (S := S512x2048) zeros, View.ld_unit_zero (S := S2048x128) zeros, View.ld_unit_zero (S := S512x32) zeros, View.ld_unit_zero (S := S1x128) zeros]
  rfl

end Point

section Array
variable {Ix : Type} [DecidableEq Ix] {U : Type} [URA U] {Lvl : Type} [Preorder Lvl]

/-- The array's row that is row `a` of the block at point `t`. -/
def row (t : Fin cfg0.N) (a : Fin 512) : Fin 2048 :=
  ⟨512 * t.val + a.val, by have h : t.val < 4 := t.isLt; omega⟩

theorem idx_0 : ∀ t : Fin cfg0.N, win0_0.index t (0 : Fin 2) = t.val ∧ win0_0.index t (1 : Fin 2) = 0 :=
  (by decide +kernel : ∀ t : Fin grid0.N, _)

theorem emb_0 (t : Fin cfg0.N) (a : Fin 512) (b : Fin 2048) :
    ((cfg0.win 0).blk t).view.emb (ix2 a b : (⟨2, ![512, 2048]⟩ : Shape).Idx) = (ix2 (row t a) b : (⟨2, ![2048, 2048]⟩ : Shape).Idx) := by
  obtain ⟨e0, e1⟩ := idx_0 t
  funext x; apply Fin.ext
  match x with
  | ⟨0, _⟩ => show win0_0.index t (0 : Fin 2) * 512 + 1 * a.val = 512 * t.val + a.val; omega
  | ⟨1, _⟩ => show win0_0.index t (1 : Fin 2) * 2048 + 1 * b.val = b.val; omega

theorem idx_1 : ∀ t : Fin cfg0.N, win0_1.index t (0 : Fin 2) = 0 ∧ win0_1.index t (1 : Fin 2) = 0 :=
  (by decide +kernel : ∀ t : Fin grid0.N, _)

theorem emb_1 (t : Fin cfg0.N) (a : Fin 2048) (b : Fin 128) :
    ((cfg0.win 1).blk t).view.emb (ix2 a b : (⟨2, ![2048, 128]⟩ : Shape).Idx) = (ix2 a b : (⟨2, ![2048, 128]⟩ : Shape).Idx) := by
  obtain ⟨e0, e1⟩ := idx_1 t
  funext x; apply Fin.ext
  match x with
  | ⟨0, _⟩ => show win0_1.index t (0 : Fin 2) * 2048 + 1 * a.val = a.val; omega
  | ⟨1, _⟩ => show win0_1.index t (1 : Fin 2) * 128 + 1 * b.val = b.val; omega

theorem idx_2 : ∀ t : Fin cfg0.N, win0_2.index t (0 : Fin 2) = t.val ∧ win0_2.index t (1 : Fin 2) = 0 :=
  (by decide +kernel : ∀ t : Fin grid0.N, _)

theorem emb_2 (t : Fin cfg0.N) (a : Fin 512) (b : Fin 32) :
    ((cfg0.win 2).blk t).view.emb (ix2 a b : (⟨2, ![512, 32]⟩ : Shape).Idx) = (ix2 (row t a) b : (⟨2, ![2048, 32]⟩ : Shape).Idx) := by
  obtain ⟨e0, e1⟩ := idx_2 t
  funext x; apply Fin.ext
  match x with
  | ⟨0, _⟩ => show win0_2.index t (0 : Fin 2) * 512 + 1 * a.val = 512 * t.val + a.val; omega
  | ⟨1, _⟩ => show win0_2.index t (1 : Fin 2) * 32 + 1 * b.val = b.val; omega

theorem idx_3 : ∀ t : Fin cfg0.N, win0_3.index t (0 : Fin 2) = t.val ∧ win0_3.index t (1 : Fin 2) = 0 :=
  (by decide +kernel : ∀ t : Fin grid0.N, _)

theorem emb_3 (t : Fin cfg0.N) (a : Fin 512) (b : Fin 32) :
    ((cfg0.win 3).blk t).view.emb (ix2 a b : (⟨2, ![512, 32]⟩ : Shape).Idx) = (ix2 (row t a) b : (⟨2, ![2048, 32]⟩ : Shape).Idx) := by
  obtain ⟨e0, e1⟩ := idx_3 t
  funext x; apply Fin.ext
  match x with
  | ⟨0, _⟩ => show win0_3.index t (0 : Fin 2) * 512 + 1 * a.val = 512 * t.val + a.val; omega
  | ⟨1, _⟩ => show win0_3.index t (1 : Fin 2) * 32 + 1 * b.val = b.val; omega

theorem idx_4 : ∀ t : Fin cfg0.N, win0_4.index t (0 : Fin 2) = 0 ∧ win0_4.index t (1 : Fin 2) = 0 :=
  (by decide +kernel : ∀ t : Fin grid0.N, _)

theorem emb_4 (t : Fin cfg0.N) (a : Fin 1) (b : Fin 128) :
    ((cfg0.win 4).blk t).view.emb (ix2 a b : (⟨2, ![1, 128]⟩ : Shape).Idx) = (ix2 a b : (⟨2, ![1, 128]⟩ : Shape).Idx) := by
  obtain ⟨e0, e1⟩ := idx_4 t
  funext x; apply Fin.ext
  match x with
  | ⟨0, _⟩ => show win0_4.index t (0 : Fin 2) * 1 + 1 * a.val = a.val; omega
  | ⟨1, _⟩ => show win0_4.index t (1 : Fin 2) * 128 + 1 * b.val = b.val; omega

theorem idx_5 : ∀ t : Fin cfg0.N, win0_5.index t (0 : Fin 2) = 0 ∧ win0_5.index t (1 : Fin 2) = 0 :=
  (by decide +kernel : ∀ t : Fin grid0.N, _)

theorem emb_5 (t : Fin cfg0.N) (a : Fin 1) (b : Fin 128) :
    ((cfg0.win 5).blk t).view.emb (ix2 a b : (⟨2, ![1, 128]⟩ : Shape).Idx) = (ix2 a b : (⟨2, ![1, 128]⟩ : Shape).Idx) := by
  obtain ⟨e0, e1⟩ := idx_5 t
  funext x; apply Fin.ext
  match x with
  | ⟨0, _⟩ => show win0_5.index t (0 : Fin 2) * 1 + 1 * a.val = a.val; omega
  | ⟨1, _⟩ => show win0_5.index t (1 : Fin 2) * 128 + 1 * b.val = b.val; omega

theorem idx_6 : ∀ t : Fin cfg0.N, win0_6.index t (0 : Fin 2) = t.val ∧ win0_6.index t (1 : Fin 2) = 0 :=
  (by decide +kernel : ∀ t : Fin grid0.N, _)

theorem emb_6 (t : Fin cfg0.N) (a : Fin 512) (b : Fin 128) :
    ((cfg0.win 6).blk t).view.emb (ix2 a b : (⟨2, ![512, 128]⟩ : Shape).Idx) = (ix2 (row t a) b : (⟨2, ![2048, 128]⟩ : Shape).Idx) := by
  obtain ⟨e0, e1⟩ := idx_6 t
  funext x; apply Fin.ext
  match x with
  | ⟨0, _⟩ => show win0_6.index t (0 : Fin 2) * 512 + 1 * a.val = 512 * t.val + a.val; omega
  | ⟨1, _⟩ => show win0_6.index t (1 : Fin 2) * 128 + 1 * b.val = b.val; omega

variable (𝒱₀ : Variants) (V : (c : Dev nD) → (b : Ref sig .tc) → Buf (Elt Ideal) ((c : Thread nD τ).loc b)) (D : Dev nD → CellTallies nD τ sig Ix) (B : Set (SemLoc sig × Ix))

theorem iblk_0 (c : Dev nD) (t : Fin cfg0.N) (a : Fin 512) (b : Fin 2048) : (iblk V c 0 t : Vec Ideal ⟨2, ![512, 2048]⟩ .f32) (ix2 a b) = (V c main_v2 : Vec Ideal ⟨2, ![2048, 2048]⟩ .f32) (ix2 (row t a) b) := by
  show V c main_v2 (((cfg0.win 0).blk t).view.emb (ix2 a b)) = _
  rw [emb_0]

theorem iblk_1 (c : Dev nD) (t : Fin cfg0.N) (a : Fin 2048) (b : Fin 128) : (iblk V c 1 t : Vec Ideal ⟨2, ![2048, 128]⟩ .f32) (ix2 a b) = (V c main_arg5 : Vec Ideal ⟨2, ![2048, 128]⟩ .f32) (ix2 a b) := by
  show V c main_arg5 (((cfg0.win 1).blk t).view.emb (ix2 a b)) = _
  rw [emb_1]

theorem iblk_2 (c : Dev nD) (t : Fin cfg0.N) (a : Fin 512) (b : Fin 32) : (iblk V c 2 t : Vec Ideal ⟨2, ![512, 32]⟩ .f32) (ix2 a b) = (V c main_v24 : Vec Ideal ⟨2, ![2048, 32]⟩ .f32) (ix2 (row t a) b) := by
  show V c main_v24 (((cfg0.win 2).blk t).view.emb (ix2 a b)) = _
  rw [emb_2]

theorem iblk_3 (c : Dev nD) (t : Fin cfg0.N) (a : Fin 512) (b : Fin 32) : (iblk V c 3 t : Vec Ideal ⟨2, ![512, 32]⟩ .f32) (ix2 a b) = (V c main_v25 : Vec Ideal ⟨2, ![2048, 32]⟩ .f32) (ix2 (row t a) b) := by
  show V c main_v25 (((cfg0.win 3).blk t).view.emb (ix2 a b)) = _
  rw [emb_3]

theorem iblk_4 (c : Dev nD) (t : Fin cfg0.N) (a : Fin 1) (b : Fin 128) : (iblk V c 4 t : Vec Ideal ⟨2, ![1, 128]⟩ .f32) (ix2 a b) = (V c main_v5 : Vec Ideal ⟨2, ![1, 128]⟩ .f32) (ix2 a b) := by
  show V c main_v5 (((cfg0.win 4).blk t).view.emb (ix2 a b)) = _
  rw [emb_4]

theorem iblk_5 (c : Dev nD) (t : Fin cfg0.N) (a : Fin 1) (b : Fin 128) : (iblk V c 5 t : Vec Ideal ⟨2, ![1, 128]⟩ .f32) (ix2 a b) = (V c main_v6 : Vec Ideal ⟨2, ![1, 128]⟩ .f32) (ix2 a b) := by
  show V c main_v6 (((cfg0.win 5).blk t).view.emb (ix2 a b)) = _
  rw [emb_5]

/-- The keys: every row of the array, of the arrays read. -/
def whole (x0 : Vec Ideal S2048x2048 .f32) (x1 : Vec Ideal S2048x128 .f32) (x2 x3 : Vec Ideal S2048x32 .f32) (x4 x5 : Vec Ideal S1x128 .f32) :
    Vec Ideal S2048x128 .f32 := fun i =>
  rope (normed (linear (fun e => x0 (ix2 (i 0) e)) (fun e d => x1 (ix2 e d))) (fun d => x4 (ix2 0 d)) (fun d => x5 (ix2 0 d)))
    (fun j => x2 (ix2 (i 0) j)) (fun j => x3 (ix2 (i 0) j)) (i 1)

/-- What a point writes back is its block of the array. -/
theorem flushed_eq (c : Dev nD) (t : Fin cfg0.N) :
    (dat (U := U) (Lvl := Lvl) 𝒱₀ V D B c).flushed 6 t = ((cfg0.win 6).blk t).view.read (Elt Ideal) (whole (V c main_v2) (V c main_arg5) (V c main_v24) (V c main_v25) (V c main_v5) (V c main_v6)) := by
  unfold Dat.flushed
  rw [after0_6, outsAt_eq]
  funext j
  obtain ⟨a, b, rfl⟩ : ∃ (a : Fin 512) (b : Fin 128), j = ix2 a b := ⟨j 0, j 1, eq_ix2 j⟩
  show keyBlock (iblk V c 0 t) (iblk V c 1 t) (iblk V c 2 t) (iblk V c 3 t) (iblk V c 4 t) (iblk V c 5 t) (ix2 a b) = whole (V c main_v2) (V c main_arg5) (V c main_v24) (V c main_v25) (V c main_v5) (V c main_v6) (((cfg0.win 6).blk t).view.emb (ix2 a b))
  rw [emb_6, keyBlock_apply]
  simp only [pay2_apply, iblk_0, iblk_1, iblk_2, iblk_3, iblk_4, iblk_5]
  rfl

/-- Every index of the array is in some point's block. -/
theorem covered (i : (⟨2, ![2048, 128]⟩ : Shape).Idx) :
    ∃ t : Fin cfg0.N, (cfg0.win 6).flush t = true ∧ i ∈ ((cfg0.win 6).blk t).view.set := by
  have h0 : (i 0).val < 2048 := (i 0).isLt
  let t : Fin cfg0.N := ⟨(i 0).val / 512, by rw [show cfg0.N = 4 from rfl]; omega⟩
  refine ⟨t, flush0_6 t, ?_⟩
  have h := ((cfg0.win 6).blk t).view.emb_mem_set (ix2 (⟨(i 0).val % 512, by omega⟩ : Fin 512) (⟨(i 1).val, (i 1).isLt⟩ : Fin 128))
  rw [emb_6] at h
  have e : (ix2 (row t (⟨(i 0).val % 512, by omega⟩ : Fin 512)) (⟨(i 1).val, (i 1).isLt⟩ : Fin 128) : (⟨2, ![2048, 128]⟩ : Shape).Idx) = i := by
    rw [eq_ix2 i]
    congr 1
    exact Fin.ext (by show 512 * ((i 0).val / 512) + (i 0).val % 512 = (i 0).val; omega)
  rwa [e] at h

/-- The array after the call. -/
theorem final (c : Dev nD) : (dat (U := U) (Lvl := Lvl) 𝒱₀ V D B c).arrAt 6 cfg0.N = whole (V c main_v2) (V c main_arg5) (V c main_v24) (V c main_v25) (V c main_v5) (V c main_v6) :=
  (dat (U := U) (Lvl := Lvl) 𝒱₀ V D B c).arrAt_eq_of_cover 6 (whole (V c main_v2) (V c main_arg5) (V c main_v24) (V c main_v25) (V c main_v5) (V c main_v6)) (fun t _ => flushed_eq 𝒱₀ V D B c t) covered

end Array

end Cert.KernelIdeal.Calls.K0

end
-- ==== Proof.ScoreValue.lean ====
/-
  What the second TensorCore call stores: a score block is the sum over the sixteen heads of the product, where positive,
  of the head's turned query rows and the key rows, times the head's weights.
-/
module

public import proofs.«01_k».proof.Proof.CallScore
public import proofs.«01_k».proof.Proof.Scores
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.ReduceUnfold
public import Idealize.ShloMosaic.Lib.Pipeline.Value

@[expose] public section

set_option maxRecDepth 65536
set_option maxHeartbeats 1000000

noncomputable section

namespace Cert.KernelIdeal.Calls.K1

open Cert.KernelIdeal Cert.KernelIdeal.Gen
open Idealize.ShloMosaic Idealize.ShloMosaic.TcCoe Idealize.ShloMosaic.Tactic Idealize.SL Idealize.SL.RA Idealize.SL.Sem
open Idealize.ShloMosaic.Pipeline (Dat Cfg)
open Cert.Proof.Scores

section Block
variable {F : FTy → Type} [FloatOps F]

/-- The scores after one more head, whose queries start at column `o` and whose weights are column `h`. -/
def headStep (o h : ℕ) (ho : S256x2048.Slices ![0, o] S256x128) (hh : S256x16.Slices ![0, h] S256x1)
    (q : FVec F S256x2048 .f32) (w : FVec F S256x16 .f32) (c s : FVec F S256x32 .f32) (k : FVec F S2048x128 .f32)
    (acc : FVec F S256x2048 .f32) : FVec F S256x2048 .f32 :=
  let x : FVec F S256x128 .f32 := extractStridedSlice S256x128 ![0, o] q ho
  let a : FVec F S256x32 .f32 := extractStridedSlice S256x32 ![0, 0] x slices_S256x128_o0_0_S256x32
  let b : FVec F S256x32 .f32 := extractStridedSlice S256x32 ![0, 32] x slices_S256x128_o0_32_S256x32
  let rest : FVec F S256x64 .f32 := extractStridedSlice S256x64 ![0, 64] x slices_S256x128_o0_64_S256x64
  let turned : FVec F S256x128 .f32 :=
    concatenate S256x128 1 [⟨S256x32, subf (mulf a c) (mulf b s)⟩, ⟨S256x32, addf (mulf b c) (mulf a s)⟩, ⟨S256x64, rest⟩]
      concatenates_S256x32_S256x32_S256x64_S256x128_d1
  addf acc (mulf (maximumf (matmul dot_S256x128_S2048x128_S256x2048_1_1_0_0_n_n none turned k (constant S256x2048 .f32 0x00000000#32))
      (broadcast S256x2048 (Scalar.ofBits .f32 0x00000000#32)))
    (broadcastTo S256x2048 (extractStridedSlice S256x1 ![0, h] w hh) broadcasts_S256x1_S256x2048))

/-- The sixteen heads' steps, from zero. -/
def heads (q : FVec F S256x2048 .f32) (w : FVec F S256x16 .f32) (c s : FVec F S256x32 .f32) (k : FVec F S2048x128 .f32) :
    FVec F S256x2048 .f32 :=
  headStep 1920 15 slices_S256x2048_o0_1920_S256x128 slices_S256x16_o0_15_S256x1 q w c s k
        (headStep 1792 14 slices_S256x2048_o0_1792_S256x128 slices_S256x16_o0_14_S256x1 q w c s k
        (headStep 1664 13 slices_S256x2048_o0_1664_S256x128 slices_S256x16_o0_13_S256x1 q w c s k
        (headStep 1536 12 slices_S256x2048_o0_1536_S256x128 slices_S256x16_o0_12_S256x1 q w c s k
        (headStep 1408 11 slices_S256x2048_o0_1408_S256x128 slices_S256x16_o0_11_S256x1 q w c s k
        (headStep 1280 10 slices_S256x2048_o0_1280_S256x128 slices_S256x16_o0_10_S256x1 q w c s k
        (headStep 1152 9 slices_S256x2048_o0_1152_S256x128 slices_S256x16_o0_9_S256x1 q w c s k
        (headStep 1024 8 slices_S256x2048_o0_1024_S256x128 slices_S256x16_o0_8_S256x1 q w c s k
        (headStep 896 7 slices_S256x2048_o0_896_S256x128 slices_S256x16_o0_7_S256x1 q w c s k
        (headStep 768 6 slices_S256x2048_o0_768_S256x128 slices_S256x16_o0_6_S256x1 q w c s k
        (headStep 640 5 slices_S256x2048_o0_640_S256x128 slices_S256x16_o0_5_S256x1 q w c s k
        (headStep 512 4 slices_S256x2048_o0_512_S256x128 slices_S256x16_o0_4_S256x1 q w c s k
        (headStep 384 3 slices_S256x2048_o0_384_S256x128 slices_S256x16_o0_3_S256x1 q w c s k
        (headStep 256 2 slices_S256x2048_o0_256_S256x128 slices_S256x16_o0_2_S256x1 q w c s k
        (headStep 128 1 slices_S256x2048_o0_128_S256x128 slices_S256x16_o0_1_S256x1 q w c s k
        (headStep 0 0 slices_S256x2048_o0_0_S256x128 slices_S256x16_o0_0_S256x1 q w c s k
        (broadcast S256x2048 (Scalar.ofBits .f32 0x00000000#32)))))))))))))))))

/-- The block stored, of the blocks read. -/
def scoreBlock (x0 : Vec F S256x1536 .f32) (x1 : Vec F S1536x2048 .f32) (x2 : Vec F S256x2048 .f32) (x3 : Vec F S2048x16 .f32)
    (x4 : Vec F S2048x128 .f32) (x5 x6 : Vec F S256x32 .f32) : FVec F S256x2048 .f32 :=
  heads (k1_pay1 x0 x1) (k1_pay2 x2 x3) (k1_pay3 x5) (k1_pay4 x6) (k1_pay5 x4)

theorem pay6_steps (x0 : Vec F S256x1536 .f32) (x1 : Vec F S1536x2048 .f32) (x2 : Vec F S256x2048 .f32) (x3 : Vec F S2048x16 .f32)
    (x4 : Vec F S2048x128 .f32) (x5 x6 : Vec F S256x32 .f32) :
    k1_pay6 x0 x1 x2 x3 x5 x6 x4
      = headStep 0 0 slices_S256x2048_o0_0_S256x128 slices_S256x16_o0_0_S256x1 (k1_pay1 x0 x1) (k1_pay2 x2 x3) (k1_pay3 x5) (k1_pay4 x6) (k1_pay5 x4)
        (broadcast S256x2048 (Scalar.ofBits .f32 0x00000000#32)) := rfl

theorem pay10_steps (x0 : Vec F S256x1536 .f32) (x1 : Vec F S1536x2048 .f32) (w : FVec F S256x16 .f32) (c s : FVec F S256x32 .f32) (k : FVec F S2048x128 .f32) (acc : FVec F S256x2048 .f32) :
    k1_pay10 (k1_pay1 x0 x1) w c s k acc (k1_pay7 x0 x1) (k1_pay8 x0 x1) (k1_pay9 x0 x1)
      = headStep 384 3 slices_S256x2048_o0_384_S256x128 slices_S256x16_o0_3_S256x1 (k1_pay1 x0 x1) w c s k
        (headStep 256 2 slices_S256x2048_o0_256_S256x128 slices_S256x16_o0_2_S256x1 (k1_pay1 x0 x1) w c s k
        (headStep 128 1 slices_S256x2048_o0_128_S256x128 slices_S256x16_o0_1_S256x1 (k1_pay1 x0 x1) w c s k
        (acc))) := rfl

theorem pay14_steps (q : FVec F S256x2048 .f32) (w : FVec F S256x16 .f32) (c s : FVec F S256x32 .f32) (k : FVec F S2048x128 .f32) (acc : FVec F S256x2048 .f32) :
    k1_pay14 q w c s k acc (k1_pay11 q) (k1_pay12 q) (k1_pay13 q)
      = headStep 768 6 slices_S256x2048_o0_768_S256x128 slices_S256x16_o0_6_S256x1 q w c s k
        (headStep 640 5 slices_S256x2048_o0_640_S256x128 slices_S256x16_o0_5_S256x1 q w c s k
        (headStep 512 4 slices_S256x2048_o0_512_S256x128 slices_S256x16_o0_4_S256x1 q w c s k
        (acc))) := rfl

theorem pay18_steps (q : FVec F S256x2048 .f32) (w : FVec F S256x16 .f32) (c s : FVec F S256x32 .f32) (k : FVec F S2048x128 .f32) (acc : FVec F S256x2048 .f32) :
    k1_pay18 q w c s k acc (k1_pay15 q) (k1_pay16 q) (k1_pay17 q)
      = headStep 1152 9 slices_S256x2048_o0_1152_S256x128 slices_S256x16_o0_9_S256x1 q w c s k
        (headStep 1024 8 slices_S256x2048_o0_1024_S256x128 slices_S256x16_o0_8_S256x1 q w c s k
        (headStep 896 7 slices_S256x2048_o0_896_S256x128 slices_S256x16_o0_7_S256x1 q w c s k
        (acc))) := rfl

theorem pay22_steps (q : FVec F S256x2048 .f32) (w : FVec F S256x16 .f32) (c s : FVec F S256x32 .f32) (k : FVec F S2048x128 .f32) (acc : FVec F S256x2048 .f32) :
    k1_pay22 q w c s k acc (k1_pay19 q) (k1_pay20 q) (k1_pay21 q)
      = headStep 1536 12 slices_S256x2048_o0_1536_S256x128 slices_S256x16_o0_12_S256x1 q w c s k
        (headStep 1408 11 slices_S256x2048_o0_1408_S256x128 slices_S256x16_o0_11_S256x1 q w c s k
        (headStep 1280 10 slices_S256x2048_o0_1280_S256x128 slices_S256x16_o0_10_S256x1 q w c s k
        (acc))) := rfl

theorem pay26_steps (q : FVec F S256x2048 .f32) (w : FVec F S256x16 .f32) (c s : FVec F S256x32 .f32) (k : FVec F S2048x128 .f32) (acc : FVec F S256x2048 .f32) :
    k1_pay26 q w c s k acc (k1_pay23 q) (k1_pay24 q) (k1_pay25 q)
      = headStep 1920 15 slices_S256x2048_o0_1920_S256x128 slices_S256x16_o0_15_S256x1 q w c s k
        (headStep 1792 14 slices_S256x2048_o0_1792_S256x128 slices_S256x16_o0_14_S256x1 q w c s k
        (headStep 1664 13 slices_S256x2048_o0_1664_S256x128 slices_S256x16_o0_13_S256x1 q w c s k
        (acc))) := rfl

end Block

theorem headStep_apply (o h : ℕ) (ho : S256x2048.Slices ![0, o] S256x128) (hh : S256x16.Slices ![0, h] S256x1)
    (q : FVec Ideal S256x2048 .f32) (w : FVec Ideal S256x16 .f32) (c s : FVec Ideal S256x32 .f32) (k : FVec Ideal S2048x128 .f32)
    (acc : FVec Ideal S256x2048 .f32) (t : Fin 256) (u : Fin 2048) (bo : ∀ d : Fin 128, o + d.val < 2048) (bh : h < 16) :
    headStep o h ho hh q w c s k acc (ix2 t u)
      = acc (ix2 t u) + headScore (rope (fun d => q (ix2 t ⟨o + d.val, bo d⟩)) (fun j => c (ix2 t j)) (fun j => s (ix2 t j)))
          (fun d => k (ix2 u d)) (w (ix2 t ⟨h, bh⟩)) := by
  unfold headStep headScore
  simp only [← rope_pieces]
  pointwise

theorem heads_apply (q : FVec Ideal S256x2048 .f32) (w : FVec Ideal S256x16 .f32) (c s : FVec Ideal S256x32 .f32)
    (k : FVec Ideal S2048x128 .f32) (t : Fin 256) (u : Fin 2048) :
    heads q w c s k (ix2 t u)
      = ∑ h : Fin 16, headScore (rope (fun d => q (ix2 t ⟨128 * h.val + d.val, by omega⟩)) (fun j => c (ix2 t j)) (fun j => s (ix2 t j)))
          (fun d => k (ix2 u d)) (w (ix2 t h)) := by
  unfold heads
  rw [headStep_apply 1920 15 _ _ _ _ _ _ _ _ _ _ (fun d => by omega) (by decide)]
  rw [headStep_apply 1792 14 _ _ _ _ _ _ _ _ _ _ (fun d => by omega) (by decide)]
  rw [headStep_apply 1664 13 _ _ _ _ _ _ _ _ _ _ (fun d => by omega) (by decide)]
  rw [headStep_apply 1536 12 _ _ _ _ _ _ _ _ _ _ (fun d => by omega) (by decide)]
  rw [headStep_apply 1408 11 _ _ _ _ _ _ _ _ _ _ (fun d => by omega) (by decide)]
  rw [headStep_apply 1280 10 _ _ _ _ _ _ _ _ _ _ (fun d => by omega) (by decide)]
  rw [headStep_apply 1152 9 _ _ _ _ _ _ _ _ _ _ (fun d => by omega) (by decide)]
  rw [headStep_apply 1024 8 _ _ _ _ _ _ _ _ _ _ (fun d => by omega) (by decide)]
  rw [headStep_apply 896 7 _ _ _ _ _ _ _ _ _ _ (fun d => by omega) (by decide)]
  rw [headStep_apply 768 6 _ _ _ _ _ _ _ _ _ _ (fun d => by omega) (by decide)]
  rw [headStep_apply 640 5 _ _ _ _ _ _ _ _ _ _ (fun d => by omega) (by decide)]
  rw [headStep_apply 512 4 _ _ _ _ _ _ _ _ _ _ (fun d => by omega) (by decide)]
  rw [headStep_apply 384 3 _ _ _ _ _ _ _ _ _ _ (fun d => by omega) (by decide)]
  rw [headStep_apply 256 2 _ _ _ _ _ _ _ _ _ _ (fun d => by omega) (by decide)]
  rw [headStep_apply 128 1 _ _ _ _ _ _ _ _ _ _ (fun d => by omega) (by decide)]
  rw [headStep_apply 0 0 _ _ _ _ _ _ _ _ _ _ (fun d => by omega) (by decide)]
  rw [show (broadcast S256x2048 (Scalar.ofBits .f32 0x00000000#32) : FVec Ideal S256x2048 .f32) (ix2 t u) = (0 : EReal) from Ideal.ofBits_zero_f32]
  simp only [Fin.sum_univ_castSucc, Finset.univ_eq_empty, Finset.sum_empty]
  rfl

theorem pay1_apply (x0 : Vec Ideal S256x1536 .f32) (x1 : Vec Ideal S1536x2048 .f32) (t : Fin 256) (e : Fin 2048) :
    k1_pay1 (F := Ideal) x0 x1 (ix2 t e) = linear (fun i => x0 (ix2 t i)) (fun i e => x1 (ix2 i e)) e := by
  unfold k1_pay1 linear
  pointwise

theorem pay2_apply (x2 : Vec Ideal S256x2048 .f32) (x3 : Vec Ideal S2048x16 .f32) (t : Fin 256) (h : Fin 16) :
    k1_pay2 (F := Ideal) x2 x3 (ix2 t h)
      = linear (fun i => x2 (ix2 t i)) (fun i h => x3 (ix2 i h)) h * Ideal.ofBits .f32 0x3CB504F3#32 := by
  unfold k1_pay2 linear
  pointwise

theorem pay3_eq (x : Vec Ideal S256x32 .f32) : k1_pay3 x = x := shapeCast_self _ _

theorem pay4_eq (x : Vec Ideal S256x32 .f32) : k1_pay4 x = x := shapeCast_self _ _

theorem pay5_eq (x : Vec Ideal S2048x128 .f32) : k1_pay5 x = x := shapeCast_self _ _

theorem scoreBlock_apply (x0 : Vec Ideal S256x1536 .f32) (x1 : Vec Ideal S1536x2048 .f32) (x2 : Vec Ideal S256x2048 .f32)
    (x3 : Vec Ideal S2048x16 .f32) (x4 : Vec Ideal S2048x128 .f32) (x5 x6 : Vec Ideal S256x32 .f32) (t : Fin 256) (u : Fin 2048) :
    scoreBlock x0 x1 x2 x3 x4 x5 x6 (ix2 t u)
      = ∑ h : Fin 16, headScore
          (rope (fun d => linear (fun i => x0 (ix2 t i)) (fun i e => x1 (ix2 i e)) (⟨128 * h.val + d.val, by omega⟩ : Fin 2048))
            (fun j => x5 (ix2 t j)) (fun j => x6 (ix2 t j)))
          (fun d => x4 (ix2 u d))
          (linear (fun i => x2 (ix2 t i)) (fun i h => x3 (ix2 i h)) h * Ideal.ofBits .f32 0x3CB504F3#32) := by
  unfold scoreBlock
  rw [heads_apply, pay3_eq, pay4_eq, pay5_eq]
  simp only [pay1_apply, pay2_apply]

section Point
variable {F : FTy → Type} [FloatOps F] [∀ e, Nonempty (Elt F e)]
variable {Ix : Type} [DecidableEq Ix] {U : Type} [URA U] {Lvl : Type} [Preorder Lvl]

/-- What the body leaves at a point is the block of the blocks it read there. -/
theorem outsAt_eq (𝒱₀ : Variants) (V : (c : Dev nD) → (b : Ref sig .tc) → Buf (Elt F) ((c : Thread nD τ).loc b)) (c : Dev nD) (t : Fin cfg1.N) :
    outsAt1 (Ix := Ix) (U := U) (Lvl := Lvl) 𝒱₀ V c t = scoreBlock (iblk V c 0 t) (iblk V c 1 t) (iblk V c 2 t) (iblk V c 3 t) (iblk V c 4 t) (iblk V c 5 t) (iblk V c 6 t) := by
  unfold outsAt1 out1_A_7
  rw [View.read_writes_eq_canon _ _ _ (cover1_A_7 (Ix := Ix) (U := U) (Lvl := Lvl) 𝒱₀ c _ _ _ _ _ _ _ _ _ _ _ _ _ _ _ _ _ (iblk V c 0 t) (iblk V c 1 t) (iblk V c 2 t) (iblk V c 3 t) (iblk V c 4 t) (iblk V c 5 t) (iblk V c 6 t))]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread]
  refine (View.canon_unit_zero (S := S256x2048) zeros _ _).trans ?_
  simp only [View.ld_unit_zero (S := S256x1536) zeros, View.ld_unit_zero (S := S1536x2048) zeros, View.ld_unit_zero (S := S256x2048) zeros, View.ld_unit_zero (S := S2048x16) zeros, View.ld_unit_zero (S := S2048x128) zeros, View.ld_unit_zero (S := S256x32) zeros]
  rw [pay6_steps, pay10_steps, pay14_steps, pay18_steps, pay22_steps, pay26_steps]
  rfl

end Point

section Array
variable {Ix : Type} [DecidableEq Ix] {U : Type} [URA U] {Lvl : Type} [Preorder Lvl]

/-- The array's row that is row `a` of the block at point `t`. -/
def row (t : Fin cfg1.N) (a : Fin 256) : Fin 2048 :=
  ⟨256 * t.val + a.val, by have h : t.val < 8 := t.isLt; omega⟩

theorem idx_0 : ∀ t : Fin cfg1.N, win1_0.index t (0 : Fin 2) = t.val ∧ win1_0.index t (1 : Fin 2) = 0 :=
  (by decide +kernel : ∀ t : Fin grid1.N, _)

theorem emb_0 (t : Fin cfg1.N) (a : Fin 256) (b : Fin 1536) :
    ((cfg1.win 0).blk t).view.emb (ix2 a b : (⟨2, ![256, 1536]⟩ : Shape).Idx) = (ix2 (row t a) b : (⟨2, ![2048, 1536]⟩ : Shape).Idx) := by
  obtain ⟨e0, e1⟩ := idx_0 t
  funext x; apply Fin.ext
  match x with
  | ⟨0, _⟩ => show win1_0.index t (0 : Fin 2) * 256 + 1 * a.val = 256 * t.val + a.val; omega
  | ⟨1, _⟩ => show win1_0.index t (1 : Fin 2) * 1536 + 1 * b.val = b.val; omega

theorem idx_1 : ∀ t : Fin cfg1.N, win1_1.index t (0 : Fin 2) = 0 ∧ win1_1.index t (1 : Fin 2) = 0 :=
  (by decide +kernel : ∀ t : Fin grid1.N, _)

theorem emb_1 (t : Fin cfg1.N) (a : Fin 1536) (b : Fin 2048) :
    ((cfg1.win 1).blk t).view.emb (ix2 a b : (⟨2, ![1536, 2048]⟩ : Shape).Idx) = (ix2 a b : (⟨2, ![1536, 2048]⟩ : Shape).Idx) := by
  obtain ⟨e0, e1⟩ := idx_1 t
  funext x; apply Fin.ext
  match x with
  | ⟨0, _⟩ => show win1_1.index t (0 : Fin 2) * 1536 + 1 * a.val = a.val; omega
  | ⟨1, _⟩ => show win1_1.index t (1 : Fin 2) * 2048 + 1 * b.val = b.val; omega

theorem idx_2 : ∀ t : Fin cfg1.N, win1_2.index t (0 : Fin 2) = t.val ∧ win1_2.index t (1 : Fin 2) = 0 :=
  (by decide +kernel : ∀ t : Fin grid1.N, _)

theorem emb_2 (t : Fin cfg1.N) (a : Fin 256) (b : Fin 2048) :
    ((cfg1.win 2).blk t).view.emb (ix2 a b : (⟨2, ![256, 2048]⟩ : Shape).Idx) = (ix2 (row t a) b : (⟨2, ![2048, 2048]⟩ : Shape).Idx) := by
  obtain ⟨e0, e1⟩ := idx_2 t
  funext x; apply Fin.ext
  match x with
  | ⟨0, _⟩ => show win1_2.index t (0 : Fin 2) * 256 + 1 * a.val = 256 * t.val + a.val; omega
  | ⟨1, _⟩ => show win1_2.index t (1 : Fin 2) * 2048 + 1 * b.val = b.val; omega

theorem idx_3 : ∀ t : Fin cfg1.N, win1_3.index t (0 : Fin 2) = 0 ∧ win1_3.index t (1 : Fin 2) = 0 :=
  (by decide +kernel : ∀ t : Fin grid1.N, _)

theorem emb_3 (t : Fin cfg1.N) (a : Fin 2048) (b : Fin 16) :
    ((cfg1.win 3).blk t).view.emb (ix2 a b : (⟨2, ![2048, 16]⟩ : Shape).Idx) = (ix2 a b : (⟨2, ![2048, 16]⟩ : Shape).Idx) := by
  obtain ⟨e0, e1⟩ := idx_3 t
  funext x; apply Fin.ext
  match x with
  | ⟨0, _⟩ => show win1_3.index t (0 : Fin 2) * 2048 + 1 * a.val = a.val; omega
  | ⟨1, _⟩ => show win1_3.index t (1 : Fin 2) * 16 + 1 * b.val = b.val; omega

theorem idx_4 : ∀ t : Fin cfg1.N, win1_4.index t (0 : Fin 2) = 0 ∧ win1_4.index t (1 : Fin 2) = 0 :=
  (by decide +kernel : ∀ t : Fin grid1.N, _)

theorem emb_4 (t : Fin cfg1.N) (a : Fin 2048) (b : Fin 128) :
    ((cfg1.win 4).blk t).view.emb (ix2 a b : (⟨2, ![2048, 128]⟩ : Shape).Idx) = (ix2 a b : (⟨2, ![2048, 128]⟩ : Shape).Idx) := by
  obtain ⟨e0, e1⟩ := idx_4 t
  funext x; apply Fin.ext
  match x with
  | ⟨0, _⟩ => show win1_4.index t (0 : Fin 2) * 2048 + 1 * a.val = a.val; omega
  | ⟨1, _⟩ => show win1_4.index t (1 : Fin 2) * 128 + 1 * b.val = b.val; omega

theorem idx_5 : ∀ t : Fin cfg1.N, win1_5.index t (0 : Fin 2) = t.val ∧ win1_5.index t (1 : Fin 2) = 0 :=
  (by decide +kernel : ∀ t : Fin grid1.N, _)

theorem emb_5 (t : Fin cfg1.N) (a : Fin 256) (b : Fin 32) :
    ((cfg1.win 5).blk t).view.emb (ix2 a b : (⟨2, ![256, 32]⟩ : Shape).Idx) = (ix2 (row t a) b : (⟨2, ![2048, 32]⟩ : Shape).Idx) := by
  obtain ⟨e0, e1⟩ := idx_5 t
  funext x; apply Fin.ext
  match x with
  | ⟨0, _⟩ => show win1_5.index t (0 : Fin 2) * 256 + 1 * a.val = 256 * t.val + a.val; omega
  | ⟨1, _⟩ => show win1_5.index t (1 : Fin 2) * 32 + 1 * b.val = b.val; omega

theorem idx_6 : ∀ t : Fin cfg1.N, win1_6.index t (0 : Fin 2) = t.val ∧ win1_6.index t (1 : Fin 2) = 0 :=
  (by decide +kernel : ∀ t : Fin grid1.N, _)

theorem emb_6 (t : Fin cfg1.N) (a : Fin 256) (b : Fin 32) :
    ((cfg1.win 6).blk t).view.emb (ix2 a b : (⟨2, ![256, 32]⟩ : Shape).Idx) = (ix2 (row t a) b : (⟨2, ![2048, 32]⟩ : Shape).Idx) := by
  obtain ⟨e0, e1⟩ := idx_6 t
  funext x; apply Fin.ext
  match x with
  | ⟨0, _⟩ => show win1_6.index t (0 : Fin 2) * 256 + 1 * a.val = 256 * t.val + a.val; omega
  | ⟨1, _⟩ => show win1_6.index t (1 : Fin 2) * 32 + 1 * b.val = b.val; omega

theorem idx_7 : ∀ t : Fin cfg1.N, win1_7.index t (0 : Fin 2) = t.val ∧ win1_7.index t (1 : Fin 2) = 0 :=
  (by decide +kernel : ∀ t : Fin grid1.N, _)

theorem emb_7 (t : Fin cfg1.N) (a : Fin 256) (b : Fin 2048) :
    ((cfg1.win 7).blk t).view.emb (ix2 a b : (⟨2, ![256, 2048]⟩ : Shape).Idx) = (ix2 (row t a) b : (⟨2, ![2048, 2048]⟩ : Shape).Idx) := by
  obtain ⟨e0, e1⟩ := idx_7 t
  funext x; apply Fin.ext
  match x with
  | ⟨0, _⟩ => show win1_7.index t (0 : Fin 2) * 256 + 1 * a.val = 256 * t.val + a.val; omega
  | ⟨1, _⟩ => show win1_7.index t (1 : Fin 2) * 2048 + 1 * b.val = b.val; omega

variable (𝒱₀ : Variants) (V : (c : Dev nD) → (b : Ref sig .tc) → Buf (Elt Ideal) ((c : Thread nD τ).loc b)) (D : Dev nD → CellTallies nD τ sig Ix) (B : Set (SemLoc sig × Ix))

theorem iblk_0 (c : Dev nD) (t : Fin cfg1.N) (a : Fin 256) (b : Fin 1536) : (iblk V c 0 t : Vec Ideal ⟨2, ![256, 1536]⟩ .f32) (ix2 a b) = (V c main_v1 : Vec Ideal ⟨2, ![2048, 1536]⟩ .f32) (ix2 (row t a) b) := by
  show V c main_v1 (((cfg1.win 0).blk t).view.emb (ix2 a b)) = _
  rw [emb_0]

theorem iblk_1 (c : Dev nD) (t : Fin cfg1.N) (a : Fin 1536) (b : Fin 2048) : (iblk V c 1 t : Vec Ideal ⟨2, ![1536, 2048]⟩ .f32) (ix2 a b) = (V c main_v4 : Vec Ideal ⟨2, ![1536, 2048]⟩ .f32) (ix2 a b) := by
  show V c main_v4 (((cfg1.win 1).blk t).view.emb (ix2 a b)) = _
  rw [emb_1]

theorem iblk_2 (c : Dev nD) (t : Fin cfg1.N) (a : Fin 256) (b : Fin 2048) : (iblk V c 2 t : Vec Ideal ⟨2, ![256, 2048]⟩ .f32) (ix2 a b) = (V c main_v0 : Vec Ideal ⟨2, ![2048, 2048]⟩ .f32) (ix2 (row t a) b) := by
  show V c main_v0 (((cfg1.win 2).blk t).view.emb (ix2 a b)) = _
  rw [emb_2]

theorem iblk_3 (c : Dev nD) (t : Fin cfg1.N) (a : Fin 2048) (b : Fin 16) : (iblk V c 3 t : Vec Ideal ⟨2, ![2048, 16]⟩ .f32) (ix2 a b) = (V c main_arg6 : Vec Ideal ⟨2, ![2048, 16]⟩ .f32) (ix2 a b) := by
  show V c main_arg6 (((cfg1.win 3).blk t).view.emb (ix2 a b)) = _
  rw [emb_3]

theorem iblk_4 (c : Dev nD) (t : Fin cfg1.N) (a : Fin 2048) (b : Fin 128) : (iblk V c 4 t : Vec Ideal ⟨2, ![2048, 128]⟩ .f32) (ix2 a b) = (V c main_v26 : Vec Ideal ⟨2, ![2048, 128]⟩ .f32) (ix2 a b) := by
  show V c main_v26 (((cfg1.win 4).blk t).view.emb (ix2 a b)) = _
  rw [emb_4]

theorem iblk_5 (c : Dev nD) (t : Fin cfg1.N) (a : Fin 256) (b : Fin 32) : (iblk V c 5 t : Vec Ideal ⟨2, ![256, 32]⟩ .f32) (ix2 a b) = (V c main_v24 : Vec Ideal ⟨2, ![2048, 32]⟩ .f32) (ix2 (row t a) b) := by
  show V c main_v24 (((cfg1.win 5).blk t).view.emb (ix2 a b)) = _
  rw [emb_5]

theorem iblk_6 (c : Dev nD) (t : Fin cfg1.N) (a : Fin 256) (b : Fin 32) : (iblk V c 6 t : Vec Ideal ⟨2, ![256, 32]⟩ .f32) (ix2 a b) = (V c main_v25 : Vec Ideal ⟨2, ![2048, 32]⟩ .f32) (ix2 (row t a) b) := by
  show V c main_v25 (((cfg1.win 6).blk t).view.emb (ix2 a b)) = _
  rw [emb_6]

/-- The scores: every element of the array, of the arrays read. -/
def whole (x0 : Vec Ideal S2048x1536 .f32) (x1 : Vec Ideal S1536x2048 .f32) (x2 : Vec Ideal S2048x2048 .f32)
    (x3 : Vec Ideal S2048x16 .f32) (x4 : Vec Ideal S2048x128 .f32) (x5 x6 : Vec Ideal S2048x32 .f32) : Vec Ideal S2048x2048 .f32 := fun i =>
  ∑ h : Fin 16, headScore
    (rope (fun d => linear (fun e => x0 (ix2 (i 0) e)) (fun e n => x1 (ix2 e n)) (⟨128 * h.val + d.val, by omega⟩ : Fin 2048))
      (fun j => x5 (ix2 (i 0) j)) (fun j => x6 (ix2 (i 0) j)))
    (fun d => x4 (ix2 (i 1) d))
    (linear (fun e => x2 (ix2 (i 0) e)) (fun e n => x3 (ix2 e n)) h * Ideal.ofBits .f32 0x3CB504F3#32)

/-- What a point writes back is its block of the array. -/
theorem flushed_eq (c : Dev nD) (t : Fin cfg1.N) :
    (dat (U := U) (Lvl := Lvl) 𝒱₀ V D B c).flushed 7 t = ((cfg1.win 7).blk t).view.read (Elt Ideal) (whole (V c main_v1) (V c main_v4) (V c main_v0) (V c main_arg6) (V c main_v26) (V c main_v24) (V c main_v25)) := by
  unfold Dat.flushed
  rw [after1_7, outsAt_eq]
  funext j
  obtain ⟨a, b, rfl⟩ : ∃ (a : Fin 256) (b : Fin 2048), j = ix2 a b := ⟨j 0, j 1, eq_ix2 j⟩
  show scoreBlock (iblk V c 0 t) (iblk V c 1 t) (iblk V c 2 t) (iblk V c 3 t) (iblk V c 4 t) (iblk V c 5 t) (iblk V c 6 t) (ix2 a b) = whole (V c main_v1) (V c main_v4) (V c main_v0) (V c main_arg6) (V c main_v26) (V c main_v24) (V c main_v25) (((cfg1.win 7).blk t).view.emb (ix2 a b))
  rw [emb_7, scoreBlock_apply]
  simp only [iblk_0, iblk_1, iblk_2, iblk_3, iblk_4, iblk_5, iblk_6]
  rfl

/-- Every index of the array is in some point's block. -/
theorem covered (i : (⟨2, ![2048, 2048]⟩ : Shape).Idx) :
    ∃ t : Fin cfg1.N, (cfg1.win 7).flush t = true ∧ i ∈ ((cfg1.win 7).blk t).view.set := by
  have h0 : (i 0).val < 2048 := (i 0).isLt
  let t : Fin cfg1.N := ⟨(i 0).val / 256, by rw [show cfg1.N = 8 from rfl]; omega⟩
  refine ⟨t, flush1_7 t, ?_⟩
  have h := ((cfg1.win 7).blk t).view.emb_mem_set (ix2 (⟨(i 0).val % 256, by omega⟩ : Fin 256) (⟨(i 1).val, (i 1).isLt⟩ : Fin 2048))
  rw [emb_7] at h
  have e : (ix2 (row t (⟨(i 0).val % 256, by omega⟩ : Fin 256)) (⟨(i 1).val, (i 1).isLt⟩ : Fin 2048) : (⟨2, ![2048, 2048]⟩ : Shape).Idx) = i := by
    rw [eq_ix2 i]
    congr 1
    exact Fin.ext (by show 256 * ((i 0).val / 256) + (i 0).val % 256 = (i 0).val; omega)
  rwa [e] at h

/-- The array after the call. -/
theorem final (c : Dev nD) : (dat (U := U) (Lvl := Lvl) 𝒱₀ V D B c).arrAt 7 cfg1.N = whole (V c main_v1) (V c main_v4) (V c main_v0) (V c main_arg6) (V c main_v26) (V c main_v24) (V c main_v25) :=
  (dat (U := U) (Lvl := Lvl) 𝒱₀ V D B c).arrAt_eq_of_cover 7 (whole (V c main_v1) (V c main_v4) (V c main_v0) (V c main_arg6) (V c main_v26) (V c main_v24) (V c main_v25)) (fun t _ => flushed_eq 𝒱₀ V D B c t) covered

end Array

end Cert.KernelIdeal.Calls.K1

end
-- ==== Proof.RefScore.lean ====
/-
  The reference's index scores read at an index.
-/
module

public import proofs.«01_k».proof.Proof.Gen.ReferenceIdeal.Read
public import proofs.«01_k».proof.Proof.Scores
public import Idealize.ShloMosaic.Lib.Pointwise.Tactic
public import Idealize.ShloMosaic.Lib.Pointwise.Reduce
public import Idealize.ShloMosaic.Lib.Pointwise.Contract
public import Idealize.ShloMosaic.Lib.Pointwise.Reshape
public import Idealize.ShloMosaic.Lib.Pointwise.Select
public import Idealize.ShloMosaic.Lib.Pointwise.ReduceUnfold

@[expose] public section

set_option maxRecDepth 65536
set_option maxHeartbeats 1000000

noncomputable section

namespace Cert.Proof.RefScore

open Cert.ReferenceIdeal Cert.ReferenceIdeal.Read
open Idealize.ShloMosaic Idealize.SL.Sem
open Cert.Proof.Scores

/-- The turning angles' cosines and sines are computed twice, alike. -/
theorem cos_again (x3 : (⟨S1x2048, .i32⟩ : BufTy).Contents (Elt Ideal)) : val_main_v77 (F := Ideal) x3 = val_main_v20 x3 := rfl

theorem sin_again (x3 : (⟨S1x2048, .i32⟩ : BufTy).Contents (Elt Ideal)) : val_main_v79 (F := Ideal) x3 = val_main_v22 x3 := rfl

theorem cos_apply (x3 : (⟨S1x2048, .i32⟩ : BufTy).Contents (Elt Ideal)) (t : Fin 2048) (j : Fin 32) :
    val_main_v20 (F := Ideal) x3 (ix3 0 t j) = Ideal.cos (FloatOps.sitofp (F := Ideal) .f32 (x3 (ix2 0 t)) * val_main_v13 (F := Ideal) (ix1 j)) := by
  unfold val_main_v20 val_main_v19 val_main_v18 val_main_v17 val_main_v16 val_main_v15 val_main_v14
  pointwise

theorem sin_apply (x3 : (⟨S1x2048, .i32⟩ : BufTy).Contents (Elt Ideal)) (t : Fin 2048) (j : Fin 32) :
    val_main_v22 (F := Ideal) x3 (ix3 0 t j) = Ideal.sin (FloatOps.sitofp (F := Ideal) .f32 (x3 (ix2 0 t)) * val_main_v13 (F := Ideal) (ix1 j)) := by
  unfold val_main_v22 val_main_v19 val_main_v18 val_main_v17 val_main_v16 val_main_v15 val_main_v14
  pointwise

theorem query_apply (x1 : (⟨S1x2048x1536, .f32⟩ : BufTy).Contents (Elt Ideal)) (x3 : (⟨S1x2048, .i32⟩ : BufTy).Contents (Elt Ideal))
    (x4 : (⟨S1536x16x128, .f32⟩ : BufTy).Contents (Elt Ideal)) (t : Fin 2048) (h : Fin 16) (d : Fin 128) :
    val_main_v37 (F := Ideal) x1 x3 x4 (ix4 0 t h d)
      = rope (linear (fun e => x1 (ix3 0 t e)) (fun e d => x4 (ix3 e h d))) (fun j => val_main_v20 (F := Ideal) x3 (ix3 0 t j))
          (fun j => val_main_v22 (F := Ideal) x3 (ix3 0 t j)) d := by
  unfold val_main_v37 val_main_v36 val_main_v35 val_main_v34 val_main_v33 val_main_v32 val_main_v31 val_main_v30 val_main_v29 val_main_v28 val_main_v27 val_main_v26 val_main_v25 val_main_v24 val_main_v23 val_main_v21 val_main_v2 val_main_v1 val_main_v0
  pointwise
  exact rope_pairs (fun d => ∑ e, x1 (ix3 0 t e) * x4 (ix3 e h d)) (fun j => val_main_v20 (F := Ideal) x3 (ix3 0 t j))
    (fun j => val_main_v22 (F := Ideal) x3 (ix3 0 t j)) d

theorem count : Ideal.ofBits .f32 0x43000000#32 - FloatOps.sitofp (F := Ideal) .f32 (0x00000000#32) = Ideal.ofBits .f32 0x43000000#32 := by
  rw [show FloatOps.sitofp (F := Ideal) .f32 (0x00000000#32) = ((0 : ℝ) : EReal) from by
    show (((0x00000000#32 : BitVec 32).toInt : ℝ) : EReal) = _
    norm_num]
  simp

/-- The number of features. -/
theorem features : Ideal.ofBits .f32 0x43000000#32 = ((128 : ℝ) : EReal) := by
  simp [Ideal.ofBits, Ideal.ieee, -EReal.coe_mul]
  norm_num

theorem features_pos : 0 < Ideal.ofBits .f32 0x43000000#32 := by
  rw [features]
  exact EReal.coe_pos.2 (by norm_num)

/-- A quarter times the one weight is the other. -/
theorem weights : Ideal.ofBits .f32 0x3E800000#32 * Ideal.ofBits .f32 0x3DB504F3#32 = Ideal.ofBits .f32 0x3CB504F3#32 := by
  rw [show Ideal.ofBits .f32 0x3E800000#32 = ((1 / 4 : ℝ) : EReal) from by simp [Ideal.ofBits, Ideal.ieee, -EReal.coe_mul]; norm_num,
    show Ideal.ofBits .f32 0x3DB504F3#32 = ((11863283 / 134217728 : ℝ) : EReal) from by simp [Ideal.ofBits, Ideal.ieee, -EReal.coe_mul]; norm_num,
    show Ideal.ofBits .f32 0x3CB504F3#32 = ((11863283 / 536870912 : ℝ) : EReal) from by simp [Ideal.ofBits, Ideal.ieee, -EReal.coe_mul]; norm_num,
    ← EReal.coe_mul]
  norm_num

theorem var_apply (x2 : (⟨S1x2048x2048, .f32⟩ : BufTy).Contents (Elt Ideal)) (x5 : (⟨S2048x128, .f32⟩ : BufTy).Contents (Elt Ideal)) (t : Fin 2048) :
    val_main_v43 (F := Ideal) x2 x5 (ix3 0 t 0)
      = mean (fun d => (linear (fun e => x2 (ix3 0 t e)) (fun e d => x5 (ix2 e d)) d - mean (linear (fun e => x2 (ix3 0 t e)) (fun e d => x5 (ix2 e d))))
          * (linear (fun e => x2 (ix3 0 t e)) (fun e d => x5 (ix2 e d)) d - mean (linear (fun e => x2 (ix3 0 t e)) (fun e d => x5 (ix2 e d))))) := by
  unfold val_main_v43 val_main_call0_call0_v1 val_main_call0_call0_v0 val_main_call0_cst_4 val_main_call0_v13 val_main_call0_cst_3 val_main_call0_v12 val_main_call0_v11 val_main_call0_v10 val_main_call0_v9 val_main_call0_cst_2 val_main_call0_v8 val_main_call0_cst_1 val_main_call0_v7 val_main_call0_v6 val_main_call0_v5 val_main_call0_v4 val_main_call0_v3 val_main_call0_v2 val_main_call0_cst_0 val_main_call0_v1 val_main_call0_v0 val_main_call0_cst val_main_c val_main_v38
  pointwise
  rw [count, if_pos features_pos]
  rfl

theorem key_apply (x2 : (⟨S1x2048x2048, .f32⟩ : BufTy).Contents (Elt Ideal)) (x5 : (⟨S2048x128, .f32⟩ : BufTy).Contents (Elt Ideal))
    (x7 x8 : (⟨S128, .f32⟩ : BufTy).Contents (Elt Ideal)) (t : Fin 2048) (d : Fin 128) :
    val_main_v56 (F := Ideal) x2 x5 x7 x8 (ix3 0 t d)
      = normed (linear (fun e => x2 (ix3 0 t e)) (fun e d => x5 (ix2 e d))) (fun d => x7 (ix1 d)) (fun d => x8 (ix1 d)) d := by
  unfold val_main_v56 val_main_v55 val_main_v54 val_main_v53 val_main_v52 val_main_v51 val_main_v50 val_main_v49 val_main_v48 val_main_v47 val_main_v46 val_main_v45 val_main_v44 val_main_v42 val_main_v41 val_main_v40 val_main_v39 val_main_v38 val_main_cst_4 val_main_cst_5 val_main_cst_6
  pointwise
  rw [var_apply]
  rfl

theorem turned_apply (x2 : (⟨S1x2048x2048, .f32⟩ : BufTy).Contents (Elt Ideal)) (x3 : (⟨S1x2048, .i32⟩ : BufTy).Contents (Elt Ideal)) (x5 : (⟨S2048x128, .f32⟩ : BufTy).Contents (Elt Ideal))
    (x7 x8 : (⟨S128, .f32⟩ : BufTy).Contents (Elt Ideal)) (t : Fin 2048) (d : Fin 128) :
    val_main_v91 (F := Ideal) x2 x3 x5 x7 x8 (ix3 0 t d)
      = rope (normed (linear (fun e => x2 (ix3 0 t e)) (fun e d => x5 (ix2 e d))) (fun d => x7 (ix1 d)) (fun d => x8 (ix1 d)))
          (fun j => val_main_v20 (F := Ideal) x3 (ix3 0 t j)) (fun j => val_main_v22 (F := Ideal) x3 (ix3 0 t j)) d := by
  unfold val_main_v91 val_main_v90 val_main_v89 val_main_v88 val_main_v87 val_main_v86 val_main_v85 val_main_v84 val_main_v83 val_main_v82 val_main_v81 val_main_v80 val_main_v78 val_main_v59 val_main_v58 val_main_v57
  simp only [cos_again, sin_again]
  pointwise
  refine (rope_pairs (fun d => val_main_v56 (F := Ideal) x2 x5 x7 x8 (ix3 0 t d)) (fun j => val_main_v20 (F := Ideal) x3 (ix3 0 t j))
    (fun j => val_main_v22 (F := Ideal) x3 (ix3 0 t j)) d).trans ?_
  simp only [key_apply]

theorem score_apply (x0 : (⟨S1x2048x2048, .f32⟩ : BufTy).Contents (Elt Ideal)) (x1 : (⟨S1x2048x1536, .f32⟩ : BufTy).Contents (Elt Ideal)) (x2 : (⟨S1x2048x2048, .f32⟩ : BufTy).Contents (Elt Ideal)) (x3 : (⟨S1x2048, .i32⟩ : BufTy).Contents (Elt Ideal))
    (x4 : (⟨S1536x16x128, .f32⟩ : BufTy).Contents (Elt Ideal)) (x5 : (⟨S2048x128, .f32⟩ : BufTy).Contents (Elt Ideal)) (x6 : (⟨S2048x16, .f32⟩ : BufTy).Contents (Elt Ideal))
    (x7 x8 : (⟨S128, .f32⟩ : BufTy).Contents (Elt Ideal)) (t s : Fin 2048) :
    val_main_v100 (F := Ideal) x0 x1 x2 x3 x4 x5 x6 x7 x8 (ix3 0 t s)
      = ∑ h : Fin 16, headScore
          (rope (linear (fun e => x1 (ix3 0 t e)) (fun e d => x4 (ix3 e h d))) (fun j => val_main_v20 (F := Ideal) x3 (ix3 0 t j))
            (fun j => val_main_v22 (F := Ideal) x3 (ix3 0 t j)))
          (rope (normed (linear (fun e => x2 (ix3 0 s e)) (fun e d => x5 (ix2 e d))) (fun d => x7 (ix1 d)) (fun d => x8 (ix1 d)))
            (fun j => val_main_v20 (F := Ideal) x3 (ix3 0 s j)) (fun j => val_main_v22 (F := Ideal) x3 (ix3 0 s j)))
          (linear (fun e => x0 (ix3 0 t e)) (fun e n => x6 (ix2 e n)) h * Ideal.ofBits .f32 0x3CB504F3#32) := by
  unfold val_main_v100 val_main_v99 val_main_v98 val_main_v97 val_main_v96 val_main_v95 val_main_v94 val_main_call1_v0 val_main_call1_cst val_main_v93 val_main_v92 val_main_cst_12 val_main_cst_13
  pointwise
  refine Finset.sum_congr rfl fun h _ => ?_
  unfold headScore linear
  rw [mul_assoc, weights]
  simp only [turned_apply, query_apply, mul_comm (rope (normed _ _ _) _ _ _)]
  rfl

end Cert.Proof.RefScore

end
-- ==== Proof.Values.lean ====
/-
  The score that the kernel's second TensorCore call leaves, over the extended reals, of the nine arguments: the
  reference's, entry by entry.
-/
module

public import proofs.«01_k».proof.Proof.Ends
public import proofs.«01_k».proof.Proof.KeyValue
public import proofs.«01_k».proof.Proof.ScoreValue
public import proofs.«01_k».proof.Proof.RefScore

@[expose] public section

set_option maxRecDepth 65536
set_option maxHeartbeats 1000000

noncomputable section

namespace Cert.Proof.Topk

open Cert.KernelIdeal Cert.KernelIdeal.Gen
open Idealize.ShloMosaic Idealize.SL Idealize.SL.Sem
open Idealize.ShloMosaic.Tactic
open Idealize.ShloMosaic.StableHlo (after launchContents)
open Cert.Proof.Scores
open Cert.ReferenceIdeal.Read (val_main_v13 val_main_v20 val_main_v22 val_main_v100)

/-! ## The score of the arguments -/

section Arrays

variable (x0 : Vec Ideal S1x2048x2048 .f32) (x1 : Vec Ideal S1x2048x1536 .f32) (x2 : Vec Ideal S1x2048x2048 .f32)
  (x3 : Vec Ideal S1x2048 .i32) (x4 : Vec Ideal S1536x16x128 .f32) (x5 : Vec Ideal S2048x128 .f32) (x6 : Vec Ideal S2048x16 .f32)
  (x7 x8 : Vec Ideal S128 .f32)

theorem flat_row (x : Vec Ideal S1x2048x2048 .f32) (t e : Fin 2048) :
    shapeCast S2048x2048 x shapeCasts_S1x2048x2048_S2048x2048 (ix2 t e) = x (ix3 0 t e) := by pointwise
theorem flat_query (t : Fin 2048) (e : Fin 1536) :
    shapeCast S2048x1536 x1 shapeCasts_S1x2048x1536_S2048x1536 (ix2 t e) = x1 (ix3 0 t e) := by pointwise
theorem flat_gain (x : Vec Ideal S128 .f32) (e : Fin 128) :
    shapeCast S1x128 x shapeCasts_S128_S1x128 (ix2 0 e) = x (ix1 e) := by pointwise
theorem flat_matrix (e : Fin 1536) (h : Fin 16) (k : Fin 128) (n : Fin 2048) (hn : n.val = 128 * h.val + k.val) :
    shapeCast S1536x2048 x4 shapeCasts_S1536x16x128_S1536x2048 (ix2 e n) = x4 (ix3 e h k) := by
  refine shapeCast_apply _ _ _ _ ?_
  rw [Shape.rowMajor_val_two, Shape.rowMajor_val_three]
  show (e.val * 16 + h.val) * 128 + k.val = e.val * 2048 + n.val
  omega

/-- The two calls' arrays together are the reference's score. -/
theorem whole_score (C S : Vec Ideal S2048x32 .f32)
    (hC : ∀ t j, C (ix2 t j) = val_main_v20 (F := Ideal) x3 (ix3 0 t j)) (hS : ∀ t j, S (ix2 t j) = val_main_v22 (F := Ideal) x3 (ix3 0 t j)) (t s : Fin 2048) :
    Calls.K1.whole (shapeCast S2048x1536 x1 shapeCasts_S1x2048x1536_S2048x1536) (shapeCast S1536x2048 x4 shapeCasts_S1536x16x128_S1536x2048)
      (shapeCast S2048x2048 x0 shapeCasts_S1x2048x2048_S2048x2048) x6
      (Calls.K0.whole (shapeCast S2048x2048 x2 shapeCasts_S1x2048x2048_S2048x2048) x5 C S
        (shapeCast S1x128 x7 shapeCasts_S128_S1x128) (shapeCast S1x128 x8 shapeCasts_S128_S1x128)) C S (ix2 t s)
      = val_main_v100 (F := Ideal) x0 x1 x2 x3 x4 x5 x6 x7 x8 (ix3 0 t s) := by
  rw [RefScore.score_apply]
  unfold Calls.K1.whole Calls.K0.whole
  refine Finset.sum_congr rfl fun h _ => ?_
  refine congr (congr (congrArg headScore ?_) ?_) ?_
  · refine congr (congr (congrArg rope ?_) (funext fun j => hC t j)) (funext fun j => hS t j)
    funext k
    exact Finset.sum_congr rfl fun e _ => congrArg₂ (· * ·) (flat_query x1 t e) (flat_matrix x4 e h k _ rfl)
  · funext k
    refine congrFun (congr (congr (congrArg rope ?_) (funext fun j => hC s j)) (funext fun j => hS s j)) k
    refine congr (congr (congrArg normed ?_) (funext fun e => flat_gain x7 e)) (funext fun e => flat_gain x8 e)
    exact congrFun (congrArg linear (funext fun e => flat_row x2 s e)) _
  · exact congrArg (· * _) (congrFun (congrFun (congrArg linear (funext fun e => flat_row x0 t e)) _) h)

end Arrays

/-! ## The buffers -/

variable (m : (ℓ : Loc nD τ sig) → Buf (Elt Ideal) ℓ) (d : Dev nD)

/-- The argument in a buffer at the start. -/
abbrev arg (r : Ref sig .tc) : Buf (Elt Ideal) ((d.tc : Thread nD τ).loc r) := m ((d.tc : Thread nD τ).loc r)

theorem V1_v0 : V1 m d (Proc.devRef .tc main_v0) = shapeCast S2048x2048 (arg m d main_arg0) shapeCasts_S1x2048x2048_S2048x2048 := by
  unfold V1 opsPre; after_results_simp <;> rfl
theorem V1_v1 : V1 m d (Proc.devRef .tc main_v1) = shapeCast S2048x1536 (arg m d main_arg1) shapeCasts_S1x2048x1536_S2048x1536 := by
  unfold V1 opsPre; after_results_simp <;> rfl
theorem V1_v2 : V1 m d (Proc.devRef .tc main_v2) = shapeCast S2048x2048 (arg m d main_arg2) shapeCasts_S1x2048x2048_S2048x2048 := by
  unfold V1 opsPre; after_results_simp <;> rfl
theorem V1_v4 : V1 m d (Proc.devRef .tc main_v4) = shapeCast S1536x2048 (arg m d main_arg4) shapeCasts_S1536x16x128_S1536x2048 := by
  unfold V1 opsPre; after_results_simp <;> rfl
theorem V1_v5 : V1 m d (Proc.devRef .tc main_v5) = shapeCast S1x128 (arg m d main_arg7) shapeCasts_S128_S1x128 := by
  unfold V1 opsPre; after_results_simp <;> rfl
theorem V1_v6 : V1 m d (Proc.devRef .tc main_v6) = shapeCast S1x128 (arg m d main_arg8) shapeCasts_S128_S1x128 := by
  unfold V1 opsPre; after_results_simp <;> rfl
theorem V1_arg5 : V1 m d (Proc.devRef .tc main_arg5) = arg m d main_arg5 := by
  unfold V1 opsPre; after_results_simp <;> rfl
theorem V1_arg6 : V1 m d (Proc.devRef .tc main_arg6) = arg m d main_arg6 := by
  unfold V1 opsPre; after_results_simp <;> rfl

/-- The angles: a position times a frequency. -/
def angles (x3 : Vec Ideal S1x2048 .i32) : FVec Ideal S2048x32 .f32 :=
  mulf (broadcastInDim S2048x32 ![0, 1] bcast_S2048x1_S2048x32_0_1
      (broadcastInDim S2048x1 ![0] bcast_S2048_S2048x1_0 (sitofp .f32 (shapeCast S2048 x3 shapeCasts_S1x2048_S2048))))
    (broadcastInDim S2048x32 ![0, 1] bcast_S1x32_S2048x32_0_1 (broadcastInDim S1x32 ![1] bcast_S32_S1x32_1 (val_main_v13 (F := Ideal))))

theorem angles_apply (x3 : Vec Ideal S1x2048 .i32) (t : Fin 2048) (j : Fin 32) :
    angles x3 (ix2 t j) = FloatOps.sitofp (F := Ideal) .f32 (x3 (ix2 0 t)) * val_main_v13 (F := Ideal) (ix1 j) := by
  unfold angles
  pointwise

theorem V1_v24 : V1 m d (Proc.devRef .tc main_v24) = Host.cos (angles (arg m d main_arg3)) := by
  unfold V1 opsPre; after_results_simp <;> rfl
theorem V1_v25 : V1 m d (Proc.devRef .tc main_v25) = Host.sin (angles (arg m d main_arg3)) := by
  unfold V1 opsPre; after_results_simp <;> rfl

theorem cos_of (t : Fin 2048) (j : Fin 32) :
    Host.cos (angles (arg m d main_arg3)) (ix2 t j) = val_main_v20 (F := Ideal) (arg m d main_arg3) (ix3 0 t j) := by
  rw [RefScore.cos_apply, ← angles_apply]
  rfl
theorem sin_of (t : Fin 2048) (j : Fin 32) :
    Host.sin (angles (arg m d main_arg3)) (ix2 t j) = val_main_v22 (F := Ideal) (arg m d main_arg3) (ix3 0 t j) := by
  rw [RefScore.sin_apply, ← angles_apply]
  rfl

/-- The keys. -/
theorem V2_v26 : V2 m d (Proc.devRef .tc main_v26) = Calls.K0.whole (V1 m d (Proc.devRef .tc main_v2)) (V1 m d (Proc.devRef .tc main_arg5))
    (V1 m d (Proc.devRef .tc main_v24)) (V1 m d (Proc.devRef .tc main_v25)) (V1 m d (Proc.devRef .tc main_v5)) (V1 m d (Proc.devRef .tc main_v6)) :=
  (Pipeline.afterRegion_arr (dat0 m d) (V1 m d) winFacts0.arr_inj 6).trans (Calls.K0.final ..)

/-- The scores. -/
theorem V3_v27 : V3 m d (Proc.devRef .tc main_v27) = Calls.K1.whole (V2 m d (Proc.devRef .tc main_v1)) (V2 m d (Proc.devRef .tc main_v4))
    (V2 m d (Proc.devRef .tc main_v0)) (V2 m d (Proc.devRef .tc main_arg6)) (V2 m d (Proc.devRef .tc main_v26)) (V2 m d (Proc.devRef .tc main_v24))
    (V2 m d (Proc.devRef .tc main_v25)) :=
  (Pipeline.afterRegion_arr (dat1 m d) (V2 m d) winFacts1.arr_inj 7).trans (Calls.K1.final ..)

/-- The score the kernel leaves is the reference's of the same arguments. -/
theorem score_eq (t s : Fin 2048) : V3 m d (Proc.devRef .tc main_v27) (ix2 t s)
    = val_main_v100 (F := Ideal) (arg m d main_arg0) (arg m d main_arg1) (arg m d main_arg2) (arg m d main_arg3) (arg m d main_arg4)
      (arg m d main_arg5) (arg m d main_arg6) (arg m d main_arg7) (arg m d main_arg8) (ix3 0 t s) := by
  rw [V3_v27, V2_keeps m d main_v1 (by decide), V2_keeps m d main_v4 (by decide), V2_keeps m d main_v0 (by decide),
    V2_keeps m d main_arg6 (by decide), V2_keeps m d main_v24 (by decide), V2_keeps m d main_v25 (by decide), V2_v26,
    V1_v0, V1_v1, V1_v2, V1_v4, V1_v5, V1_v6, V1_arg5, V1_arg6, V1_v24, V1_v25]
  exact whole_score _ _ _ _ _ _ _ _ _ _ _ (cos_of m d) (sin_of m d) t s

end Cert.Proof.Topk

end
-- ==== Proof.Same.lean ====
/-
  The kernel is printed twice, once to be read word for word and once over the extended reals, and nothing was replaced
  between the two: for any float values the two tables of bodies are the same.
-/
module

public import proofs.«01_k».proof.Proof.Gen.Kernel
public import proofs.«01_k».proof.Proof.Gen.KernelIdeal

@[expose] public section

set_option maxRecDepth 65536
set_option maxHeartbeats 1000000

noncomputable section

namespace Cert.Proof

open Idealize.ShloMosaic Idealize.SL.Sem

variable {F : FTy → Type} [FloatOps F]

/-- Body by body. -/
theorem body_at (p : Proc Cert.KernelIdeal.τ) (l : Fin 3) (a : Cert.KernelIdeal.Λ₀.Args l) :
    Cert.Kernel.defs₀ (F := F) p l a = Cert.KernelIdeal.defs₀ (F := F) p l a := by
  fin_cases l
  · obtain ⟨t, s⟩ := a
    cases p <;> rfl
  · obtain ⟨t, s⟩ := a
    cases p <;> rfl
  · cases p <;> rfl

/-- The kernels' bodies. -/
theorem bodies : Cert.Kernel.defs₀ (F := F) = Cert.KernelIdeal.defs₀ (F := F) := funext fun p => funext fun l => funext fun a => body_at p l a

/-- The whole tables: the bodies, the pipelines around the first two and the tasks around the third. -/
theorem tables : Cert.Kernel.defs (F := F) = Cert.KernelIdeal.defs (F := F) :=
  congrArg (fun D => Cert.KernelIdeal.sc.defs (Pipeline.defs Cert.KernelIdeal.pcfgs D)) (bodies (F := F))

end Cert.Proof

end
-- ==== Proof.lean ====
/-
  The claims. The kernel's run, for any float values, ends with every buffer known and every counter at zero
  (Proof/Host.lean), the arguments as they were (Proof/Ends.lean); the reference is a list of host operations. The
  frames are these runs. At the extended reals the second TensorCore call's score is the reference's
  (Proof/Values.lean), and the SparseCore call's mask and positions are the reference's when no row of the score holds a
  value twice (Proof/Agree.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_no_ties
public import proofs.«01_k».proof.Proof.Agree
public import proofs.«01_k».proof.Proof.Values
public import proofs.«01_k».proof.Proof.Same
public import Idealize.ShloMosaic.Adequacy
public import Idealize.ShloMosaic.Init

@[expose] public section

noncomputable section

namespace Cert.Proof

open Idealize.ShloMosaic Idealize.SL.Sem Cert.Proof.Topk

section Kernel

open Cert.KernelIdeal

variable {F : FTy → Type} [FloatOps F]

/-- The kernel ends with every buffer the host keeps at `V5`, and with every counter at zero. -/
theorem kernel_run [∀ e, Nonempty (Elt F e)] (m : (ℓ : Loc nD τ sig) → Buf (Elt F) ℓ) (ρ : Dev nD → PrngReg) :
    θ_run (defs (F := F)) (threads (F := F)) ⟨m, fun _ => 0, ρ⟩ fun r =>
      (∀ (c : Dev nD) (b : Ref sig .tc), b.isScoped = false → r.2.mem ((c.tc : Thread nD τ).loc b) = V5 m c (Proc.devRef .tc b))
        ∧ r.2.sem = fun _ => 0 :=
  (θ_run defs _ _).mono (fun _ h => ⟨fun c b hb => h.1 c (Proc.devRef .tc b) (Pipeline.devRef_mem_ucRefs hb), h.2⟩) (run_main m ρ)

/-- Of such a memory the arguments are what they were. -/
theorem kept {m : (ℓ : Loc nD τ sig) → Buf (Elt F) ℓ} {M : (ℓ : Loc nD τ sig) → Buf (Elt F) ℓ} (c : Dev nD)
    (h : ∀ b : Ref sig .tc, b.isScoped = false → M ((c.tc : Thread nD τ).loc b) = V5 m c (Proc.devRef .tc b)) :
    M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7)
      ∧ M ((c.tc : Thread nD τ).loc main_arg8) = m ((c.tc : Thread nD τ).loc main_arg8) := by
  obtain ⟨e0, e1, e2, e3, e4, e5, e6, e7, e8⟩ := V5_args m c
  exact ⟨(h _ rfl).trans e0, (h _ rfl).trans e1, (h _ rfl).trans e2, (h _ rfl).trans e3, (h _ rfl).trans e4, (h _ rfl).trans e5,
    (h _ rfl).trans e6, (h _ rfl).trans e7, (h _ rfl).trans e8⟩

/-- The kernel runs to its end and leaves its arguments and its counters as they were. -/
theorem kernel_frame [∀ e, Nonempty (Elt F e)] (m : (ℓ : Loc nD τ sig) → Buf (Elt F) ℓ) (ρ : Dev nD → PrngReg) :
    θ_run (defs (F := F)) (threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
        ∧ r.2.sem = fun _ => 0 :=
  (θ_run defs _ _).mono (fun _ h => ⟨fun c => kept c (h.1 c), h.2⟩) (kernel_run m ρ)

end Kernel

/-- A run under one table of bodies is a run under an equal one. -/
theorem run_of_eq {nD : ℕ} {τ : Topo} {sig : RefSig} {Val : EltTy → Type} {Λ : Labels} {D D' : Defs nD τ sig Val Λ} (e : D = D')
    (T) (σ) (Q) (h : θ_run D' T σ Q) : θ_run D T σ Q := e ▸ h

set_option maxHeartbeats 1000000 in
set_option maxRecDepth 65536 in
/-- The frame, word for word, -/
theorem frame_kernel : Cert.quiescent_Kernel := fun m ρ _ => run_of_eq (tables (F := Bits)) _ _ _ (kernel_frame (F := Bits) m ρ)

/-- and over the extended reals, -/
theorem frame_ideal : Cert.quiescent_KernelIdeal := fun m ρ _ => kernel_frame (F := Ideal) m ρ

theorem frame_ideal_pre : Cert.quiescent_KernelIdeal_pre_no_ties := fun m ρ _ => frame_ideal m ρ trivial

/-- as does the reference. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem frame_ref_pre : Cert.quiescent_ReferenceIdeal_pre_no_ties := fun m ρ _ => frame_ref m ρ trivial

section Results

open Cert.ReferenceIdeal.Read

/-- An array under a leading axis of one, read at an index. -/
theorem under_axis {α : Type} {n : ℕ} (x : (⟨2, ![2048, n]⟩ : Shape).Idx → α) (y : (⟨3, ![1, 2048, n]⟩ : Shape).Idx → α)
    (h : (⟨2, ![2048, n]⟩ : Shape).BroadcastsInDim ⟨3, ![1, 2048, n]⟩ (![1, 2] : Fin 2 → Fin 3))
    (e : ∀ (r : Fin 2048) (s : Fin n), x (ix2 r s) = y (ix3 0 r s)) : broadcastInDim ⟨3, ![1, 2048, n]⟩ ![1, 2] h x = y := by
  funext i
  obtain ⟨r, s, rfl⟩ : ∃ (r : Fin 2048) (s : Fin n), i = ix3 0 r s := ⟨i 1, i 2, by
    funext q
    match q with
    | ⟨0, _⟩ => exact Subsingleton.elim (α := Fin 1) _ _
    | ⟨1, _⟩ => rfl
    | ⟨2, _⟩ => rfl⟩
  refine Eq.trans (broadcastInDim_apply _ _ _ (ix3 0 r s) (ix2 r s) fun a => ?_) (e r s)
  match a with
  | ⟨0, _⟩ => rfl
  | ⟨1, _⟩ =>
    show s.val = if n = 1 then 0 else s.val
    split
    · have := s.isLt
      omega
    · rfl

/-- The reference's score of the kernel's arguments. -/
def score (m : (ℓ : Loc Cert.KernelIdeal.nD Cert.KernelIdeal.τ Cert.KernelIdeal.sig) → Buf (Elt Ideal) ℓ) (c : Dev Cert.KernelIdeal.nD) :
    FVec Ideal Cert.ReferenceIdeal.S1x2048x2048 .f32 :=
  val_main_v100 (F := Ideal) (arg m c Cert.KernelIdeal.main_arg0) (arg m c Cert.KernelIdeal.main_arg1) (arg m c Cert.KernelIdeal.main_arg2)
    (arg m c Cert.KernelIdeal.main_arg3) (arg m c Cert.KernelIdeal.main_arg4) (arg m c Cert.KernelIdeal.main_arg5)
    (arg m c Cert.KernelIdeal.main_arg6) (arg m c Cert.KernelIdeal.main_arg7) (arg m c Cert.KernelIdeal.main_arg8)

/-- The kernel's mask, positions and score are the reference's when no row of the score holds a value twice. -/
theorem algebraic : Cert.algebraic_KernelIdeal_ReferenceIdeal_pre_no_ties := by
  intro m ρ m' ρ' hpre hm
  have hY : ∀ c r, Function.Injective (Ref.rowOf (score m c) r) := fun c r => Agree.injective_of_pre _ _ _ _ _ _ _ _ _ (hpre c) r
  refine ⟨fun c => Ref.refMask (score m c), fun c => Ref.refIdx (score m c), fun c => score m c, ?_, ?_⟩
  · refine (θ_run Cert.KernelIdeal.defs _ _).mono (fun _ h c => ⟨?_, ?_, ?_, kept c (h.1 c)⟩) (kernel_run (F := Ideal) m ρ)
    · refine (h.1 c Cert.KernelIdeal.main_v29 rfl).trans ((V5_mask m c).trans ?_)
      exact under_axis _ _ _ (Agree.mask_agree _ _ (score_eq m c) (hY c))
    · refine (h.1 c Cert.KernelIdeal.main_v30 rfl).trans ((V5_idx m c).trans ?_)
      exact under_axis _ _ _ (Agree.idx_agree _ _ (score_eq m c) (hY c))
    · refine (h.1 c Cert.KernelIdeal.main_v31 rfl).trans ((V5_score m c).trans ?_)
      exact under_axis _ _ _ (score_eq m c)
  · refine (θ_run Cert.ReferenceIdeal.defs _ _).mono (fun _ h c => ?_) (Cert.ReferenceIdeal.Value.run (F := Ideal) m' ρ')
    obtain ⟨h0, h1, h2, h3⟩ := h c
    obtain ⟨e0, e1, e2, e3, e4, e5, e6, e7, e8⟩ := hm c
    have es : Cert.ReferenceIdeal.Value.res_main_v100 m' c = score m c := by
      rw [val_main_v100_eq, e0, e1, e2, e3, e4, e5, e6, e7, e8]
      rfl
    refine ⟨h0.trans ?_, h1.trans ?_, h2.trans es, h3⟩
    · rw [val_main_v108_eq, Ref.mask_eq, ← val_main_v100_eq, es]
    · rw [val_main_indices_eq, Ref.indices_eq, ← val_main_v100_eq, es]

end Results

theorem claim : Cert.Claim := ⟨Cert.Kernel.Gen.facts, Cert.KernelIdeal.Gen.facts, Cert.ReferenceIdeal.Gen.facts, Cert.Pre_no_ties.Gen.facts,
  frame_kernel, frame_ideal, frame_ideal_pre, frame_ref, frame_ref_pre, trivial, algebraic⟩

end Cert.Proof

end
